-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "q_scale" .f32 0x3E38AA3B#32 (((8 * (Real.log 2))⁻¹ : ℝ) : EReal)
  ∧ IdealRules.named_const.Statement Cert.KernelIdeal.κ "mask" .f32 0xF149F2CA#32 ⊥
  ∧ IdealRules.bf16_pair.PackStatement Cert.KernelIdeal.S512x512
  ∧ IdealRules.bf16_pair.Statement Cert.KernelIdeal.S512x2x128 Cert.KernelIdeal.S512x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_2)) (v2 : (c : Dev Cert.KernelIdeal.nD) → Buf (Elt Ideal) ((c.tc : Thread Cert.KernelIdeal.nD Cert.KernelIdeal.τ).loc Cert.KernelIdeal.main_v63_3)) (v3 : (c : Dev Cert.KernelIdeal.nD) → Buf (Elt Ideal) ((c.tc : Thread Cert.KernelIdeal.nD Cert.KernelIdeal.τ).loc Cert.KernelIdeal.main_v63_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_2) = v1 c
          ∧ r.2.mem ((c.tc : Thread Cert.KernelIdeal.nD Cert.KernelIdeal.τ).loc Cert.KernelIdeal.main_v63_3) = v2 c
          ∧ r.2.mem ((c.tc : Thread Cert.KernelIdeal.nD Cert.KernelIdeal.τ).loc Cert.KernelIdeal.main_v63_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_v151) = v2 c
          ∧ r.2.mem ((c.tc : Thread Cert.ReferenceIdeal.nD Cert.ReferenceIdeal.τ).loc Cert.ReferenceIdeal.main_v152) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x1024 : Shape := ⟨3, ![4, 8192, 1024]⟩
abbrev S4x6x1024 : Shape := ⟨3, ![4, 6, 1024]⟩
abbrev S1x1024 : Shape := ⟨2, ![1, 1024]⟩
abbrev S1x1024x5120 : Shape := ⟨3, ![1, 1024, 5120]⟩
abbrev S1x8x257 : Shape := ⟨3, ![1, 8, 257]⟩
abbrev S1x3x512 : Shape := ⟨3, ![1, 3, 512]⟩
abbrev S1x512 : Shape := ⟨2, ![1, 512]⟩
abbrev S1x512x1024 : Shape := ⟨3, ![1, 512, 1024]⟩
abbrev S1x1024x1024 : Shape := ⟨3, ![1, 1024, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S768 : Shape := ⟨1, ![768]⟩
abbrev S1024x5120 : Shape := ⟨2, ![1024, 5120]⟩
abbrev S512x1024 : Shape := ⟨2, ![512, 1024]⟩
abbrev S1024x1024 : Shape := ⟨2, ![1024, 1024]⟩
abbrev S1024 : Shape := ⟨1, ![1024]⟩
abbrev S3x512 : Shape := ⟨2, ![3, 512]⟩
abbrev S_ : Shape := ⟨0, ![]⟩
abbrev S5x512 : Shape := ⟨2, ![5, 512]⟩
abbrev S8x512 : Shape := ⟨2, ![8, 512]⟩
abbrev S512 : Shape := ⟨1, ![512]⟩
abbrev S1024x32 : Shape := ⟨2, ![1024, 32]⟩
abbrev S1024x4 : Shape := ⟨2, ![1024, 4]⟩
abbrev S1024x92 : Shape := ⟨2, ![1024, 92]⟩
abbrev S1024x128 : Shape := ⟨2, ![1024, 128]⟩
abbrev S32 : Shape := ⟨1, ![32]⟩
abbrev S4 : Shape := ⟨1, ![4]⟩
abbrev S92 : Shape := ⟨1, ![92]⟩
abbrev S128 : Shape := ⟨1, ![128]⟩
abbrev S1x128 : Shape := ⟨2, ![1, 128]⟩
abbrev S640 : Shape := ⟨1, ![640]⟩
abbrev S1x640 : Shape := ⟨2, ![1, 640]⟩
abbrev S128x1 : Shape := ⟨2, ![128, 1]⟩
abbrev S128x640 : Shape := ⟨2, ![128, 640]⟩
abbrev S1x128x1x640 : Shape := ⟨4, ![1, 128, 1, 640]⟩
abbrev S4x128x1x640 : Shape := ⟨4, ![4, 128, 1, 640]⟩
abbrev S512x640 : Shape := ⟨2, ![512, 640]⟩
abbrev S8x257 : Shape := ⟨2, ![8, 257]⟩
abbrev S768x1 : Shape := ⟨2, ![768, 1]⟩
abbrev S8x768 : Shape := ⟨2, ![8, 768]⟩
abbrev S1x8x1x768 : Shape := ⟨4, ![1, 8, 1, 768]⟩
abbrev S1x8x128x768 : Shape := ⟨4, ![1, 8, 128, 768]⟩
abbrev S8x98304 : Shape := ⟨2, ![8, 98304]⟩
abbrev S8x98176 : Shape := ⟨2, ![8, 98176]⟩
abbrev S8x128x767 : Shape := ⟨3, ![8, 128, 767]⟩
abbrev S8x128x640 : Shape := ⟨3, ![8, 128, 640]⟩
abbrev S2x512x640 : Shape := ⟨3, ![2, 512, 640]⟩
abbrev S262144x128 : Shape := ⟨2, ![262144, 128]⟩
abbrev S4x512x512 : Shape := ⟨3, ![4, 512, 512]⟩
abbrev S4x8x512 : Shape := ⟨3, ![4, 8, 512]⟩
abbrev S4x8192x128 : Shape := ⟨3, ![4, 8192, 128]⟩
abbrev S1x6x1024 : Shape := ⟨3, ![1, 6, 1024]⟩
abbrev S4096x128 : Shape := ⟨2, ![4096, 128]⟩
abbrev S1x512x512 : Shape := ⟨3, ![1, 512, 512]⟩
abbrev S1x8x512 : Shape := ⟨3, ![1, 8, 512]⟩
abbrev S1x512x128 : Shape := ⟨3, ![1, 512, 128]⟩
abbrev S1024x512 : Shape := ⟨2, ![1024, 512]⟩
abbrev S512x512 : Shape := ⟨2, ![512, 512]⟩
abbrev S512x128 : Shape := ⟨2, ![512, 128]⟩
abbrev S1x1x1024 : Shape := ⟨3, ![1, 1, 1024]⟩
abbrev S512x1 : Shape := ⟨2, ![512, 1]⟩
abbrev S1024x1536 : Shape := ⟨2, ![1024, 1536]⟩
abbrev S512x1536 : Shape := ⟨2, ![512, 1536]⟩
abbrev S128x256 : Shape := ⟨2, ![128, 256]⟩
abbrev S640x256 : Shape := ⟨2, ![640, 256]⟩
abbrev S1x512x640 : Shape := ⟨3, ![1, 512, 640]⟩
abbrev S512x256 : Shape := ⟨2, ![512, 256]⟩
abbrev S1024x2048 : Shape := ⟨2, ![1024, 2048]⟩
abbrev S512x2048 : Shape := ⟨2, ![512, 2048]⟩
abbrev S504x512 : Shape := ⟨2, ![504, 512]⟩
abbrev S2048x128 : Shape := ⟨2, ![2048, 128]⟩
abbrev S2048x2x128 : Shape := ⟨3, ![2048, 2, 128]⟩
abbrev S512x2x128 : Shape := ⟨3, ![512, 2, 128]⟩
abbrev S512x1x128 : Shape := ⟨3, ![512, 1, 128]⟩

abbrev nBuf : Space → Nat
  | .hbm => 117
  | .vmem => 34
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1x1024, .f32⟩
  | .hbm, ⟨3, _⟩ => ⟨S1x1024, .f32⟩
  | .hbm, ⟨4, _⟩ => ⟨S1x1024x5120, .f32⟩
  | .hbm, ⟨5, _⟩ => ⟨S1x8x257, .f32⟩
  | .hbm, ⟨6, _⟩ => ⟨S1x3x512, .f32⟩
  | .hbm, ⟨7, _⟩ => ⟨S1x512, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024x4, .f32⟩
  | .hbm, ⟨12, _⟩ => ⟨S1x4, .f32⟩
  | .hbm, ⟨13, _⟩ => ⟨S1x1024x32, .f32⟩
  | .hbm, ⟨14, _⟩ => ⟨S1x32, .f32⟩
  | .hbm, ⟨15, _⟩ => ⟨S768, .i32⟩
  | .hbm, ⟨16, _⟩ => ⟨S768, .i1⟩
  | .hbm, ⟨17, _⟩ => ⟨S1024x5120, .f32⟩
  | .hbm, ⟨18, _⟩ => ⟨S1024x5120, .bf16⟩
  | .hbm, ⟨19, _⟩ => ⟨S512x1024, .f32⟩
  | .hbm, ⟨20, _⟩ => ⟨S512x1024, .bf16⟩
  | .hbm, ⟨21, _⟩ => ⟨S512x1024, .f32⟩
  | .hbm, ⟨22, _⟩ => ⟨S512x1024, .bf16⟩
  | .hbm, ⟨23, _⟩ => ⟨S1024x1024, .f32⟩
  | .hbm, ⟨24, _⟩ => ⟨S1024x1024, .bf16⟩
  | .hbm, ⟨25, _⟩ => ⟨S1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S3x512, .f32⟩
  | .hbm, ⟨30, _⟩ => ⟨S_, .f32⟩
  | .hbm, ⟨31, _⟩ => ⟨S5x512, .f32⟩
  | .hbm, ⟨32, _⟩ => ⟨S8x512, .f32⟩
  | .hbm, ⟨33, _⟩ => ⟨S512, .f32⟩
  | .hbm, ⟨34, _⟩ => ⟨S1x512, .f32⟩
  | .hbm, ⟨35, _⟩ => ⟨S1024x32, .f32⟩
  | .hbm, ⟨36, _⟩ => ⟨S1024x4, .f32⟩
  | .hbm, ⟨37, _⟩ => ⟨S_, .f32⟩
  | .hbm, ⟨38, _⟩ => ⟨S1024x92, .f32⟩
  | .hbm, ⟨39, _⟩ => ⟨S1024x128, .f32⟩
  | .hbm, ⟨40, _⟩ => ⟨S1024x128, .bf16⟩
  | .hbm, ⟨41, _⟩ => ⟨S32, .f32⟩
  | .hbm, ⟨42, _⟩ => ⟨S4, .f32⟩
  | .hbm, ⟨43, _⟩ => ⟨S_, .f32⟩
  | .hbm, ⟨44, _⟩ => ⟨S92, .f32⟩
  | .hbm, ⟨45, _⟩ => ⟨S128, .f32⟩
  | .hbm, ⟨46, _⟩ => ⟨S1x128, .f32⟩
  | .hbm, ⟨47, _⟩ => ⟨S640, .i32⟩
  | .hbm, ⟨48, _⟩ => ⟨S1x640, .i32⟩
  | .hbm, ⟨49, _⟩ => ⟨S128, .i32⟩
  | .hbm, ⟨50, _⟩ => ⟨S128x1, .i32⟩
  | .hbm, ⟨51, _⟩ => ⟨S_, .i32⟩
  | .hbm, ⟨52, _⟩ => ⟨S_, .i32⟩
  | .hbm, ⟨53, _⟩ => ⟨S128x1, .i32⟩
  | .hbm, ⟨54, _⟩ => ⟨S128x1, .i32⟩
  | .hbm, ⟨55, _⟩ => ⟨S128x1, .i32⟩
  | .hbm, ⟨56, _⟩ => ⟨S_, .i32⟩
  | .hbm, ⟨57, _⟩ => ⟨S128x1, .i32⟩
  | .hbm, ⟨58, _⟩ => ⟨S128x1, .i1⟩
  | .hbm, ⟨59, _⟩ => ⟨S128x1, .i32⟩
  | .hbm, ⟨60, _⟩ => ⟨S128x1, .i32⟩
  | .hbm, ⟨61, _⟩ => ⟨S_, .i32⟩
  | .hbm, ⟨62, _⟩ => ⟨S128x1, .i32⟩
  | .hbm, ⟨63, _⟩ => ⟨S128x1, .i1⟩
  | .hbm, ⟨64, _⟩ => ⟨S128x1, .i1⟩
  | .hbm, ⟨65, _⟩ => ⟨S_, .i32⟩
  | .hbm, ⟨66, _⟩ => ⟨S128x1, .i32⟩
  | .hbm, ⟨67, _⟩ => ⟨S128x1, .i32⟩
  | .hbm, ⟨68, _⟩ => ⟨S128x1, .i32⟩
  | .hbm, ⟨69, _⟩ => ⟨S_, .i32⟩
  | .hbm, ⟨70, _⟩ => ⟨S128x1, .i32⟩
  | .hbm, ⟨71, _⟩ => ⟨S128x1, .i32⟩
  | .hbm, ⟨72, _⟩ => ⟨S128x640, .i32⟩
  | .hbm, ⟨73, _⟩ => ⟨S128x640, .i32⟩
  | .hbm, ⟨74, _⟩ => ⟨S128x640, .i32⟩
  | .hbm, ⟨75, _⟩ => ⟨S_, .i32⟩
  | .hbm, ⟨76, _⟩ => ⟨S128x640, .i32⟩
  | .hbm, ⟨77, _⟩ => ⟨S128x640, .i1⟩
  | .hbm, ⟨78, _⟩ => ⟨S_, .i32⟩
  | .hbm, ⟨79, _⟩ => ⟨S128x640, .i32⟩
  | .hbm, ⟨80, _⟩ => ⟨S128x640, .i1⟩
  | .hbm, ⟨81, _⟩ => ⟨S128x640, .i1⟩
  | .hbm, ⟨82, _⟩ => ⟨S1x128x1x640, .i1⟩
  | .hbm, ⟨83, _⟩ => ⟨S4x128x1x640, .i1⟩
  | .hbm, ⟨84, _⟩ => ⟨S512x640, .i1⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S8x257, .f32⟩
  | .hbm, ⟨90, _⟩ => ⟨S8x257, .f32⟩
  | .hbm, ⟨91, _⟩ => ⟨S8x257, .f32⟩
  | .hbm, ⟨92, _⟩ => ⟨S_, .i32⟩
  | .hbm, ⟨93, _⟩ => ⟨S768, .i32⟩
  | .hbm, ⟨94, _⟩ => ⟨S768, .i32⟩
  | .hbm, ⟨95, _⟩ => ⟨S768, .i32⟩
  | .hbm, ⟨96, _⟩ => ⟨S768x1, .i32⟩
  | .hbm, ⟨97, _⟩ => ⟨S8x768, .f32⟩
  | .hbm, ⟨98, _⟩ => ⟨S1x8x1x768, .f32⟩
  | .hbm, ⟨99, _⟩ => ⟨S1x8x128x768, .f32⟩
  | .hbm, ⟨100, _⟩ => ⟨S8x98304, .f32⟩
  | .hbm, ⟨101, _⟩ => ⟨S8x98176, .f32⟩
  | .hbm, ⟨102, _⟩ => ⟨S8x128x767, .f32⟩
  | .hbm, ⟨103, _⟩ => ⟨S8x128x640, .f32⟩
  | .hbm, ⟨104, _⟩ => ⟨S2x512x640, .f32⟩
  | .hbm, ⟨105, _⟩ => ⟨S_, .f32⟩
  | .hbm, ⟨106, _⟩ => ⟨S_, .f32⟩
  | .hbm, ⟨107, _⟩ => ⟨S2x512x640, .i1⟩
  | .hbm, ⟨108, _⟩ => ⟨S2x512x640, .f32⟩
  | .hbm, ⟨109, _⟩ => ⟨S2x512x640, .f32⟩
  | .hbm, ⟨110, _⟩ => ⟨S4x8192x1024, .f32⟩
  | .hbm, ⟨111, _⟩ => ⟨S262144x128, .bf16⟩
  | .hbm, ⟨112, _⟩ => ⟨S4x512x512, .f32⟩
  | .hbm, ⟨113, _⟩ => ⟨S4x512x512, .f32⟩
  | .hbm, ⟨114, _⟩ => ⟨S4x8x512, .f32⟩
  | .hbm, ⟨115, _⟩ => ⟨S4x8192x128, .f32⟩
  | .hbm, ⟨116, _⟩ => ⟨S1x128, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024, .f32⟩
  | .local _ .vmem, ⟨6, _⟩ => ⟨S1024x5120, .bf16⟩
  | .local _ .vmem, ⟨7, _⟩ => ⟨S2x512x640, .f32⟩
  | .local _ .vmem, ⟨8, _⟩ => ⟨S8x512, .f32⟩
  | .local _ .vmem, ⟨9, _⟩ => ⟨S1x512, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1024x128, .bf16⟩
  | .local _ .vmem, ⟨14, _⟩ => ⟨S1x128, .f32⟩
  | .local _ .vmem, ⟨15, _⟩ => ⟨S1x512x1024, .f32⟩
  | .local _ .vmem, ⟨16, _⟩ => ⟨S1x512x1024, .f32⟩
  | .local _ .vmem, ⟨17, _⟩ => ⟨S4096x128, .bf16⟩
  | .local _ .vmem, ⟨18, _⟩ => ⟨S4096x128, .bf16⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x8x512, .f32⟩
  | .local _ .vmem, ⟨24, _⟩ => ⟨S1x8x512, .f32⟩
  | .local _ .vmem, ⟨25, _⟩ => ⟨S1x512x128, .f32⟩
  | .local _ .vmem, ⟨26, _⟩ => ⟨S1x512x128, .f32⟩
  | .local _ .vmem, ⟨27, _⟩ => ⟨S1x128, .f32⟩
  | .local _ .vmem, ⟨28, _⟩ => ⟨S1024x512, .bf16⟩
  | .local _ .vmem, ⟨29, _⟩ => ⟨S1024x512, .bf16⟩
  | .local _ .vmem, ⟨30, _⟩ => ⟨S512x512, .bf16⟩
  | .local _ .vmem, ⟨31, _⟩ => ⟨S8x512, .f32⟩
  | .local _ .vmem, ⟨32, _⟩ => ⟨S1x128, .f32⟩
  | .local _ .vmem, ⟨33, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_c_0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_3 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_c : Ref sig .tc := ⟨.hbm, 61, rfl⟩
abbrev main_call0_v9 : Ref sig .tc := ⟨.hbm, 62, rfl⟩
abbrev main_call0_v10 : Ref sig .tc := ⟨.hbm, 63, rfl⟩
abbrev main_call0_v11 : Ref sig .tc := ⟨.hbm, 64, rfl⟩
abbrev main_call0_c_0 : Ref sig .tc := ⟨.hbm, 65, rfl⟩
abbrev main_call0_v12 : Ref sig .tc := ⟨.hbm, 66, rfl⟩
abbrev main_call0_v13 : Ref sig .tc := ⟨.hbm, 67, rfl⟩
abbrev main_v31 : Ref sig .tc := ⟨.hbm, 68, rfl⟩
abbrev main_c_4 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_c_5 : Ref sig .tc := ⟨.hbm, 75, rfl⟩
abbrev main_v37 : Ref sig .tc := ⟨.hbm, 76, rfl⟩
abbrev main_v38 : Ref sig .tc := ⟨.hbm, 77, rfl⟩
abbrev main_c_6 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_7 : Ref sig .tc := ⟨.hbm, 85, rfl⟩
abbrev main_v45 : Ref sig .tc := ⟨.hbm, 86, rfl⟩
abbrev main_cst_8 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_c_9 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_cst_10 : Ref sig .tc := ⟨.hbm, 105, rfl⟩
abbrev main_call1_v0 : Ref sig .tc := ⟨.hbm, 106, rfl⟩
abbrev main_call1_v1 : Ref sig .tc := ⟨.hbm, 107, rfl⟩
abbrev main_call1_v2 : Ref sig .tc := ⟨.hbm, 108, rfl⟩
abbrev main_v62 : Ref sig .tc := ⟨.hbm, 109, rfl⟩
abbrev main_v63_0 : Ref sig .tc := ⟨.hbm, 110, rfl⟩
abbrev main_v63_1 : Ref sig .tc := ⟨.hbm, 111, rfl⟩
abbrev main_v63_2 : Ref sig .tc := ⟨.hbm, 112, rfl⟩
abbrev main_v63_3 : Ref sig .tc := ⟨.hbm, 113, rfl⟩
abbrev main_v63_4 : Ref sig .tc := ⟨.hbm, 114, rfl⟩
abbrev main_v63_5 : Ref sig .tc := ⟨.hbm, 115, rfl⟩
abbrev main_v63_6 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_scratch5 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27

abbrev nD : Nat := 1
abbrev τ : Topo := Topo.v7x

variable {F : FTy → Type} [BitOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v3 : BitVec 1 := Scalar.cmpi .slt arg0 c64_i32
  let v4 : BitVec 32 := Scalar.extui v3
  let c0_i32_1 : BitVec 32 := 0#32
  let v5 : BitVec 1 := Scalar.cmpi .ne v4 c0_i32_1
  v5

def k0_cond4 (i : grid0.Coords) : BitVec 1 :=
  let arg0 : BitVec 32 := BitVec.ofNat 32 (i 0).val
  let c64_i32_2 : BitVec 32 := 64#32
  let v6 : BitVec 1 := Scalar.cmpi .eq arg0 c64_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_14 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_15 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c15_i32 : BitVec 32 := 15#32
  let v29 : BitVec 32 := Scalar.subi v28 c15_i32
  let c0_i32_11 : BitVec 32 := 0#32
  let v30 : BitVec 32 := Scalar.maxsi v29 c0_i32_11
  let c0_i32_12 : BitVec 32 := 0#32
  let c0_i32_13 : BitVec 32 := 0#32
  ![v17.toNat, v30.toNat, c0_i32_12.toNat]

def cc0_transform_16 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c15_i32 : BitVec 32 := 15#32
  let v29 : BitVec 32 := Scalar.subi v28 c15_i32
  let c0_i32_11 : BitVec 32 := 0#32
  let v30 : BitVec 32 := Scalar.maxsi v29 c0_i32_11
  let c0_i32_12 : BitVec 32 := 0#32
  let c0_i32_13 : BitVec 32 := 0#32
  ![v17.toNat, v30.toNat, c0_i32_12.toNat]

def cc0_transform_17 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_18 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c16_i32_8 : BitVec 32 := 16#32
  let c0_i32_9 : BitVec 32 := 0#32
  let v21 : BitVec 1 := Scalar.cmpi .eq c16_i32_8 c0_i32_9
  let c1_i32_10 : BitVec 32 := 1#32
  let v22 : BitVec 32 := Scalar.select v21 c1_i32_10 c16_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4096x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x8x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== KernelIdeal.lean ====
variable {F : FTy → Type} [FloatOps F] [Named F]
def κ : String → Option EReal := fun
  | "mask" => some ⊥
  | "q_scale" => some (((8 * (Real.log 2))⁻¹ : ℝ) : EReal)
  | _ => none
-- ==== ReferenceIdeal.lean ====
abbrev S4x8192x1024 : Shape := ⟨3, ![4, 8192, 1024]⟩
abbrev S4x6x1024 : Shape := ⟨3, ![4, 6, 1024]⟩
abbrev S1x1024 : Shape := ⟨2, ![1, 1024]⟩
abbrev S1x1024x5120 : Shape := ⟨3, ![1, 1024, 5120]⟩
abbrev S1x8x257 : Shape := ⟨3, ![1, 8, 257]⟩
abbrev S1x3x512 : Shape := ⟨3, ![1, 3, 512]⟩
abbrev S1x512 : Shape := ⟨2, ![1, 512]⟩
abbrev S1x512x1024 : Shape := ⟨3, ![1, 512, 1024]⟩
abbrev S1x1024x1024 : Shape := ⟨3, ![1, 1024, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩
abbrev S1024x5120 : Shape := ⟨2, ![1024, 5120]⟩
abbrev S4x8192x5120 : Shape := ⟨3, ![4, 8192, 5120]⟩
abbrev S4x8192x512 : Shape := ⟨3, ![4, 8192, 512]⟩
abbrev S4x8192x8x64 : Shape := ⟨4, ![4, 8192, 8, 64]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S4x8x8192x8192 : Shape := ⟨4, ![4, 8, 8192, 8192]⟩
abbrev S8x257 : Shape := ⟨2, ![8, 257]⟩
abbrev S8192x8192x1 : Shape := ⟨3, ![8192, 8192, 1]⟩
abbrev S8x8192x8192 : Shape := ⟨3, ![8, 8192, 8192]⟩
abbrev S1x8x8192x8192 : Shape := ⟨4, ![1, 8, 8192, 8192]⟩
abbrev S1x1x8192x8192 : Shape := ⟨4, ![1, 1, 8192, 8192]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩
abbrev S4x2x512 : Shape := ⟨3, ![4, 2, 512]⟩
abbrev S4x8194x512 : Shape := ⟨3, ![4, 8194, 512]⟩
abbrev S3x512 : Shape := ⟨2, ![3, 512]⟩
abbrev S512 : Shape := ⟨1, ![512]⟩
abbrev S1x1x512 : Shape := ⟨3, ![1, 1, 512]⟩
abbrev S512x1024 : Shape := ⟨2, ![512, 1024]⟩
abbrev S1024x1024 : Shape := ⟨2, ![1024, 1024]⟩
abbrev S4x512x512 : Shape := ⟨3, ![4, 512, 512]⟩
abbrev S4x8x512 : Shape := ⟨3, ![4, 8, 512]⟩

abbrev nBuf : Space → Nat
  | .hbm => 198
  | .vmem => 0
  | .smem => 0
  | _ => 0

abbrev hbmTy0_0 (i : Nat) : BufTy := match i % 128 with
  | 0 => ⟨S4x8192x1024, .f32⟩
  | 1 => ⟨S4x6x1024, .f32⟩
  | 2 => ⟨S1x1024, .f32⟩
  | 3 => ⟨S1x1024, .f32⟩
  | 4 => ⟨S1x1024x5120, .f32⟩
  | 5 => ⟨S1x8x257, .f32⟩
  | 6 => ⟨S1x3x512, .f32⟩
  | 7 => ⟨S1x512, .f32⟩
  | 8 => ⟨S1x512x1024, .f32⟩
  | 9 => ⟨S1x512x1024, .f32⟩
  | 10 => ⟨S1x1024x1024, .f32⟩
  | 11 => ⟨S1x1024x4, .f32⟩
  | 12 => ⟨S1x4, .f32⟩
  | 13 => ⟨S1x1024x32, .f32⟩
  | 14 => ⟨S1x32, .f32⟩
  | 15 => ⟨S4x1x1024, .f32⟩
  | 16 => ⟨S4x1x1024, .f32⟩
  | 17 => ⟨S4x1x1024, .f32⟩
  | 18 => ⟨S4x1x1024, .f32⟩
  | 19 => ⟨S4x1x1024, .f32⟩
  | 20 => ⟨S4x1x1024, .f32⟩
  | 21 => ⟨S4x8192x1024, .f32⟩
  | 22 => ⟨S_, .f32⟩
  | 23 => ⟨S4x8192, .f32⟩
  | 24 => ⟨S4x8192x1, .f32⟩
  | 25 => ⟨S_, .f32⟩
  | 26 => ⟨S4x8192x1, .f32⟩
  | 27 => ⟨S4x8192x1, .f32⟩
  | 28 => ⟨S_, .f32⟩
  | 29 => ⟨S4x8192x1, .f32⟩
  | 30 => ⟨S4x8192x1, .f32⟩
  | 31 => ⟨S4x8192x1, .f32⟩
  | 32 => ⟨S4x8192x1024, .f32⟩
  | 33 => ⟨S4x8192x1024, .f32⟩
  | 34 => ⟨S1024, .f32⟩
  | 35 => ⟨S1x1x1024, .f32⟩
  | 36 => ⟨S4x8192x1024, .f32⟩
  | 37 => ⟨S4x8192x1024, .f32⟩
  | 38 => ⟨S_, .f32⟩
  | 39 => ⟨S4x1x1024, .f32⟩
  | 40 => ⟨S4x1x1024, .f32⟩
  | 41 => ⟨S4x8192x1024, .f32⟩
  | 42 => ⟨S4x8192x1024, .f32⟩
  | 43 => ⟨S4x8192x1024, .f32⟩
  | 44 => ⟨S4x8192x1024, .f32⟩
  | 45 => ⟨S1024x5120, .f32⟩
  | 46 => ⟨S4x8192x5120, .f32⟩
  | 47 => ⟨S4x8192x512, .f32⟩
  | 48 => ⟨S4x8192x512, .f32⟩
  | 49 => ⟨S4x8192x512, .f32⟩
  | 50 => ⟨S4x8192x512, .f32⟩
  | 51 => ⟨S4x8192x512, .f32⟩
  | 52 => ⟨S4x8192x512, .f32⟩
  | 53 => ⟨S4x8192x1024, .f32⟩
  | 54 => ⟨S4x8192x1024, .f32⟩
  | 55 => ⟨S4x8192x8x64, .f32⟩
  | 56 => ⟨S4x8192x8x64, .f32⟩
  | 57 => ⟨S4x8192x8x64, .f32⟩
  | 58 => ⟨S8192, .i32⟩
  | 59 => ⟨S8192x1, .i32⟩
  | 60 => ⟨S1x8192, .i32⟩
  | 61 => ⟨S8192x8192, .i32⟩
  | 62 => ⟨S8192x8192, .i32⟩
  | 63 => ⟨S8192x8192, .i32⟩
  | 64 => ⟨S_, .i32⟩
  | 65 => ⟨S_, .i32⟩
  | 66 => ⟨S_, .i32⟩
  | 67 => ⟨S8192x8192, .i32⟩
  | 68 => ⟨S8192x8192, .i32⟩
  | 69 => ⟨S_, .i32⟩
  | 70 => ⟨S8192x8192, .i32⟩
  | 71 => ⟨S8192x8192, .i32⟩
  | 72 => ⟨S_, .i32⟩
  | 73 => ⟨S8192x8192, .i32⟩
  | 74 => ⟨S8192x8192, .i32⟩
  | 75 => ⟨S_, .i32⟩
  | 76 => ⟨S8192, .i32⟩
  | 77 => ⟨S8192, .i32⟩
  | 78 => ⟨S1x8192, .i32⟩
  | 79 => ⟨S8192x1, .i32⟩
  | 80 => ⟨S8192x8192, .i32⟩
  | 81 => ⟨S8192x8192, .i32⟩
  | 82 => ⟨S8192x8192, .i1⟩
  | 83 => ⟨S8192x1, .i32⟩
  | 84 => ⟨S1x8192, .i32⟩
  | 85 => ⟨S_, .i32⟩
  | 86 => ⟨S1x8192, .i32⟩
  | 87 => ⟨S1x8192, .i32⟩
  | 88 => ⟨S8192x8192, .i32⟩
  | 89 => ⟨S8192x8192, .i32⟩
  | 90 => ⟨S8192x8192, .i1⟩
  | 91 => ⟨S8192x8192, .i1⟩
  | 92 => ⟨S4x8x8192x8192, .f32⟩
  | 93 => ⟨S_, .f32⟩
  | 94 => ⟨S4x8x8192x8192, .f32⟩
  | 95 => ⟨S4x8x8192x8192, .f32⟩
  | 96 => ⟨S8x257, .f32⟩
  | 97 => ⟨S_, .i32⟩
  | 98 => ⟨S8192x8192, .i32⟩
  | 99 => ⟨S8192x8192, .i1⟩
  | 100 => ⟨S_, .i32⟩
  | 101 => ⟨S8192x8192, .i32⟩
  | 102 => ⟨S8192x8192, .i32⟩
  | 103 => ⟨S8192x8192, .i32⟩
  | 104 => ⟨S8192x8192x1, .i32⟩
  | 105 => ⟨S8x8192x8192, .f32⟩
  | 106 => ⟨S1x8x8192x8192, .f32⟩
  | 107 => ⟨S4x8x8192x8192, .f32⟩
  | 108 => ⟨S4x8x8192x8192, .f32⟩
  | 109 => ⟨S1x1x8192x8192, .i1⟩
  | 110 => ⟨S_, .f32⟩
  | 111 => ⟨S_, .f32⟩
  | 112 => ⟨S4x8x8192x8192, .i1⟩
  | 113 => ⟨S4x8x8192x8192, .f32⟩
  | 114 => ⟨S4x8x8192x8192, .f32⟩
  | 115 => ⟨S_, .f32⟩
  | 116 => ⟨S4x8x8192, .f32⟩
  | 117 => ⟨S4x8x8192x1, .f32⟩
  | 118 => ⟨S4x8x8192x8192, .f32⟩
  | 119 => ⟨S4x8x8192x8192, .f32⟩
  | 120 => ⟨S4x8x8192x8192, .f32⟩
  | 121 => ⟨S_, .f32⟩
  | 122 => ⟨S4x8x8192, .f32⟩
  | 123 => ⟨S4x8x8192x1, .f32⟩
  | 124 => ⟨S_, .f32⟩
  | 125 => ⟨S4x8x8192x1, .f32⟩
  | 126 => ⟨S4x8x8192x1, .f32⟩
  | 127 => ⟨S4x8x8192x8192, .f32⟩
  | _ => ⟨S4x8192x1024, .f32⟩

abbrev hbmTy0_1 (i : Nat) : BufTy := match i % 128 with
  | 0 => ⟨S4x8x8192x8192, .f32⟩
  | 1 => ⟨S4x8x64x8192, .f32⟩
  | 2 => ⟨S4x8192x8x64, .f32⟩
  | 3 => ⟨S4x8192x512, .f32⟩
  | 4 => ⟨S4x8192x512, .f32⟩
  | 5 => ⟨S_, .f32⟩
  | 6 => ⟨S4x2x512, .f32⟩
  | 7 => ⟨S4x8194x512, .f32⟩
  | 8 => ⟨S3x512, .f32⟩
  | 9 => ⟨S1x512, .f32⟩
  | 10 => ⟨S512, .f32⟩
  | 11 => ⟨S4x8192x512, .f32⟩
  | 12 => ⟨S1x1x512, .f32⟩
  | 13 => ⟨S4x8192x512, .f32⟩
  | 14 => ⟨S4x8192x512, .f32⟩
  | 15 => ⟨S_, .f32⟩
  | 16 => ⟨S4x8192x512, .f32⟩
  | 17 => ⟨S4x8192x512, .f32⟩
  | 18 => ⟨S3x512, .f32⟩
  | 19 => ⟨S1x512, .f32⟩
  | 20 => ⟨S512, .f32⟩
  | 21 => ⟨S4x8192x512, .f32⟩
  | 22 => ⟨S1x1x512, .f32⟩
  | 23 => ⟨S4x8192x512, .f32⟩
  | 24 => ⟨S4x8192x512, .f32⟩
  | 25 => ⟨S4x8192x512, .f32⟩
  | 26 => ⟨S3x512, .f32⟩
  | 27 => ⟨S1x512, .f32⟩
  | 28 => ⟨S512, .f32⟩
  | 29 => ⟨S4x8192x512, .f32⟩
  | 30 => ⟨S1x1x512, .f32⟩
  | 31 => ⟨S4x8192x512, .f32⟩
  | 32 => ⟨S4x8192x512, .f32⟩
  | 33 => ⟨S4x8192x512, .f32⟩
  | 34 => ⟨S512, .f32⟩
  | 35 => ⟨S1x1x512, .f32⟩
  | 36 => ⟨S4x8192x512, .f32⟩
  | 37 => ⟨S4x8192x512, .f32⟩
  | 38 => ⟨S4x8192x512, .f32⟩
  | 39 => ⟨S4x8192x1024, .f32⟩
  | 40 => ⟨S4x8192x1024, .f32⟩
  | 41 => ⟨S_, .f32⟩
  | 42 => ⟨S4x8192x1024, .f32⟩
  | 43 => ⟨S4x8192x1024, .f32⟩
  | 44 => ⟨S_, .f32⟩
  | 45 => ⟨S4x8192x1024, .f32⟩
  | 46 => ⟨S4x8192x1024, .f32⟩
  | 47 => ⟨S512x1024, .f32⟩
  | 48 => ⟨S4x8192x1024, .f32⟩
  | 49 => ⟨S4x8192x1024, .f32⟩
  | 50 => ⟨S4x8192x1024, .f32⟩
  | 51 => ⟨S4x8192x1024, .f32⟩
  | 52 => ⟨S_, .f32⟩
  | 53 => ⟨S4x8192x1024, .f32⟩
  | 54 => ⟨S4x8192x1024, .f32⟩
  | 55 => ⟨S_, .f32⟩
  | 56 => ⟨S4x8192x1024, .f32⟩
  | 57 => ⟨S4x8192x1024, .f32⟩
  | 58 => ⟨S512x1024, .f32⟩
  | 59 => ⟨S4x8192x1024, .f32⟩
  | 60 => ⟨S4x8192x1024, .f32⟩
  | 61 => ⟨S4x8192x1024, .f32⟩
  | 62 => ⟨S1024x1024, .f32⟩
  | 63 => ⟨S4x8192x1024, .f32⟩
  | 64 => ⟨S4x8192x1024, .f32⟩
  | 65 => ⟨S4x8192x1024, .f32⟩
  | 66 => ⟨S4x8192x1024, .f32⟩
  | 67 => ⟨S4x512x512, .f32⟩
  | 68 => ⟨S4x512x512, .f32⟩
  | 69 => ⟨S4x8x512, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c : Ref sig .tc := ⟨.hbm, 64, rfl⟩
abbrev main_c_3 : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_v45 : Ref sig .tc := ⟨.hbm, 71, rfl⟩
abbrev main_c_4 : Ref sig .tc := ⟨.hbm, 72, rfl⟩
abbrev main_v46 : Ref sig .tc := ⟨.hbm, 73, rfl⟩
abbrev main_v47 : Ref sig .tc := ⟨.hbm, 74, rfl⟩
abbrev main_c_5 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_6 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_7 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_8 : Ref sig .tc := ⟨.hbm, 97, rfl⟩
abbrev main_v67 : Ref sig .tc := ⟨.hbm, 98, rfl⟩
abbrev main_v68 : Ref sig .tc := ⟨.hbm, 99, rfl⟩
abbrev main_c_9 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_10 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v78 : Ref sig .tc := ⟨.hbm, 114, rfl⟩
abbrev main_cst_11 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_12 : Ref sig .tc := ⟨.hbm, 121, rfl⟩
abbrev main_v84 : Ref sig .tc := ⟨.hbm, 122, rfl⟩
abbrev main_v85 : Ref sig .tc := ⟨.hbm, 123, rfl⟩
abbrev main_cst_13 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_14 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_15 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_cst_16 : Ref sig .tc := ⟨.hbm, 169, rfl⟩
abbrev main_v128 : Ref sig .tc := ⟨.hbm, 170, rfl⟩
abbrev main_v129 : Ref sig .tc := ⟨.hbm, 171, rfl⟩
abbrev main_cst_17 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_cst_18 : Ref sig .tc := ⟨.hbm, 180, rfl⟩
abbrev main_v137 : Ref sig .tc := ⟨.hbm, 181, rfl⟩
abbrev main_v138 : Ref sig .tc := ⟨.hbm, 182, rfl⟩
abbrev main_cst_19 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩

abbrev nD : Nat := 1
abbrev τ : Topo := Topo.v7x

variable {F : FTy → Type} [FloatOps F]
-- ==== Proof.Bits.RunA.lean ====
module

public import proofs.«01_k».proof.Proof.Bits.Base

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

set_option maxHeartbeats 3200000 in
theorem run_A (c : Dev nD) (i : grid0.Coords)
  (arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x128 .bf16) (harg12 : arg12.IsWhole)
  (arg13 : Memref sig .tc .vmem S1x128 .f32) (harg13 : arg13.IsWhole)
  (arg14 : Memref sig .tc .vmem S1x512x1024 .f32) (harg14 : arg14.IsWhole)
  (arg15 : Memref sig .tc .vmem S4096x128 .bf16) (harg15 : arg15.IsWhole)
  (arg16 : Memref sig .tc .vmem S1x512x512 .f32) (harg16 : arg16.IsWhole)
  (arg17 : Memref sig .tc .vmem S1x512x512 .f32) (harg17 : arg17.IsWhole)
  (arg18 : Memref sig .tc .vmem S1x8x512 .f32) (harg18 : arg18.IsWhole)
  (arg19 : Memref sig .tc .vmem S1x512x128 .f32) (harg19 : arg19.IsWhole)
  (arg20 : Memref sig .tc .vmem S1x128 .f32) (harg20 : arg20.IsWhole)
  (arg21 : Memref sig .tc .vmem S1024x512 .bf16) (harg21 : arg21.IsWhole)
  (arg22 : Memref sig .tc .vmem S1024x512 .bf16) (harg22 : arg22.IsWhole)
  (arg23 : Memref sig .tc .vmem S512x512 .bf16) (harg23 : arg23.IsWhole)
  (arg24 : Memref sig .tc .vmem S8x512 .f32) (harg24 : arg24.IsWhole)
  (arg25 : Memref sig .tc .vmem S1x128 .f32) (harg25 : arg25.IsWhole)
  (arg26 : Memref sig .tc .vmem S512x1024 .f32) (harg26 : arg26.IsWhole)
  (hc0 : cond0_0 i) (hc1 : cond0_1 i) (hc2 : cond0_2 i) (hc3 : ¬cond0_3 i)
  (x0 : Vec F S1x512x1024 .f32) (x1 : Vec F S1x6x1024 .f32) (x2 : Vec F S1x1024 .f32) (x3 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) (x11 : Vec F S1024x128 .bf16) (x12 : Vec F S1x128 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ (∃ d, owns (c : Thread nD τ) arg24 fullShare d)
        ∗ (∃ d, owns (c : Thread nD τ) arg25 fullShare d)
        ∗ (∃ d, owns (c : Thread nD τ) arg26 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (∃ d, owns (c : Thread nD τ) arg25 fullShare d)
            ∗ (∃ d, owns (c : Thread nD τ) arg26 fullShare d)) -∗ K ⟨⟩))
      ⊢ wp frame (wpE (defs₀ (F := F)) Variants.none c none) E (cc0_prompt_main i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_prompt_main_eq_skeleton]; unfold cc0_prompt_main_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold owns
  have e15 : ∀ g, (arg15.view.loc (c : Thread nD τ) ↦[arg15.view.set]{fullShare} g : sProp 𝕄) = ((arg15.reshape S2048x2x128 reshapes_S4096x128_S2048x2x128.1 reshapes_S4096x128_S2048x2x128.2 harg15.contiguous).view.loc (c : Thread nD τ) ↦[(arg15.reshape S2048x2x128 reshapes_S4096x128_S2048x2x128.1 reshapes_S4096x128_S2048x2x128.2 harg15.contiguous).view.set]{fullShare} g) := fun g => by
    rw [show (arg15.reshape S2048x2x128 reshapes_S4096x128_S2048x2x128.1 reshapes_S4096x128_S2048x2x128.2 harg15.contiguous).view.set = arg15.view.set from View.set_reshape _ _]
  simp only [e15]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec (disch := first | sl_exact hc0 | sl_exact hc1 | sl_exact hc2 | sl_exact hc3)
  repeat (sl_step; try sl_exec (disch := first | sl_exact hc0 | sl_exact hc1 | sl_exact hc2 | sl_exact hc3))
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  iexists _, _; isplitr; swap; · iexact H25
  ipureintro; rfl

end Cert.Kernel.Hand

end
-- ==== Proof.Bits.RunB.lean ====
module

public import proofs.«01_k».proof.Proof.Bits.Base

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

set_option maxHeartbeats 3200000 in
theorem run_B (c : Dev nD) (i : grid0.Coords)
  (arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x128 .bf16) (harg12 : arg12.IsWhole)
  (arg13 : Memref sig .tc .vmem S1x128 .f32) (harg13 : arg13.IsWhole)
  (arg14 : Memref sig .tc .vmem S1x512x1024 .f32) (harg14 : arg14.IsWhole)
  (arg15 : Memref sig .tc .vmem S4096x128 .bf16) (harg15 : arg15.IsWhole)
  (arg16 : Memref sig .tc .vmem S1x512x512 .f32) (harg16 : arg16.IsWhole)
  (arg17 : Memref sig .tc .vmem S1x512x512 .f32) (harg17 : arg17.IsWhole)
  (arg18 : Memref sig .tc .vmem S1x8x512 .f32) (harg18 : arg18.IsWhole)
  (arg19 : Memref sig .tc .vmem S1x512x128 .f32) (harg19 : arg19.IsWhole)
  (arg20 : Memref sig .tc .vmem S1x128 .f32) (harg20 : arg20.IsWhole)
  (arg21 : Memref sig .tc .vmem S1024x512 .bf16) (harg21 : arg21.IsWhole)
  (arg22 : Memref sig .tc .vmem S1024x512 .bf16) (harg22 : arg22.IsWhole)
  (arg23 : Memref sig .tc .vmem S512x512 .bf16) (harg23 : arg23.IsWhole)
  (arg24 : Memref sig .tc .vmem S8x512 .f32) (harg24 : arg24.IsWhole)
  (arg25 : Memref sig .tc .vmem S1x128 .f32) (harg25 : arg25.IsWhole)
  (arg26 : Memref sig .tc .vmem S512x1024 .f32) (harg26 : arg26.IsWhole)
  (hc0 : ¬cond0_0 i) (hc1 : cond0_1 i) (hc2 : ¬cond0_2 i) (hc3 : ¬cond0_3 i)
  (x0 : Vec F S1x512x1024 .f32) (x1 : Vec F S1x6x1024 .f32) (x2 : Vec F S1x1024 .f32) (x3 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) (x11 : Vec F S1024x128 .bf16) (x12 : Vec F S1x128 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ (∃ d, owns (c : Thread nD τ) arg24 fullShare d)
        ∗ (∃ d, owns (c : Thread nD τ) arg25 fullShare d)
        ∗ (∃ d, owns (c : Thread nD τ) arg26 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (∃ d, owns (c : Thread nD τ) arg25 fullShare d)
            ∗ (∃ d, owns (c : Thread nD τ) arg26 fullShare d)) -∗ K ⟨⟩))
      ⊢ wp frame (wpE (defs₀ (F := F)) Variants.none c none) E (cc0_prompt_main i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_prompt_main_eq_skeleton]; unfold cc0_prompt_main_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold owns
  have e15 : ∀ g, (arg15.view.loc (c : Thread nD τ) ↦[arg15.view.set]{fullShare} g : sProp 𝕄) = ((arg15.reshape S2048x2x128 reshapes_S4096x128_S2048x2x128.1 reshapes_S4096x128_S2048x2x128.2 harg15.contiguous).view.loc (c : Thread nD τ) ↦[(arg15.reshape S2048x2x128 reshapes_S4096x128_S2048x2x128.1 reshapes_S4096x128_S2048x2x128.2 harg15.contiguous).view.set]{fullShare} g) := fun g => by
    rw [show (arg15.reshape S2048x2x128 reshapes_S4096x128_S2048x2x128.1 reshapes_S4096x128_S2048x2x128.2 harg15.contiguous).view.set = arg15.view.set from View.set_reshape _ _]
  simp only [e15]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec (disch := first | sl_exact hc0 | sl_exact hc1 | sl_exact hc2 | sl_exact hc3)
  repeat (sl_step; try sl_exec (disch := first | sl_exact hc0 | sl_exact hc1 | sl_exact hc2 | sl_exact hc3))
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  iexists _, _; isplitr; swap; · iexact H25
  ipureintro; rfl

end Cert.Kernel.Hand

end
-- ==== Proof.Bits.RunC.lean ====
module

public import proofs.«01_k».proof.Proof.Bits.Base

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

set_option maxHeartbeats 3200000 in
theorem run_C (c : Dev nD) (i : grid0.Coords)
  (arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x128 .bf16) (harg12 : arg12.IsWhole)
  (arg13 : Memref sig .tc .vmem S1x128 .f32) (harg13 : arg13.IsWhole)
  (arg14 : Memref sig .tc .vmem S1x512x1024 .f32) (harg14 : arg14.IsWhole)
  (arg15 : Memref sig .tc .vmem S4096x128 .bf16) (harg15 : arg15.IsWhole)
  (arg16 : Memref sig .tc .vmem S1x512x512 .f32) (harg16 : arg16.IsWhole)
  (arg17 : Memref sig .tc .vmem S1x512x512 .f32) (harg17 : arg17.IsWhole)
  (arg18 : Memref sig .tc .vmem S1x8x512 .f32) (harg18 : arg18.IsWhole)
  (arg19 : Memref sig .tc .vmem S1x512x128 .f32) (harg19 : arg19.IsWhole)
  (arg20 : Memref sig .tc .vmem S1x128 .f32) (harg20 : arg20.IsWhole)
  (arg21 : Memref sig .tc .vmem S1024x512 .bf16) (harg21 : arg21.IsWhole)
  (arg22 : Memref sig .tc .vmem S1024x512 .bf16) (harg22 : arg22.IsWhole)
  (arg23 : Memref sig .tc .vmem S512x512 .bf16) (harg23 : arg23.IsWhole)
  (arg24 : Memref sig .tc .vmem S8x512 .f32) (harg24 : arg24.IsWhole)
  (arg25 : Memref sig .tc .vmem S1x128 .f32) (harg25 : arg25.IsWhole)
  (arg26 : Memref sig .tc .vmem S512x1024 .f32) (harg26 : arg26.IsWhole)
  (hc0 : ¬cond0_0 i) (hc1 : cond0_1 i) (hc2 : cond0_2 i) (hc3 : ¬cond0_3 i)
  (x0 : Vec F S1x512x1024 .f32) (x1 : Vec F S1x6x1024 .f32) (x2 : Vec F S1x1024 .f32) (x3 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) (x11 : Vec F S1024x128 .bf16) (x12 : Vec F S1x128 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ (∃ d, owns (c : Thread nD τ) arg24 fullShare d)
        ∗ (∃ d, owns (c : Thread nD τ) arg25 fullShare d)
        ∗ (∃ d, owns (c : Thread nD τ) arg26 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (∃ d, owns (c : Thread nD τ) arg25 fullShare d)
            ∗ (∃ d, owns (c : Thread nD τ) arg26 fullShare d)) -∗ K ⟨⟩))
      ⊢ wp frame (wpE (defs₀ (F := F)) Variants.none c none) E (cc0_prompt_main i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_prompt_main_eq_skeleton]; unfold cc0_prompt_main_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold owns
  have e15 : ∀ g, (arg15.view.loc (c : Thread nD τ) ↦[arg15.view.set]{fullShare} g : sProp 𝕄) = ((arg15.reshape S2048x2x128 reshapes_S4096x128_S2048x2x128.1 reshapes_S4096x128_S2048x2x128.2 harg15.contiguous).view.loc (c : Thread nD τ) ↦[(arg15.reshape S2048x2x128 reshapes_S4096x128_S2048x2x128.1 reshapes_S4096x128_S2048x2x128.2 harg15.contiguous).view.set]{fullShare} g) := fun g => by
    rw [show (arg15.reshape S2048x2x128 reshapes_S4096x128_S2048x2x128.1 reshapes_S4096x128_S2048x2x128.2 harg15.contiguous).view.set = arg15.view.set from View.set_reshape _ _]
  simp only [e15]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec (disch := first | sl_exact hc0 | sl_exact hc1 | sl_exact hc2 | sl_exact hc3)
  repeat (sl_step; try sl_exec (disch := first | sl_exact hc0 | sl_exact hc1 | sl_exact hc2 | sl_exact hc3))
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  iexists _, _; isplitr; swap; · iexact H25
  ipureintro; rfl

end Cert.Kernel.Hand

end
-- ==== Proof.Bits.RunD.lean ====
module

public import proofs.«01_k».proof.Proof.Bits.Base

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

set_option maxHeartbeats 3200000 in
theorem run_D (c : Dev nD) (i : grid0.Coords)
  (arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x128 .bf16) (harg12 : arg12.IsWhole)
  (arg13 : Memref sig .tc .vmem S1x128 .f32) (harg13 : arg13.IsWhole)
  (arg14 : Memref sig .tc .vmem S1x512x1024 .f32) (harg14 : arg14.IsWhole)
  (arg15 : Memref sig .tc .vmem S4096x128 .bf16) (harg15 : arg15.IsWhole)
  (arg16 : Memref sig .tc .vmem S1x512x512 .f32) (harg16 : arg16.IsWhole)
  (arg17 : Memref sig .tc .vmem S1x512x512 .f32) (harg17 : arg17.IsWhole)
  (arg18 : Memref sig .tc .vmem S1x8x512 .f32) (harg18 : arg18.IsWhole)
  (arg19 : Memref sig .tc .vmem S1x512x128 .f32) (harg19 : arg19.IsWhole)
  (arg20 : Memref sig .tc .vmem S1x128 .f32) (harg20 : arg20.IsWhole)
  (arg21 : Memref sig .tc .vmem S1024x512 .bf16) (harg21 : arg21.IsWhole)
  (arg22 : Memref sig .tc .vmem S1024x512 .bf16) (harg22 : arg22.IsWhole)
  (arg23 : Memref sig .tc .vmem S512x512 .bf16) (harg23 : arg23.IsWhole)
  (arg24 : Memref sig .tc .vmem S8x512 .f32) (harg24 : arg24.IsWhole)
  (arg25 : Memref sig .tc .vmem S1x128 .f32) (harg25 : arg25.IsWhole)
  (arg26 : Memref sig .tc .vmem S512x1024 .f32) (harg26 : arg26.IsWhole)
  (hc0 : ¬cond0_0 i) (hc1 : ¬cond0_1 i) (hc3 : cond0_3 i)
  (x0 : Vec F S1x512x1024 .f32) (x1 : Vec F S1x6x1024 .f32) (x2 : Vec F S1x1024 .f32) (x3 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) (x11 : Vec F S1024x128 .bf16) (x12 : Vec F S1x128 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ (∃ d, owns (c : Thread nD τ) arg24 fullShare d)
        ∗ (∃ d, owns (c : Thread nD τ) arg25 fullShare d)
        ∗ (∃ d, owns (c : Thread nD τ) arg26 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg17 fullShare d)
            ∗ (∃ d, owns (c : Thread nD τ) arg18 fullShare d)
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (∃ d, owns (c : Thread nD τ) arg25 fullShare d)
            ∗ (∃ d, owns (c : Thread nD τ) arg26 fullShare d)) -∗ K ⟨⟩))
      ⊢ wp frame (wpE (defs₀ (F := F)) Variants.none c none) E (cc0_prompt_main i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_prompt_main_eq_skeleton]; unfold cc0_prompt_main_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold owns
  have e15 : ∀ g, (arg15.view.loc (c : Thread nD τ) ↦[arg15.view.set]{fullShare} g : sProp 𝕄) = ((arg15.reshape S2048x2x128 reshapes_S4096x128_S2048x2x128.1 reshapes_S4096x128_S2048x2x128.2 harg15.contiguous).view.loc (c : Thread nD τ) ↦[(arg15.reshape S2048x2x128 reshapes_S4096x128_S2048x2x128.1 reshapes_S4096x128_S2048x2x128.2 harg15.contiguous).view.set]{fullShare} g) := fun g => by
    rw [show (arg15.reshape S2048x2x128 reshapes_S4096x128_S2048x2x128.1 reshapes_S4096x128_S2048x2x128.2 harg15.contiguous).view.set = arg15.view.set from View.set_reshape _ _]
  simp only [e15]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec (disch := first | sl_exact hc0 | sl_exact hc1 | sl_exact hc3)
  repeat (sl_step; try sl_exec (disch := first | sl_exact hc0 | sl_exact hc1 | sl_exact hc3))
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  iexists _, _; isplitr; swap; · iexact H25
  ipureintro; rfl

end Cert.Kernel.Hand

end
-- ==== Proof.Bits.Frame.lean ====
module

public import proofs.«01_k».proof.Proof.Bits.RunA
public import proofs.«01_k».proof.Proof.Bits.RunB
public import proofs.«01_k».proof.Proof.Bits.RunC
public import proofs.«01_k».proof.Proof.Bits.RunD
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The output windows: the frame says nothing of what the body leaves in them. -/
def forgets0 : Fin 20 → Bool := fun w => decide (13 ≤ w.val)

/-- The pipeline's proof data: every input's buffer at its block, the outputs at anything, the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- What the body is called with at a point. -/
def bodyPre (c : Dev nD) (t : Fin cfg0.N) : sProp 𝕄 :=
  iprop((dats m 0 c).Φ t.castSucc
    ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

/-- What it hands back. -/
def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d))

set_option maxHeartbeats 38400000 in
/-- The body at any point, by the case its coordinate is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  have hN : t.val < 65 := lt_of_lt_of_eq t.isLt (show cfg0.N = 65 from N_0)
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14, H15, H16, H17, H18, H19⟩
  by_cases h3 : t.val % 65 = 64
  · iapply (run_D c (grid0.coords t) _ _ _ _ _ _ _ _ _ _ _ _ _ _ _ _ _ _ _ _ _ _ _ _ _ _ _ _ _ _ _ _ _ _ _ _ _ _ _ _ _ _ _ _ _ _ _ _ _ _ _ _ (fun h => by have := (hcond0_0 t).mp h; omega) (fun h => by have := (hcond0_1 t).mp h; omega) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, H13, H14, H15, H16, H17, H18, H19, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19
  by_cases h2 : t.val % 16 = 0
  · by_cases h0 : t.val = 0
    · iapply (run_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr (by omega)) ((hcond0_1 t).mpr (by omega)) ((hcond0_2 t).mpr (by omega)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, H14, H15, H16, H17, H18, H19, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
    · iapply (run_C c (grid0.coords t) _ _ _ _ _ _ _ _ _ _ _ _ _ _ _ _ _ _ _ _ _ _ _ _ _ _ _ _ _ _ _ _ _ _ _ _ _ _ _ _ _ _ _ _ _ _ _ _ _ _ _ _ (fun h => by have := (hcond0_0 t).mp h; omega) ((hcond0_1 t).mpr (by omega)) ((hcond0_2 t).mpr (by omega)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, H14, H15, H16, H17, H18, H19, HS0, HS1, HS2, HS3, HS4, HS5⟩
      isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      iexact H19
  · iapply (run_B c (grid0.coords t) _ _ _ _ _ _ _ _ _ _ _ _ _ _ _ _ _ _ _ _ _ _ _ _ _ _ _ _ _ _ _ _ _ _ _ _ _ _ _ _ _ _ _ _ _ _ _ _ _ _ _ _ (fun h => by have := (hcond0_0 t).mp h; omega) ((hcond0_1 t).mpr (by omega)) (fun h => by have := (hcond0_2 t).mp h; omega) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, H13, H14, H15, H16, H17, H18, H19, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

/-- The body table's row at a point is the body at that point. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := .rfl

set_option backward.isDefEq.respectTransparency.types false in
/-- The launch: the frame's postcondition, and every counter at zero, at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch's postcondition alone. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

set_option maxHeartbeats 4000000 in
/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.Kernel.Hand

end
-- ==== Proof.Ideal.Base.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, e0]
    word_cmp
   : ∀ t : Fin grid0.N, cond0_0 (grid0.coords t) ↔ t.val % 65 = 0)

/-- The condition of the body's `scf.if` 1 (`k0_h2`), from the grid coordinates (the skeleton's scalar
    chain substituted). -/
abbrev cond0_1 (i : grid0.Coords) : Prop := k0_cond2 i = 1#1
/-- It holds at the points before point 64 — decided over the grid. -/
theorem hcond0_1 : ∀ t : Fin cfg0.N, cond0_1 (grid0.coords t) ↔ t.val < 64 :=
  (by decide +kernel : ∀ t : Fin grid0.N, cond0_1 (grid0.coords t) ↔ t.val < 64)

/-- The condition of the body's `scf.if` 2 (`k0_h3`), from the grid coordinates (the skeleton's scalar
    chain substituted). -/
abbrev cond0_2 (i : grid0.Coords) : Prop := (Scalar.cmpi .ne (Scalar.extui (Scalar.cmpi .eq (Scalar.select (Scalar.andi (Scalar.xori (Scalar.cmpi .slt (Scalar.remsi (BitVec.ofNat 32 (i 0).val) (Scalar.select (Scalar.cmpi .eq 16#32 0#32) 1#32 16#32)) 0#32) (Scalar.cmpi .slt (Scalar.select (Scalar.cmpi .eq 16#32 0#32) 1#32 16#32) 0#32)) (Scalar.cmpi .ne (Scalar.remsi (BitVec.ofNat 32 (i 0).val) (Scalar.select (Scalar.cmpi .eq 16#32 0#32) 1#32 16#32)) 0#32)) (Scalar.addi (Scalar.remsi (BitVec.ofNat 32 (i 0).val) (Scalar.select (Scalar.cmpi .eq 16#32 0#32) 1#32 16#32)) (Scalar.select (Scalar.cmpi .eq 16#32 0#32) 1#32 16#32)) (Scalar.remsi (BitVec.ofNat 32 (i 0).val) (Scalar.select (Scalar.cmpi .eq 16#32 0#32) 1#32 16#32))) 0#32)) 0#32) = 1#1
/-- It holds at the points ≡ 0 (mod 16) — decided over the grid. -/
theorem hcond0_2 : ∀ t : Fin cfg0.N, cond0_2 (grid0.coords t) ↔ t.val % 16 = 0 :=
  (by decide +kernel : ∀ t : Fin grid0.N, cond0_2 (grid0.coords t) ↔ t.val % 16 = 0)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 65 = 64 :=
  (fun t => by
    have ht : t.val < 65 := Nat.lt_of_lt_of_eq t.isLt N_0
    have e0 : (grid0.coords t 0).val = t.val / 1 % 65 := Pipeline.Grid.coords_val t 0 (by decide) rfl
    simp only [cond0_3, k0_cond4, e0]
    word_cmp
   : ∀ t : Fin grid0.N, cond0_3 (grid0.coords t) ↔ t.val % 65 = 64)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x6x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x5120 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x512x640 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1024x1024 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1024x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x512x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S4096x128 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x512x512 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x512x512 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x8x512 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x512x128 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x128 .f32 := win0_19.stage (cfg0.slots t 19)
abbrev hs0_19 (t : Fin cfg0.N) : (ms0_19 t).IsWhole := hstage0_19 ((cfg0.slots t 19).cast nbuf0_19)
/-- The scratch operands: whole scoped buffers of the kernel's own, passed beside the windows. -/
abbrev scM0_0 : Memref sig .tc .vmem S1024x512 .bf16 := Memref.whole cc0_scratch0
abbrev scM0_1 : Memref sig .tc .vmem S1024x512 .bf16 := Memref.whole cc0_scratch1
abbrev scM0_2 : Memref sig .tc .vmem S512x512 .bf16 := Memref.whole cc0_scratch2
abbrev scM0_3 : Memref sig .tc .vmem S8x512 .f32 := Memref.whole cc0_scratch3
abbrev scM0_4 : Memref sig .tc .vmem S1x128 .f32 := Memref.whole cc0_scratch4
abbrev scM0_5 : Memref sig .tc .vmem S512x1024 .f32 := Memref.whole cc0_scratch5
/-- The scratch `arg21` the kernel carries between points, as a view: what it holds is stated through it. -/
abbrev VS0_0 : View sig .tc .vmem S1024x512 .bf16 := scM0_0.view
/-- The scratch `arg22` the kernel carries between points, as a view: what it holds is stated through it. -/
abbrev VS0_1 : View sig .tc .vmem S1024x512 .bf16 := scM0_1.view
/-- The scratch `arg24` the kernel carries between points, as a view: what it holds is stated through it. -/
abbrev VS0_3 : View sig .tc .vmem S8x512 .f32 := scM0_3.view
/-- The scratch `arg25` the kernel carries between points, as a view: what it holds is stated through it. -/
abbrev VS0_4 : View sig .tc .vmem S1x128 .f32 := scM0_4.view
/-- The scratch `arg26` the kernel carries between points, as a view: what it holds is stated through it. -/
abbrev VS0_5 : View sig .tc .vmem S512x1024 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Hand

end
-- ==== Proof.Ideal.RunA.lean ====
module

public import proofs.«01_k».proof.Proof.Ideal.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 3200000 in
noncomputable def run_A (c : Dev nD) (i : grid0.Coords)
  (arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x128 .bf16) (harg12 : arg12.IsWhole)
  (arg13 : Memref sig .tc .vmem S1x128 .f32) (harg13 : arg13.IsWhole)
  (arg14 : Memref sig .tc .vmem S1x512x1024 .f32) (harg14 : arg14.IsWhole)
  (arg15 : Memref sig .tc .vmem S4096x128 .bf16) (harg15 : arg15.IsWhole)
  (arg16 : Memref sig .tc .vmem S1x512x512 .f32) (harg16 : arg16.IsWhole)
  (arg17 : Memref sig .tc .vmem S1x512x512 .f32) (harg17 : arg17.IsWhole)
  (arg18 : Memref sig .tc .vmem S1x8x512 .f32) (harg18 : arg18.IsWhole)
  (arg19 : Memref sig .tc .vmem S1x512x128 .f32) (harg19 : arg19.IsWhole)
  (arg20 : Memref sig .tc .vmem S1x128 .f32) (harg20 : arg20.IsWhole)
  (arg21 : Memref sig .tc .vmem S1024x512 .bf16) (harg21 : arg21.IsWhole)
  (arg22 : Memref sig .tc .vmem S1024x512 .bf16) (harg22 : arg22.IsWhole)
  (arg23 : Memref sig .tc .vmem S512x512 .bf16) (harg23 : arg23.IsWhole)
  (arg24 : Memref sig .tc .vmem S8x512 .f32) (harg24 : arg24.IsWhole)
  (arg25 : Memref sig .tc .vmem S1x128 .f32) (harg25 : arg25.IsWhole)
  (arg26 : Memref sig .tc .vmem S512x1024 .f32) (harg26 : arg26.IsWhole)
  (hc0 : cond0_0 i) (hc1 : cond0_1 i) (hc2 : cond0_2 i) (hc3 : ¬cond0_3 i)
  (x0 : Vec F S1x512x1024 .f32) (x1 : Vec F S1x6x1024 .f32) (x2 : Vec F S1x1024 .f32) (x3 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) (x11 : Vec F S1024x128 .bf16) (x12 : Vec F S1x128 .f32) (xs0 : Vec F S1024x512 .bf16) (xs1 : Vec F S1024x512 .bf16) (xs3 : Vec F S8x512 .f32) :
    Σ' (L13 : List (View.Piece (Elt F) S1x512x1024 .f32)), Σ' (L15 : List (View.Piece (Elt F) S1x512x512 .f32)), Σ' (L16 : List (View.Piece (Elt F) S1x512x512 .f32)), Σ' (L17 : List (View.Piece (Elt F) S1x8x512 .f32)), Σ' (L20 : List (View.Piece (Elt F) S1024x512 .bf16)), Σ' (L21 : List (View.Piece (Elt F) S1024x512 .bf16)), { L23 : List (View.Piece (Elt F) S8x512 .f32) //
    ∀ (E : Set ℕ) (K : PUnit → sProp 𝕄), iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ owns (c : Thread nD τ) arg21 fullShare xs0
        ∗ owns (c : Thread nD τ) arg22 fullShare xs1
        ∗ (∃ d, owns (c : Thread nD τ) arg23 fullShare d)
        ∗ owns (c : Thread nD τ) arg24 fullShare xs3
        ∗ (∃ d, owns (c : Thread nD τ) arg25 fullShare d)
        ∗ (∃ d, owns (c : Thread nD τ) arg26 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ (∃ f, arg14.view.loc (c : Thread nD τ) ↦[arg14.view.set]{fullShare} arg14.view.writes (Elt F) f L13)
            ∗ (∃ d, owns (c : Thread nD τ) arg15 fullShare d)
            ∗ (∃ f, arg16.view.loc (c : Thread nD τ) ↦[arg16.view.set]{fullShare} arg16.view.writes (Elt F) f L15)
            ∗ (∃ f, arg17.view.loc (c : Thread nD τ) ↦[arg17.view.set]{fullShare} arg17.view.writes (Elt F) f L16)
            ∗ (∃ f, arg18.view.loc (c : Thread nD τ) ↦[arg18.view.set]{fullShare} arg18.view.writes (Elt F) f L17)
            ∗ (∃ d, owns (c : Thread nD τ) arg19 fullShare d)
            ∗ (∃ d, owns (c : Thread nD τ) arg20 fullShare d)
            ∗ (∃ f, arg21.view.loc (c : Thread nD τ) ↦[arg21.view.set]{fullShare} arg21.view.writes (Elt F) f L20)
            ∗ (∃ f, arg22.view.loc (c : Thread nD τ) ↦[arg22.view.set]{fullShare} arg22.view.writes (Elt F) f L21)
            ∗ (∃ d, owns (c : Thread nD τ) arg23 fullShare d)
            ∗ (∃ f, arg24.view.loc (c : Thread nD τ) ↦[arg24.view.set]{fullShare} arg24.view.writes (Elt F) f L23)
            ∗ (∃ d, owns (c : Thread nD τ) arg25 fullShare d)
            ∗ (∃ d, owns (c : Thread nD τ) arg26 fullShare d)) -∗ K ⟨⟩))
      ⊢ wp frame (wpE (defs₀ (F := F)) Variants.none c none) E (cc0_prompt_main i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, fun E K => ?run⟩
  case run =>
    simp only [cc0_prompt_main_eq_skeleton]; unfold cc0_prompt_main_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    have e15 : ∀ g, (arg15.view.loc (c : Thread nD τ) ↦[arg15.view.set]{fullShare} g : sProp 𝕄) = ((arg15.reshape S2048x2x128 reshapes_S4096x128_S2048x2x128.1 reshapes_S4096x128_S2048x2x128.2 harg15.contiguous).view.loc (c : Thread nD τ) ↦[(arg15.reshape S2048x2x128 reshapes_S4096x128_S2048x2x128.1 reshapes_S4096x128_S2048x2x128.2 harg15.contiguous).view.set]{fullShare} g) := fun g => by
      rw [show (arg15.reshape S2048x2x128 reshapes_S4096x128_S2048x2x128.1 reshapes_S4096x128_S2048x2x128.2 harg15.contiguous).view.set = arg15.view.set from View.set_reshape _ _]
    simp only [e15]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%f20, %hf20, H20⟩, ⟨%f21, %hf21, H21⟩, ⟨%d22, %f22, -, H22⟩, ⟨%f23, %hf23, H23⟩, ⟨%d24, %f24, -, H24⟩, ⟨%d25, %f25, -, H25⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg21.eq_unread hf20; obtain rfl := harg22.eq_unread hf21; obtain rfl := harg24.eq_unread hf23
    sl_exec (disch := first | sl_exact hc0 | sl_exact hc1 | sl_exact hc2 | sl_exact hc3)
    repeat (sl_step; try sl_exec (disch := first | sl_exact hc0 | sl_exact hc1 | sl_exact hc2 | sl_exact hc3))
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; iexact H13
    isplitl [H14]
    · iexists _, _; isplitr; swap; · iexact H14
      ipureintro; rfl
    isplitl [H15]
    · iexists _; iexact H15
    isplitl [H16]
    · iexists _; iexact H16
    isplitl [H17]
    · iexists _; iexact H17
    isplitl [H18]
    · iexists _, _; isplitr; swap; · iexact H18
      ipureintro; rfl
    isplitl [H19]
    · iexists _, _; isplitr; swap; · iexact H19
      ipureintro; rfl
    isplitl [H20]
    · iexists _; iexact H20
    isplitl [H21]
    · iexists _; iexact H21
    isplitl [H22]
    · iexists _, _; isplitr; swap; · iexact H22
      ipureintro; rfl
    isplitl [H23]
    · iexists _; iexact H23
    isplitl [H24]
    · iexists _, _; isplitr; swap; · iexact H24
      ipureintro; rfl
    iexists _, _; isplitr; swap; · iexact H25
    ipureintro; rfl

end Cert.KernelIdeal.Hand

end
-- ==== Proof.Ideal.Val.lean ====
module

public import proofs.«01_k».proof.Proof.Ideal.Base
public import Idealize.ShloMosaic.Lib.WholeRead
public import Idealize.ShloMosaic.Lib.Pipeline.Value

/-! What one tile of the kernel computes, as functions of what the tile loads: the tile's hidden rows, its queries, keys
and values, the gated input of its convolution, its attention and its output rows. -/

@[expose] public section

set_option synthInstance.maxSize 4096

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

/-- What a tile loads: its rows, its batch's three modulation rows, and the parts of the weights. -/
structure Tile (F : FTy → Type) where
  x : Vec F S1x512x1024 .f32
  sh : Vec F S1x1x1024 .f32
  sc : Vec F S1x1x1024 .f32
  gt : Vec F S1x1x1024 .f32
  g1 : Vec F S1x1024 .f32
  wq : Vec F S1024x1536 .bf16
  wc : Vec F S1024x1536 .bf16
  wg : Vec F S1024x2048 .bf16
  b0 : Vec F S1x512x640 .f32
  b1 : Vec F S1x512x640 .f32
  cw0 : Vec F S1x512 .f32
  cw1 : Vec F S1x512 .f32
  cw2 : Vec F S1x512 .f32
  cb : Vec F S1x512 .f32
  wpa : Vec F S512x1024 .bf16
  wpb : Vec F S512x1024 .bf16
  wo : Vec F S1024x1024 .bf16

namespace Tile

variable (T : Tile F)

/-- The first modulation row, the second, the third. -/
def vsh : FVec F S1x1024 .f32 := shapeCast S1x1024 T.sh shapeCasts_S1x1x1024_S1x1024
def vsc : FVec F S1x1024 .f32 := shapeCast S1x1024 T.sc shapeCasts_S1x1x1024_S1x1024
/-- The normalised and modulated rows. -/
def hid : FVec F S512x1024 .bf16 := k0_pay18 T.vsh T.vsc T.x T.g1
/-- The scaled queries. -/
def q : FVec F S512x512 .bf16 := k0_pay20 T.vsh T.vsc T.x T.g1 T.wq
/-- The keys. -/
def k : FVec F S512x512 .f32 := k0_pay21 T.vsh T.vsc T.x T.g1 T.wq
/-- The values. -/
def v : FVec F S512x512 .f32 := k0_pay22 T.vsh T.vsc T.x T.g1 T.wq
/-- The keys and the values as the rings keep them. -/
def kNew : FVec F S512x512 .bf16 := k0_pay25 T.k
def vNew : FVec F S512x512 .bf16 := k0_pay26 T.v
/-- The convolution's input. -/
def u : FVec F S512x512 .f32 := k0_pay184 T.hid T.wc
/-- Its last eight rows. -/
def u8 : FVec F S8x512 .f32 := extractStridedSlice S8x512 ![504, 0] T.u slices_S512x512_o504_0_S8x512

/-- The convolution's gated output, the eight rows before the tile being `p`. -/
def conv (p : Vec F S8x512 .f32) : FVec F S512x512 .bf16 :=
  have r1 : FVec F S512x512 .f32 := dynamicRotate 0 1#32 none T.u rotates_S512x512_d0
  have r2 : FVec F S512x512 .f32 := dynamicRotate 0 2#32 none T.u rotates_S512x512_d0
  have row : IVec S8x512 32 := iota .tc S8x512 32 [0] iota_S8x512_d0_w32
  have t1 : FVec F S8x512 .f32 := select (cmpi .slt row (broadcast S8x512 1#32)) (dynamicRotate 0 1#32 none p rotates_S8x512_d0) (extractStridedSlice S8x512 ![0, 0] r1 slices_S512x512_o0_0_S8x512)
  have t2 : FVec F S8x512 .f32 := select (cmpi .slt row (broadcast S8x512 2#32)) (dynamicRotate 0 2#32 none p rotates_S8x512_d0) (extractStridedSlice S8x512 ![0, 0] r2 slices_S512x512_o0_0_S8x512)
  have m1 : FVec F S512x512 .f32 := concatenate S512x512 0 [⟨S8x512, t1⟩, ⟨S504x512, extractStridedSlice S504x512 ![8, 0] r1 slices_S512x512_o8_0_S504x512⟩] concatenates_S8x512_S504x512_S512x512_d0
  have m2 : FVec F S512x512 .f32 := concatenate S512x512 0 [⟨S8x512, t2⟩, ⟨S504x512, extractStridedSlice S504x512 ![8, 0] r2 slices_S512x512_o8_0_S504x512⟩] concatenates_S8x512_S504x512_S512x512_d0
  have w : Vec F S1x512 .f32 → FVec F S512x512 .f32 := fun z => broadcastTo S512x512 (shapeCast S1x512 z shapeCasts_S1x512_S1x512 : FVec F S1x512 .f32) broadcasts_S1x512_S512x512
  truncf .bf16 (mulf (extractStridedSlice S512x512 ![0, 0] (k0_pay181 T.hid T.wc) slices_S512x1536_o0_0_S512x512)
    (addf (addf (addf (mulf (w T.cw0) m2) (mulf (w T.cw1) m1)) (mulf (w T.cw2) T.u)) (w T.cb))) bitsLt_bf16_f32

/-- The gates' logits. -/
def gates : FVec F S512x2048 .f32 :=
  matmul dot_S512x1024_S1024x2048_S512x2048_1_0_0_1_n_n none T.hid (shapeCast S1024x2048 T.wg shapeCasts_S1024x2048_S1024x2048) (constant S512x2048 .f32 0x00000000#32)

/-- The logistic function, as the kernel writes it. -/
def sigm (g : FVec F S512x1024 .f32) : FVec F S512x1024 .f32 :=
  have one : FVec F S512x1024 .f32 := broadcast S512x1024 (Scalar.ofBits .f32 0x3F800000#32)
  divf one (addf one (exp (subf (broadcast S512x1024 (Scalar.ofBits .f32 0x00000000#32)) g)))

/-- A branch through its output projection. -/
def proj (a : FVec F S512x512 .bf16) (w : Vec F S512x1024 .bf16) : FVec F S512x1024 .f32 :=
  matmul dot_S512x512_S512x1024_S512x1024_1_0_0_1_n_n none a (shapeCast S512x1024 w shapeCasts_S512x1024_S512x1024) (constant S512x1024 .f32 0x00000000#32)

/-- The two branches mixed by their gates. -/
def mixed (att : FVec F S512x512 .bf16) (p : Vec F S8x512 .f32) : FVec F S512x1024 .f32 :=
  addf (mulf (sigm (extractStridedSlice S512x1024 ![0, 0] T.gates slices_S512x2048_o0_0_S512x1024)) (proj att T.wpa))
    (mulf (sigm (extractStridedSlice S512x1024 ![0, 1024] T.gates slices_S512x2048_o0_1024_S512x1024)) (proj (T.conv p) T.wpb))

/-- The tile's output rows. -/
def x1 (att : FVec F S512x512 .bf16) (p : Vec F S8x512 .f32) : FVec F S512x1024 .f32 :=
  addf (k0_pay17 T.x) (mulf (broadcastTo S512x1024 (k0_pay14 T.gt) broadcasts_S1x1024_S512x1024)
    (matmul dot_S512x1024_S1024x1024_S512x1024_1_0_0_1_n_n none (truncf .bf16 (T.mixed att p) bitsLt_bf16_f32)
      (shapeCast S1024x1024 T.wo shapeCasts_S1024x1024_S1024x1024) (constant S512x1024 .f32 0x00000000#32)))

/-- The four blocks the tile writes. -/
def x1Out (att : FVec F S512x512 .bf16) (p : Vec F S8x512 .f32) : FVec F S1x512x1024 .f32 :=
  shapeCast S1x512x1024 (T.x1 att p) shapeCasts_S512x1024_S1x512x1024
def kOut : FVec F S1x512x512 .f32 := k0_pay23 T.k
def vOut : FVec F S1x512x512 .f32 := k0_pay24 T.v
def uOut : FVec F S1x8x512 .f32 := shapeCast S1x8x512 T.u8 shapeCasts_S8x512_S1x8x512

end Tile

/-- The scores of 128 queries of four heads, against 640 keys: head h in rows 128 h and on. -/
def scores (q : FVec F S128x256 .bf16) (kb : Vec F S640x256 .bf16) : FVec F S512x640 .f32 :=
  matmul dot_S512x256_S640x256_S512x640_1_1_0_0_n_n none
    (select (cmpi .eq (shrsi (iota .tc S512x256 32 [0] iota_S512x256_d0_w32) (broadcast S512x256 7#32)) (shrsi (iota .tc S512x256 32 [1] iota_S512x256_d1_w32) (broadcast S512x256 6#32)))
      (concatenate S512x256 0 [⟨S128x256, q⟩, ⟨S128x256, q⟩, ⟨S128x256, q⟩, ⟨S128x256, q⟩] concatenates_S128x256_S128x256_S128x256_S128x256_S512x256_d0)
      (broadcast S512x256 (Scalar.ofBits .bf16 0x0000#16)) : FVec F S512x256 .bf16)
    kb (constant S512x640 .f32 0x00000000#32)

/-- Which of the 640 keys there are: those from `lim` on. -/
def there (lim : BitVec 32) : IVec S128x640 1 := cmpi .sge (iota .tc S128x640 32 [1] iota_S128x640_d1_w32) (broadcast S128x640 lim)

/-- One head's scores with their biases, the keys that are not there at the mask. -/
def masked (s b : FVec F S128x640 .f32) (lim : BitVec 32) : FVec F S128x640 .f32 :=
  select (there lim) (addf s b) (broadcast S128x640 (Named.named κ "mask" 0xF149F2CA#32))

/-- The powers of two of a row less its maximum. -/
def powers (x : FVec F S128x640 .f32) : FVec F S128x640 .f32 :=
  exp2 (subf x (broadcastTo S128x640 (shapeCast S128x1 (multiReduction .maximumf [1] S128 x 0xFF800000#32 reduces_S128x640_S128 (.inl rfl) rfl : FVec F S128 .f32) shapeCasts_S128_S128x1 : FVec F S128x1 .f32) broadcasts_S128x1_S128x640))

/-- One over a row's sum. -/
def invSum (p : FVec F S128x640 .f32) : FVec F S128x1 .f32 :=
  divf (broadcast S128x1 (Scalar.ofBits .f32 0x3F800000#32))
    (shapeCast S128x1 (multiReduction .add [1] S128 p 0x00000000#32 reduces_S128x640_S128 (.inl rfl) rfl : FVec F S128 .f32) shapeCasts_S128_S128x1 : FVec F S128x1 .f32)

/-- The lanes' heads. -/
def laneHead : IVec S128x256 32 := shrsi (iota .tc S128x256 32 [1] iota_S128x256_d1_w32) (broadcast S128x256 6#32)

/-- The attention of four heads, from their four blocks of powers. -/
def weigh (p0 p1 p2 p3 : FVec F S128x640 .f32) (vb : Vec F S640x256 .bf16) : FVec F S128x256 .bf16 :=
  have o : FVec F S512x256 .f32 := matmul dot_S512x640_S640x256_S512x256_1_0_0_1_n_n none
    (concatenate S512x640 0 [⟨S128x640, truncf .bf16 p0 bitsLt_bf16_f32⟩, ⟨S128x640, truncf .bf16 p1 bitsLt_bf16_f32⟩, ⟨S128x640, truncf .bf16 p2 bitsLt_bf16_f32⟩, ⟨S128x640, truncf .bf16 p3 bitsLt_bf16_f32⟩] concatenates_S128x640_S128x640_S128x640_S128x640_S512x640_d0 : FVec F S512x640 .bf16)
    vb (constant S512x256 .f32 0x00000000#32)
  have w : FVec F S128x256 .f32 → FVec F S128x640 .f32 → FVec F S128x256 .f32 := fun a p => mulf a (broadcastTo S128x256 (invSum p) broadcasts_S128x1_S128x256)
  truncf .bf16 (select (cmpi .eq laneHead (broadcast S128x256 3#32)) (w (extractStridedSlice S128x256 ![384, 0] o slices_S512x256_o384_0_S128x256) p3)
    (select (cmpi .eq laneHead (broadcast S128x256 2#32)) (w (extractStridedSlice S128x256 ![256, 0] o slices_S512x256_o256_0_S128x256) p2)
      (select (cmpi .eq laneHead (broadcast S128x256 1#32)) (w (extractStridedSlice S128x256 ![128, 0] o slices_S512x256_o128_0_S128x256) p1)
        (w (extractStridedSlice S128x256 ![0, 0] o slices_S512x256_o0_0_S128x256) p0)))) bitsLt_bf16_f32

/-- The attention of 128 queries of four heads to the 640 keys before the end of their chunks. -/
def attend (q : FVec F S128x256 .bf16) (kb vb : Vec F S640x256 .bf16) (bias : Vec F S1x512x640 .f32) (lim : BitVec 32) : FVec F S128x256 .bf16 :=
  have s : FVec F S512x640 .f32 := scores q kb
  have b : FVec F S512x640 .f32 := shapeCast S512x640 bias shapeCasts_S1x512x640_S512x640
  weigh (powers (masked (extractStridedSlice S128x640 ![0, 0] s slices_S512x640_o0_0_S128x640) (extractStridedSlice S128x640 ![0, 0] b slices_S512x640_o0_0_S128x640) lim))
    (powers (masked (extractStridedSlice S128x640 ![128, 0] s slices_S512x640_o128_0_S128x640) (extractStridedSlice S128x640 ![128, 0] b slices_S512x640_o128_0_S128x640) lim))
    (powers (masked (extractStridedSlice S128x640 ![256, 0] s slices_S512x640_o256_0_S128x640) (extractStridedSlice S128x640 ![256, 0] b slices_S512x640_o256_0_S128x640) lim))
    (powers (masked (extractStridedSlice S128x640 ![384, 0] s slices_S512x640_o384_0_S128x640) (extractStridedSlice S128x640 ![384, 0] b slices_S512x640_o384_0_S128x640) lim)) vb

/-- The tile's number in its batch, as the kernel computes it. -/
def tileNo (i : grid0.Coords) : BitVec 32 :=
  have r : BitVec 32 := Scalar.remsi (BitVec.ofNat 32 ↑(i 0)) 16#32
  Scalar.select (Scalar.andi (Scalar.xori (Scalar.cmpi .slt r 0#32) 0#1) (Scalar.cmpi .ne r 0#32)) (Scalar.addi r 16#32) r

/-- The first key there of the 640 before chunk pair `c`'s end. -/
def limOf (i : grid0.Coords) (c : BitVec 32) : BitVec 32 :=
  Scalar.subi 512#32 (Scalar.addi (Scalar.muli (tileNo i) 512#32) c)

/-- A block of attention output, as the kernel stores it. -/
def attBlock (q : FVec F S128x256 .bf16) (kb vb : Vec F S640x256 .bf16) (bias : Vec F S1x512x640 .f32) (lim : BitVec 32) : FVec F S128x256 .bf16 :=
  shapeCast S128x256 (attend q kb vb bias lim) shapeCasts_S128x256_S128x256

/-- Eight stores of attention blocks, the last first. -/
def attStores (p0 p1 p2 p3 p4 p5 p6 p7 : FVec F S128x256 .bf16) : List (View.Piece (Elt F) S512x512 .bf16) :=
  [⟨Rect.unit (s := S512x512) ![384, 256] S128x256.size inb_S512x512_S128x256_384_256, p0⟩,
   ⟨Rect.unit (s := S512x512) ![384, 0] S128x256.size inb_S512x512_S128x256_384_0, p1⟩,
   ⟨Rect.unit (s := S512x512) ![256, 256] S128x256.size inb_S512x512_S128x256_256_256, p2⟩,
   ⟨Rect.unit (s := S512x512) ![256, 0] S128x256.size inb_S512x512_S128x256_256_0, p3⟩,
   ⟨Rect.unit (s := S512x512) ![128, 256] S128x256.size inb_S512x512_S128x256_128_256, p4⟩,
   ⟨Rect.unit (s := S512x512) ![128, 0] S128x256.size inb_S512x512_S128x256_128_0, p5⟩,
   ⟨Rect.unit (s := S512x512) ![0, 256] S128x256.size inb_S512x512_S128x256_0_256, p6⟩,
   ⟨Rect.unit (s := S512x512) ![0, 0] S128x256.size inb_S512x512_S128x256_0_0, p7⟩]

theorem attStores_congr {p0 p1 p2 p3 p4 p5 p6 p7 r0 r1 r2 r3 r4 r5 r6 r7 : FVec F S128x256 .bf16}
    (h0 : p0 = r0) (h1 : p1 = r1) (h2 : p2 = r2) (h3 : p3 = r3) (h4 : p4 = r4) (h5 : p5 = r5) (h6 : p6 = r6) (h7 : p7 = r7) :
    attStores p0 p1 p2 p3 p4 p5 p6 p7 = attStores r0 r1 r2 r3 r4 r5 r6 r7 := by
  subst h0 h1 h2 h3 h4 h5 h6 h7; rfl

/-- The eight stores of the tile's attention: `lk` and `lv` are what the rings' loads read. -/
def attPieces (i : grid0.Coords) (q : FVec F S512x512 .bf16) (b0 b1 : Vec F S1x512x640 .f32)
    (lk lv : (R : LoadRect S1024x512) → R.shape.Idx → F .bf16) : List (View.Piece (Elt F) S512x512 .bf16) :=
  attStores
    (attBlock (extractStridedSlice S128x256 ![384, 256] q slices_S512x512_o384_256_S128x256) (lk (Rect.unit (s := S1024x512) ![384, 256] S640x256.size inb_S1024x512_S640x256_384_256).toLoadRect) (lv (Rect.unit (s := S1024x512) ![384, 256] S640x256.size inb_S1024x512_S640x256_384_256).toLoadRect) b1 (limOf i 384#32))
    (attBlock (extractStridedSlice S128x256 ![384, 0] q slices_S512x512_o384_0_S128x256) (lk (Rect.unit (s := S1024x512) ![384, 0] S640x256.size inb_S1024x512_S640x256_384_0).toLoadRect) (lv (Rect.unit (s := S1024x512) ![384, 0] S640x256.size inb_S1024x512_S640x256_384_0).toLoadRect) b0 (limOf i 384#32))
    (attBlock (extractStridedSlice S128x256 ![256, 256] q slices_S512x512_o256_256_S128x256) (lk (Rect.unit (s := S1024x512) ![256, 256] S640x256.size inb_S1024x512_S640x256_256_256).toLoadRect) (lv (Rect.unit (s := S1024x512) ![256, 256] S640x256.size inb_S1024x512_S640x256_256_256).toLoadRect) b1 (limOf i 256#32))
    (attBlock (extractStridedSlice S128x256 ![256, 0] q slices_S512x512_o256_0_S128x256) (lk (Rect.unit (s := S1024x512) ![256, 0] S640x256.size inb_S1024x512_S640x256_256_0).toLoadRect) (lv (Rect.unit (s := S1024x512) ![256, 0] S640x256.size inb_S1024x512_S640x256_256_0).toLoadRect) b0 (limOf i 256#32))
    (attBlock (extractStridedSlice S128x256 ![128, 256] q slices_S512x512_o128_256_S128x256) (lk (Rect.unit (s := S1024x512) ![128, 256] S640x256.size inb_S1024x512_S640x256_128_256).toLoadRect) (lv (Rect.unit (s := S1024x512) ![128, 256] S640x256.size inb_S1024x512_S640x256_128_256).toLoadRect) b1 (limOf i 128#32))
    (attBlock (extractStridedSlice S128x256 ![128, 0] q slices_S512x512_o128_0_S128x256) (lk (Rect.unit (s := S1024x512) ![128, 0] S640x256.size inb_S1024x512_S640x256_128_0).toLoadRect) (lv (Rect.unit (s := S1024x512) ![128, 0] S640x256.size inb_S1024x512_S640x256_128_0).toLoadRect) b0 (limOf i 128#32))
    (attBlock (extractStridedSlice S128x256 ![0, 256] q slices_S512x512_o0_256_S128x256) (lk (Rect.unit (s := S1024x512) ![0, 256] S640x256.size inb_S1024x512_S640x256_0_256).toLoadRect) (lv (Rect.unit (s := S1024x512) ![0, 256] S640x256.size inb_S1024x512_S640x256_0_256).toLoadRect) b1 (limOf i 0#32))
    (attBlock (extractStridedSlice S128x256 ![0, 0] q slices_S512x512_o0_0_S128x256) (lk (Rect.unit (s := S1024x512) ![0, 0] S640x256.size inb_S1024x512_S640x256_0_0).toLoadRect) (lv (Rect.unit (s := S1024x512) ![0, 0] S640x256.size inb_S1024x512_S640x256_0_0).toLoadRect) b0 (limOf i 0#32))

theorem attBlock_congr {q q' : FVec F S128x256 .bf16} {kb kb' vb vb' : Vec F S640x256 .bf16} {b b' : Vec F S1x512x640 .f32} {l l' : BitVec 32}
    (h0 : q = q') (h1 : kb = kb') (h2 : vb = vb') (h3 : b = b') (h4 : l = l') :
    attBlock q kb vb b l = attBlock q' kb' vb' b' l' := by subst h0 h1 h2 h3 h4; rfl

local notation "𝕄" => MT nD τ sig Unit (Elt F) ℕ (UR sig nD τ) ℕ

/-! ## The rings: the tile before in rows 0 to 511, the tile in the rest -/

/-- The rings' lower half and their upper half. -/
abbrev loR : Rect S1024x512 := Rect.unit (s := S1024x512) ![0, 0] S512x512.size inb_S1024x512_S512x512_0_0
abbrev hiR : Rect S1024x512 := Rect.unit (s := S1024x512) ![512, 0] S512x512.size inb_S1024x512_S512x512_512_0

/-- A ring that holds `old` and then `new`. -/
def ring (old new : Vec F S512x512 .bf16) : Vec F S1024x512 .bf16 :=
  View.canon (Val := Elt F) [⟨hiR, new⟩, ⟨loR, old⟩]

theorem mem_lo {y : S1024x512.Idx} : y ∈ loR.set ↔ (y 0).val < 512 := by
  rw [loR, Rect.mem_set_unit]
  refine ⟨fun h => ?_, fun h => Fin.forall_fin_two.2 ⟨⟨Nat.zero_le _, ?_⟩, ⟨Nat.zero_le _, ?_⟩⟩⟩
  · have a : (y 0).val < 0 + 512 := (h 0).2
    omega
  · exact (show (y 0).val < 0 + 512 by omega)
  · exact (show (y 1).val < 0 + 512 from (Nat.zero_add 512).symm ▸ (y 1).isLt)

theorem mem_hi {y : S1024x512.Idx} : y ∈ hiR.set ↔ 512 ≤ (y 0).val := by
  rw [hiR, Rect.mem_set_unit]
  refine ⟨fun h => (h 0).1, fun h => Fin.forall_fin_two.2 ⟨⟨h, ?_⟩, ⟨Nat.zero_le _, ?_⟩⟩⟩
  · have a : (y 0).val < 1024 := (y 0).isLt
    exact (show (y 0).val < 512 + 512 by omega)
  · exact (show (y 1).val < 0 + 512 from (Nat.zero_add 512).symm ▸ (y 1).isLt)

theorem mem_lo_or_hi (y : S1024x512.Idx) : y ∈ loR.set ∨ y ∈ hiR.set :=
  (Nat.lt_or_ge (y 0).val 512).imp mem_lo.2 mem_hi.2

theorem not_mem_hi_of_lo {y : S1024x512.Idx} (h : y ∈ loR.set) : y ∉ hiR.set := fun h' => by
  have a := mem_lo.1 h
  have b := mem_hi.1 h'
  omega

/-- A list of stores that has both halves covers a ring. -/
theorem ring_cover {L : List (View.Piece (Elt F) S1024x512 .bf16)} {a b : Vec F S512x512 .bf16}
    (ha : (⟨hiR, a⟩ : View.Piece (Elt F) S1024x512 .bf16) ∈ L) (hb : (⟨loR, b⟩ : View.Piece (Elt F) S1024x512 .bf16) ∈ L) (y : S1024x512.Idx) :
    ∃ p ∈ L, y ∈ p.1.set :=
  (mem_lo_or_hi y).elim (fun h => ⟨_, hb, h⟩) (fun h => ⟨_, ha, h⟩)

/-- One store over known contents: the stores that made them, and the one. -/
theorem read_store_over {s : Shape} {e : EltTy} (m : Memref sig .tc .vmem s e) (hm : m.IsWhole) (L : List (View.Piece (Elt F) s e)) (R : Rect s) (w : R.shape.Idx → Elt F e) :
    m.view.read (Elt F) (m.view.writes (Elt F) (hm.unread (View.canon L)) [⟨R, w⟩]) = View.canon (⟨R, w⟩ :: L) := by
  funext y
  by_cases h : y ∈ R.set
  · obtain ⟨x, rfl⟩ := R.exists_idx_of_mem h
    exact (View.read_writes_cons_emb _ _ R w [] x).trans (View.canon_cons_emb R w L x).symm
  · have h' : y ∉ Finset.univ.map R.emb := by rwa [Rect.map_emb_univ]
    rw [View.writes_cons, View.read_slice_write_of_not_mem R _ _ _ h', View.canon_cons_of_not_mem (⟨R, w⟩ : View.Piece (Elt F) s e) _ h]
    exact congrFun (hm.read_unread (View.canon L)) y

/-- A second store of the upper half is the one that counts. -/
theorem ring_again (old new' new : Vec F S512x512 .bf16) :
    View.canon ([⟨hiR, new⟩, ⟨hiR, new'⟩, ⟨loR, old⟩] : List (View.Piece (Elt F) S1024x512 .bf16)) = ring old new := by
  funext y
  by_cases h : y ∈ hiR.set
  · obtain ⟨x, rfl⟩ := hiR.exists_idx_of_mem h
    rw [show hiR.idx x = hiR.emb x from rfl, View.canon_cons_emb, ring, View.canon_cons_emb]
  · rw [ring, View.canon_cons_of_not_mem (⟨hiR, new⟩ : View.Piece (Elt F) S1024x512 .bf16) _ h, View.canon_cons_of_not_mem (⟨hiR, new'⟩ : View.Piece (Elt F) S1024x512 .bf16) _ h,
      View.canon_cons_of_not_mem (⟨hiR, new⟩ : View.Piece (Elt F) S1024x512 .bf16) _ h]

/-- Over a ring, a store of the upper half replaces it. -/
theorem ring_write (m : Memref sig .tc .vmem S1024x512 .bf16) (hm : m.IsWhole) (old new' new : Vec F S512x512 .bf16) (R : LoadRect S1024x512) :
    View.readAt (Elt F) m.view R (m.view.writes (Elt F) (hm.unread (ring old new')) [⟨hiR, new⟩]) = fun y => ring old new (R.idx y) := by
  have e := (read_store_over m hm [⟨hiR, new'⟩, ⟨loR, old⟩] hiR new).trans (ring_again old new' new)
  funext y
  exact congrFun e (R.idx y)

/-- A ring filled by its two stores reads as it. -/
theorem ring_fill (m : Memref sig .tc .vmem S1024x512 .bf16) (old new : Vec F S512x512 .bf16) (R : LoadRect S1024x512) :
    m.view.readCov (Val := Elt F) [⟨hiR, new⟩, ⟨loR, old⟩] R = fun y => ring old new (R.idx y) :=
  View.readCov_eq_canon _ _ _ fun _ => ring_cover (a := new) (b := old) (by simp) (by simp) _

/-- The upper half copied over the lower one: a ring of the tile twice. -/
theorem ring_copy (L : List (View.Piece (Elt F) S1024x512 .bf16)) (new : Vec F S512x512 .bf16) :
    View.canon (⟨loR, new⟩ :: ⟨hiR, new⟩ :: L : List (View.Piece (Elt F) S1024x512 .bf16)) = ring new new := by
  funext y
  rcases mem_lo_or_hi y with h | h
  · have h' := not_mem_hi_of_lo h
    rw [ring, View.canon_cons_of_not_mem (⟨hiR, new⟩ : View.Piece (Elt F) S1024x512 .bf16) _ h']
    obtain ⟨x, rfl⟩ := loR.exists_idx_of_mem h
    rw [show loR.idx x = loR.emb x from rfl, View.canon_cons_emb, View.canon_cons_emb]
  · have h' : y ∉ loR.set := fun hl => not_mem_hi_of_lo hl h
    rw [ring, View.canon_cons_of_not_mem (⟨loR, new⟩ : View.Piece (Elt F) S1024x512 .bf16) _ h']
    obtain ⟨x, rfl⟩ := hiR.exists_idx_of_mem h
    rw [show hiR.idx x = hiR.emb x from rfl, View.canon_cons_emb, View.canon_cons_emb]

/-- The upper half read back is what was stored there. -/
theorem hi_back (m : Memref sig .tc .vmem S1024x512 .bf16) (L : List (View.Piece (Elt F) S1024x512 .bf16)) (new : Vec F S512x512 .bf16) :
    m.view.readCov (Val := Elt F) (⟨hiR, new⟩ :: L) hiR.toLoadRect = new := by
  funext x
  exact View.read_writes_cons_emb _ _ hiR new L x

theorem pay179_eq (v : Vec F S512x512 .bf16) : k0_pay179 v = v := shapeCast_self _ _

theorem pay180_eq (v : Vec F S512x512 .bf16) : k0_pay180 v = v := shapeCast_self _ _

theorem pay187_eq (T : Tile F) : k0_pay187 T.u = T.u8 := shapeCast_self _ _

/-- The carried rows of `u`, read back whole. -/
theorem u8_kept (m : Memref sig .tc .vmem S8x512 .f32) (hm : m.IsWhole) (up : Vec F S8x512 .f32) :
    View.readAt (Elt F) m.view (Rect.unit (s := S8x512) ![0, 0] S8x512.size inb_S8x512_S8x512_0_0).toLoadRect (hm.unread up) = up := by
  funext x
  exact (Memref.IsWhole.readAt_unread hm up _ x).trans (congrFun (View.ld_unit_zero (by funext a; fin_cases a <;> rfl) inb_S8x512_S8x512_0_0 up) x)

/-- Stores over a whole memref, the last of them whole: it holds that one. -/
theorem owns_of_whole (c : Dev nD) {sp : Space} {s : Shape} {e : EltTy} (m : Memref sig .tc sp s e) {off : Fin s.rank → ℕ} (h : off = fun _ => 0) (inb : ∀ a, off a + s.size a ≤ s.size a)
    (w : s.Idx → Elt F e) (L : List (View.Piece (Elt F) s e)) :
    (iprop(∃ f, m.view.loc (c : Thread nD τ) ↦[m.view.set]{fullShare} m.view.writes (Elt F) f (⟨Rect.unit off s.size inb, w⟩ :: L)) : sProp 𝕄)
      ⊢ owns (c : Thread nD τ) m fullShare w := by
  unfold owns
  iintro ⟨%f, H⟩
  iexists _
  isplitr
  · ipureintro
    exact (View.read_writes_eq_canon m.view f _ fun y => ⟨_, List.mem_cons_self, View.mem_set_unit_zero h inb y⟩).trans (View.canon_cons_unit_zero h inb w L)
  iexact H

/-- Stores over a ring, the last two the same tile in both halves: it holds the tile twice. -/
theorem owns_of_ring (c : Dev nD) (m : Memref sig .tc .vmem S1024x512 .bf16) (w : Vec F S512x512 .bf16) (L : List (View.Piece (Elt F) S1024x512 .bf16)) :
    (iprop(∃ f, m.view.loc (c : Thread nD τ) ↦[m.view.set]{fullShare} m.view.writes (Elt F) f (⟨loR, w⟩ :: ⟨hiR, w⟩ :: L)) : sProp 𝕄)
      ⊢ owns (c : Thread nD τ) m fullShare (ring w w) := by
  unfold owns
  iintro ⟨%f, H⟩
  iexists _
  isplitr
  · ipureintro
    exact (View.read_writes_eq_canon m.view f _ fun y => ring_cover (a := w) (b := w) (by simp) (by simp) y).trans (ring_copy L w)
  iexact H

/-- A tile's attention. -/
def Tile.att (T : Tile F) (i : grid0.Coords) (kp vp : Vec F S512x512 .bf16) : Vec F S512x512 .bf16 :=
  View.canon (Val := Elt F) (attPieces i T.q T.b0 T.b1 (fun R y => ring kp T.kNew (R.idx y)) (fun R y => ring vp T.vNew (R.idx y)))

/-- The eight blocks cover the attention's scratch. -/
theorem att_cover (p0 p1 p2 p3 p4 p5 p6 p7 : FVec F S128x256 .bf16) (y : S512x512.Idx) :
    ∃ p ∈ attStores p0 p1 p2 p3 p4 p5 p6 p7, y ∈ p.1.set := by
  have h0 : (y 0).val < 512 := (y 0).isLt
  have h1 : (y 1).val < 512 := (y 1).isLt
  have key : ∀ (a b : ℕ) (h : ∀ k, (![a, b] : Fin 2 → ℕ) k + S128x256.size k ≤ S512x512.size k), a ≤ (y 0).val → (y 0).val < a + 128 → b ≤ (y 1).val → (y 1).val < b + 256 →
      y ∈ (Rect.unit (s := S512x512) ![a, b] S128x256.size h).set := fun a b h p q r s =>
    Rect.mem_set_unit.2 (Fin.forall_fin_two.2 ⟨⟨p, q⟩, ⟨r, s⟩⟩)
  unfold attStores
  simp only [List.exists_mem_cons_iff, List.not_mem_nil, false_and, exists_false, or_false]
  rcases Nat.lt_or_ge (y 1).val 256 with hc | hc <;> rcases Nat.lt_or_ge (y 0).val 256 with hr | hr
  · rcases Nat.lt_or_ge (y 0).val 128 with hs | hs
    · exact .inr (.inr (.inr (.inr (.inr (.inr (.inr (key 0 0 _ (by omega) (by omega) (by omega) (by omega))))))))
    · exact .inr (.inr (.inr (.inr (.inr (.inl (key 128 0 _ (by omega) (by omega) (by omega) (by omega)))))))
  · rcases Nat.lt_or_ge (y 0).val 384 with hs | hs
    · exact .inr (.inr (.inr (.inl (key 256 0 _ (by omega) (by omega) (by omega) (by omega)))))
    · exact .inr (.inl (key 384 0 _ (by omega) (by omega) (by omega) (by omega)))
  · rcases Nat.lt_or_ge (y 0).val 128 with hs | hs
    · exact .inr (.inr (.inr (.inr (.inr (.inr (.inl (key 0 256 _ (by omega) (by omega) (by omega) (by omega))))))))
    · exact .inr (.inr (.inr (.inr (.inl (key 128 256 _ (by omega) (by omega) (by omega) (by omega))))))
  · rcases Nat.lt_or_ge (y 0).val 384 with hs | hs
    · exact .inr (.inr (.inl (key 256 256 _ (by omega) (by omega) (by omega) (by omega))))
    · exact .inl (key 384 256 _ (by omega) (by omega) (by omega) (by omega))

/-- What the kernel reads of its attention scratch is the attention. -/
theorem att_read (m : Memref sig .tc .vmem S512x512 .bf16) (i : grid0.Coords) (q : FVec F S512x512 .bf16) (b0 b1 : Vec F S1x512x640 .f32)
    (lk lv : (R : LoadRect S1024x512) → R.shape.Idx → F .bf16) :
    m.view.readCov (Val := Elt F) (attPieces i q b0 b1 lk lv) (Rect.unit (s := S512x512) ![0, 0] S512x512.size inb_S512x512_S512x512_0_0).toLoadRect
      = View.canon (Val := Elt F) (attPieces i q b0 b1 lk lv) := by
  refine (View.readCov_eq_canon_ld _ _ _ fun y => att_cover _ _ _ _ _ _ _ _ _).trans ?_
  exact View.ld_unit_zero (by funext a; fin_cases a <;> rfl) _ _

/-- A tile's loads, from the blocks its windows hold. -/
def tileOf (x0 : Vec F S1x512x1024 .f32) (x1 : Vec F S1x6x1024 .f32) (x2 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) : Tile F where
  x := View.ld (Val := Elt F) x0 (Rect.unit (s := S1x512x1024) ![0, 0, 0] S1x512x1024.size inb_S1x512x1024_S1x512x1024_0_0_0)
  sh := View.ld (Val := Elt F) x1 (Rect.unit (s := S1x6x1024) ![0, 0, 0] S1x1x1024.size inb_S1x6x1024_S1x1x1024_0_0_0)
  sc := View.ld (Val := Elt F) x1 (Rect.unit (s := S1x6x1024) ![0, 1, 0] S1x1x1024.size inb_S1x6x1024_S1x1x1024_0_1_0)
  gt := View.ld (Val := Elt F) x1 (Rect.unit (s := S1x6x1024) ![0, 2, 0] S1x1x1024.size inb_S1x6x1024_S1x1x1024_0_2_0)
  g1 := View.ld (Val := Elt F) x2 (Rect.unit (s := S1x1024) ![0, 0] S1x1024.size inb_S1x1024_S1x1024_0_0)
  wq := View.ld (Val := Elt F) x4 (Rect.unit (s := S1024x5120) ![0, 0] S1024x1536.size inb_S1024x5120_S1024x1536_0_0)
  wc := View.ld (Val := Elt F) x4 (Rect.unit (s := S1024x5120) ![0, 1536] S1024x1536.size inb_S1024x5120_S1024x1536_0_1536)
  wg := View.ld (Val := Elt F) x4 (Rect.unit (s := S1024x5120) ![0, 3072] S1024x2048.size inb_S1024x5120_S1024x2048_0_3072)
  b0 := View.ld (Val := Elt F) x5 (Rect.unit (s := S2x512x640) ![0, 0, 0] S1x512x640.size inb_S2x512x640_S1x512x640_0_0_0)
  b1 := View.ld (Val := Elt F) x5 (Rect.unit (s := S2x512x640) ![1, 0, 0] S1x512x640.size inb_S2x512x640_S1x512x640_1_0_0)
  cw0 := View.ld (Val := Elt F) x6 (Rect.unit (s := S8x512) ![0, 0] S1x512.size inb_S8x512_S1x512_0_0)
  cw1 := View.ld (Val := Elt F) x6 (Rect.unit (s := S8x512) ![1, 0] S1x512.size inb_S8x512_S1x512_1_0)
  cw2 := View.ld (Val := Elt F) x6 (Rect.unit (s := S8x512) ![2, 0] S1x512.size inb_S8x512_S1x512_2_0)
  cb := View.ld (Val := Elt F) x7 (Rect.unit (s := S1x512) ![0, 0] S1x512.size inb_S1x512_S1x512_0_0)
  wpa := View.ld (Val := Elt F) x8 (Rect.unit (s := S512x1024) ![0, 0] S512x1024.size inb_S512x1024_S512x1024_0_0)
  wpb := View.ld (Val := Elt F) x9 (Rect.unit (s := S512x1024) ![0, 0] S512x1024.size inb_S512x1024_S512x1024_0_0)
  wo := View.ld (Val := Elt F) x10 (Rect.unit (s := S1024x1024) ![0, 0] S1024x1024.size inb_S1024x1024_S1024x1024_0_0)

/-- The same loads as a run makes them, through the memory references of the blocks. -/
def tileRd
  (arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (x0 : Vec F S1x512x1024 .f32) (x1 : Vec F S1x6x1024 .f32) (x2 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) : Tile F where
  x := View.readAt (Elt F) arg1.view (Rect.unit (s := S1x512x1024) ![0, 0, 0] S1x512x1024.size inb_S1x512x1024_S1x512x1024_0_0_0).toLoadRect (harg1.unread x0)
  sh := View.readAt (Elt F) arg2.view (Rect.unit (s := S1x6x1024) ![0, 0, 0] S1x1x1024.size inb_S1x6x1024_S1x1x1024_0_0_0).toLoadRect (harg2.unread x1)
  sc := View.readAt (Elt F) arg2.view (Rect.unit (s := S1x6x1024) ![0, 1, 0] S1x1x1024.size inb_S1x6x1024_S1x1x1024_0_1_0).toLoadRect (harg2.unread x1)
  gt := View.readAt (Elt F) arg2.view (Rect.unit (s := S1x6x1024) ![0, 2, 0] S1x1x1024.size inb_S1x6x1024_S1x1x1024_0_2_0).toLoadRect (harg2.unread x1)
  g1 := View.readAt (Elt F) arg3.view (Rect.unit (s := S1x1024) ![0, 0] S1x1024.size inb_S1x1024_S1x1024_0_0).toLoadRect (harg3.unread x2)
  wq := View.readAt (Elt F) arg5.view (Rect.unit (s := S1024x5120) ![0, 0] S1024x1536.size inb_S1024x5120_S1024x1536_0_0).toLoadRect (harg5.unread x4)
  wc := View.readAt (Elt F) arg5.view (Rect.unit (s := S1024x5120) ![0, 1536] S1024x1536.size inb_S1024x5120_S1024x1536_0_1536).toLoadRect (harg5.unread x4)
  wg := View.readAt (Elt F) arg5.view (Rect.unit (s := S1024x5120) ![0, 3072] S1024x2048.size inb_S1024x5120_S1024x2048_0_3072).toLoadRect (harg5.unread x4)
  b0 := View.readAt (Elt F) arg6.view (Rect.unit (s := S2x512x640) ![0, 0, 0] S1x512x640.size inb_S2x512x640_S1x512x640_0_0_0).toLoadRect (harg6.unread x5)
  b1 := View.readAt (Elt F) arg6.view (Rect.unit (s := S2x512x640) ![1, 0, 0] S1x512x640.size inb_S2x512x640_S1x512x640_1_0_0).toLoadRect (harg6.unread x5)
  cw0 := View.readAt (Elt F) arg7.view (Rect.unit (s := S8x512) ![0, 0] S1x512.size inb_S8x512_S1x512_0_0).toLoadRect (harg7.unread x6)
  cw1 := View.readAt (Elt F) arg7.view (Rect.unit (s := S8x512) ![1, 0] S1x512.size inb_S8x512_S1x512_1_0).toLoadRect (harg7.unread x6)
  cw2 := View.readAt (Elt F) arg7.view (Rect.unit (s := S8x512) ![2, 0] S1x512.size inb_S8x512_S1x512_2_0).toLoadRect (harg7.unread x6)
  cb := View.readAt (Elt F) arg8.view (Rect.unit (s := S1x512) ![0, 0] S1x512.size inb_S1x512_S1x512_0_0).toLoadRect (harg8.unread x7)
  wpa := View.readAt (Elt F) arg9.view (Rect.unit (s := S512x1024) ![0, 0] S512x1024.size inb_S512x1024_S512x1024_0_0).toLoadRect (harg9.unread x8)
  wpb := View.readAt (Elt F) arg10.view (Rect.unit (s := S512x1024) ![0, 0] S512x1024.size inb_S512x1024_S512x1024_0_0).toLoadRect (harg10.unread x9)
  wo := View.readAt (Elt F) arg11.view (Rect.unit (s := S1024x1024) ![0, 0] S1024x1024.size inb_S1024x1024_S1024x1024_0_0).toLoadRect (harg11.unread x10)

theorem tileRd_eq
  (arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (x0 : Vec F S1x512x1024 .f32) (x1 : Vec F S1x6x1024 .f32) (x2 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) :
    tileRd arg1 harg1 arg2 harg2 arg3 harg3 arg5 harg5 arg6 harg6 arg7 harg7 arg8 harg8 arg9 harg9 arg10 harg10 arg11 harg11 x0 x1 x2 x4 x5 x6 x7 x8 x9 x10 = tileOf x0 x1 x2 x4 x5 x6 x7 x8 x9 x10 := by
  unfold tileRd tileOf
  congr 1 <;> exact funext fun y => Memref.IsWhole.readAt_unread _ _ _ y

end Cert.KernelIdeal.Hand
-- ==== Proof.Ideal.Blocks.lean ====
module
public import proofs.«01_k».proof.Proof.Ideal.Val
/-! Each of the eight blocks of attention the kernel stores is the attention of its queries. -/

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The block of attention at row 384, lane 256, as the kernel computes it. -/
theorem block_384_256 (q : FVec F S512x512 .bf16) (kb vb : Vec F S640x256 .bf16) (b : Vec F S1x512x640 .f32) (lim : BitVec 32) :
    (shapeCast S128x256 (truncf FTy.bf16 (select (cmpi CmpIPredicate.eq k0_pay165 (broadcast S128x256 3#32)) (mulf (extractStridedSlice S128x256 ![384, 0] (k0_pay164 vb (k0_pay151 b) (k0_pay152 (k0_pay150 q) kb) (k0_pay153 lim) (k0_pay156 lim (k0_pay150 q) kb b) (k0_pay157 lim (k0_pay150 q) kb b)) slices_S512x256_o384_0_S128x256) (broadcastTo S128x256 (k0_pay163 (k0_pay151 b) (k0_pay152 (k0_pay150 q) kb) (k0_pay153 lim)) broadcasts_S128x1_S128x256)) (select k0_pay167 (mulf (extractStridedSlice S128x256 ![256, 0] (k0_pay164 vb (k0_pay151 b) (k0_pay152 (k0_pay150 q) kb) (k0_pay153 lim) (k0_pay156 lim (k0_pay150 q) kb b) (k0_pay157 lim (k0_pay150 q) kb b)) slices_S512x256_o256_0_S128x256) (broadcastTo S128x256 (k0_pay161 (k0_pay151 b) (k0_pay152 (k0_pay150 q) kb) (k0_pay153 lim)) broadcasts_S128x1_S128x256)) (k0_pay166 vb (k0_pay151 b) (k0_pay152 (k0_pay150 q) kb) (k0_pay153 lim) (k0_pay155 lim (k0_pay150 q) kb b) (k0_pay156 lim (k0_pay150 q) kb b) (k0_pay157 lim (k0_pay150 q) kb b) (k0_pay158 lim (k0_pay150 q) kb b) k0_pay159))) bitsLt_bf16_f32) shapeCasts_S128x256_S128x256) = attBlock (extractStridedSlice S128x256 ![384, 256] q slices_S512x512_o384_256_S128x256) kb vb b lim := rfl

/-- The block of attention at row 384, lane 0, as the kernel computes it. -/
theorem block_384_0 (q : FVec F S512x512 .bf16) (kb vb : Vec F S640x256 .bf16) (b : Vec F S1x512x640 .f32) (mu : BitVec 32) :
    k0_pay149 vb (k0_pay138 mu) (k0_pay140 (k0_pay136 b) (k0_pay137 q kb) (k0_pay138 mu)) (k0_pay141 (k0_pay136 b) (k0_pay137 q kb) (k0_pay138 mu)) (k0_pay143 (k0_pay136 b) (k0_pay137 q kb) (k0_pay138 mu)) (k0_pay144 (k0_pay136 b) (k0_pay137 q kb) (k0_pay138 mu)) (k0_pay146 (k0_pay136 b) (k0_pay137 q kb) (k0_pay138 mu)) (k0_pay147 (k0_pay136 b) (k0_pay137 q kb) (k0_pay138 mu)) (k0_pay148 (k0_pay136 b) (k0_pay137 q kb)) = attBlock (extractStridedSlice S128x256 ![384, 0] q slices_S512x512_o384_0_S128x256) kb vb b (Scalar.subi 512#32 (Scalar.addi mu 384#32)) := rfl

/-- The block of attention at row 256, lane 256, as the kernel computes it. -/
theorem block_256_256 (q : FVec F S512x512 .bf16) (kb vb : Vec F S640x256 .bf16) (b : Vec F S1x512x640 .f32) (lim : BitVec 32) :
    (k0_pay127 vb (shapeCast S512x640 b shapeCasts_S1x512x640_S512x640) (k0_pay117 kb (concatenate S512x256 0 [⟨S128x256, (extractStridedSlice S128x256 ![256, 256] q slices_S512x512_o256_256_S128x256)⟩, ⟨S128x256, (extractStridedSlice S128x256 ![256, 256] q slices_S512x512_o256_256_S128x256)⟩, ⟨S128x256, (extractStridedSlice S128x256 ![256, 256] q slices_S512x512_o256_256_S128x256)⟩, ⟨S128x256, (extractStridedSlice S128x256 ![256, 256] q slices_S512x512_o256_256_S128x256)⟩] concatenates_S128x256_S128x256_S128x256_S128x256_S512x256_d0) (cmpi CmpIPredicate.eq (shrsi (iota Kind.tc S512x256 32 [0] iota_S512x256_d0_w32) (broadcast S512x256 7#32)) (shrsi (iota Kind.tc S512x256 32 [1] iota_S512x256_d1_w32) (broadcast S512x256 6#32))) (Scalar.ofBits .bf16 0x0000#16 : F .bf16)) (k0_pay118 lim) (k0_pay120 lim kb (shapeCast S512x640 b shapeCasts_S1x512x640_S512x640) (concatenate S512x256 0 [⟨S128x256, (extractStridedSlice S128x256 ![256, 256] q slices_S512x512_o256_256_S128x256)⟩, ⟨S128x256, (extractStridedSlice S128x256 ![256, 256] q slices_S512x512_o256_256_S128x256)⟩, ⟨S128x256, (extractStridedSlice S128x256 ![256, 256] q slices_S512x512_o256_256_S128x256)⟩, ⟨S128x256, (extractStridedSlice S128x256 ![256, 256] q slices_S512x512_o256_256_S128x256)⟩] concatenates_S128x256_S128x256_S128x256_S128x256_S512x256_d0) (cmpi CmpIPredicate.eq (shrsi (iota Kind.tc S512x256 32 [0] iota_S512x256_d0_w32) (broadcast S512x256 7#32)) (shrsi (iota Kind.tc S512x256 32 [1] iota_S512x256_d1_w32) (broadcast S512x256 6#32))) (Scalar.ofBits .bf16 0x0000#16 : F .bf16)) (k0_pay121 lim kb (shapeCast S512x640 b shapeCasts_S1x512x640_S512x640) (concatenate S512x256 0 [⟨S128x256, (extractStridedSlice S128x256 ![256, 256] q slices_S512x512_o256_256_S128x256)⟩, ⟨S128x256, (extractStridedSlice S128x256 ![256, 256] q slices_S512x512_o256_256_S128x256)⟩, ⟨S128x256, (extractStridedSlice S128x256 ![256, 256] q slices_S512x512_o256_256_S128x256)⟩, ⟨S128x256, (extractStridedSlice S128x256 ![256, 256] q slices_S512x512_o256_256_S128x256)⟩] concatenates_S128x256_S128x256_S128x256_S128x256_S512x256_d0) (cmpi CmpIPredicate.eq (shrsi (iota Kind.tc S512x256 32 [0] iota_S512x256_d0_w32) (broadcast S512x256 7#32)) (shrsi (iota Kind.tc S512x256 32 [1] iota_S512x256_d1_w32) (broadcast S512x256 6#32))) (Scalar.ofBits .bf16 0x0000#16 : F .bf16)) (k0_pay123 lim kb (shapeCast S512x640 b shapeCasts_S1x512x640_S512x640) (concatenate S512x256 0 [⟨S128x256, (extractStridedSlice S128x256 ![256, 256] q slices_S512x512_o256_256_S128x256)⟩, ⟨S128x256, (extractStridedSlice S128x256 ![256, 256] q slices_S512x512_o256_256_S128x256)⟩, ⟨S128x256, (extractStridedSlice S128x256 ![256, 256] q slices_S512x512_o256_256_S128x256)⟩, ⟨S128x256, (extractStridedSlice S128x256 ![256, 256] q slices_S512x512_o256_256_S128x256)⟩] concatenates_S128x256_S128x256_S128x256_S128x256_S512x256_d0) (cmpi CmpIPredicate.eq (shrsi (iota Kind.tc S512x256 32 [0] iota_S512x256_d0_w32) (broadcast S512x256 7#32)) (shrsi (iota Kind.tc S512x256 32 [1] iota_S512x256_d1_w32) (broadcast S512x256 6#32))) (Scalar.ofBits .bf16 0x0000#16 : F .bf16)) (k0_pay124 lim kb (shapeCast S512x640 b shapeCasts_S1x512x640_S512x640) (concatenate S512x256 0 [⟨S128x256, (extractStridedSlice S128x256 ![256, 256] q slices_S512x512_o256_256_S128x256)⟩, ⟨S128x256, (extractStridedSlice S128x256 ![256, 256] q slices_S512x512_o256_256_S128x256)⟩, ⟨S128x256, (extractStridedSlice S128x256 ![256, 256] q slices_S512x512_o256_256_S128x256)⟩, ⟨S128x256, (extractStridedSlice S128x256 ![256, 256] q slices_S512x512_o256_256_S128x256)⟩] concatenates_S128x256_S128x256_S128x256_S128x256_S512x256_d0) (cmpi CmpIPredicate.eq (shrsi (iota Kind.tc S512x256 32 [0] iota_S512x256_d0_w32) (broadcast S512x256 7#32)) (shrsi (iota Kind.tc S512x256 32 [1] iota_S512x256_d1_w32) (broadcast S512x256 6#32))) (Scalar.ofBits .bf16 0x0000#16 : F .bf16)) (k0_pay125 lim kb (shapeCast S512x640 b shapeCasts_S1x512x640_S512x640) (concatenate S512x256 0 [⟨S128x256, (extractStridedSlice S128x256 ![256, 256] q slices_S512x512_o256_256_S128x256)⟩, ⟨S128x256, (extractStridedSlice S128x256 ![256, 256] q slices_S512x512_o256_256_S128x256)⟩, ⟨S128x256, (extractStridedSlice S128x256 ![256, 256] q slices_S512x512_o256_256_S128x256)⟩, ⟨S128x256, (extractStridedSlice S128x256 ![256, 256] q slices_S512x512_o256_256_S128x256)⟩] concatenates_S128x256_S128x256_S128x256_S128x256_S512x256_d0) (cmpi CmpIPredicate.eq (shrsi (iota Kind.tc S512x256 32 [0] iota_S512x256_d0_w32) (broadcast S512x256 7#32)) (shrsi (iota Kind.tc S512x256 32 [1] iota_S512x256_d1_w32) (broadcast S512x256 6#32))) (Scalar.ofBits .bf16 0x0000#16 : F .bf16)) (k0_pay126 lim kb (shapeCast S512x640 b shapeCasts_S1x512x640_S512x640) (concatenate S512x256 0 [⟨S128x256, (extractStridedSlice S128x256 ![256, 256] q slices_S512x512_o256_256_S128x256)⟩, ⟨S128x256, (extractStridedSlice S128x256 ![256, 256] q slices_S512x512_o256_256_S128x256)⟩, ⟨S128x256, (extractStridedSlice S128x256 ![256, 256] q slices_S512x512_o256_256_S128x256)⟩, ⟨S128x256, (extractStridedSlice S128x256 ![256, 256] q slices_S512x512_o256_256_S128x256)⟩] concatenates_S128x256_S128x256_S128x256_S128x256_S512x256_d0) (cmpi CmpIPredicate.eq (shrsi (iota Kind.tc S512x256 32 [0] iota_S512x256_d0_w32) (broadcast S512x256 7#32)) (shrsi (iota Kind.tc S512x256 32 [1] iota_S512x256_d1_w32) (broadcast S512x256 6#32))) (Scalar.ofBits .bf16 0x0000#16 : F .bf16))) = attBlock (extractStridedSlice S128x256 ![256, 256] q slices_S512x512_o256_256_S128x256) kb vb b lim := rfl

/-- The block of attention at row 256, lane 0, as the kernel computes it. -/
theorem block_256_0 (q : FVec F S512x512 .bf16) (kb vb : Vec F S640x256 .bf16) (b : Vec F S1x512x640 .f32) (mu : BitVec 32) :
    (shapeCast S128x256 (truncf FTy.bf16 (select (cmpi CmpIPredicate.eq (shrsi (iota Kind.tc S128x256 32 [1] iota_S128x256_d1_w32) (broadcast S128x256 6#32)) (broadcast S128x256 3#32)) (mulf (extractStridedSlice S128x256 ![384, 0] (matmul dot_S512x640_S640x256_S512x256_1_0_0_1_n_n none (k0_pay112 (k0_pay99 b) (k0_pay100 q kb) (k0_pay101 mu) (k0_pay102 q mu kb b)) vb (constant S512x256 .f32 0x00000000#32 : FVec F S512x256 .f32)) slices_S512x256_o384_0_S128x256) (broadcastTo S128x256 (k0_pay111 (k0_pay99 b) (k0_pay100 q kb) (k0_pay101 mu)) broadcasts_S128x1_S128x256)) (select (cmpi CmpIPredicate.eq (shrsi (iota Kind.tc S128x256 32 [1] iota_S128x256_d1_w32) (broadcast S128x256 6#32)) (broadcast S128x256 2#32)) (mulf (extractStridedSlice S128x256 ![256, 0] (matmul dot_S512x640_S640x256_S512x256_1_0_0_1_n_n none (k0_pay112 (k0_pay99 b) (k0_pay100 q kb) (k0_pay101 mu) (k0_pay102 q mu kb b)) vb (constant S512x256 .f32 0x00000000#32 : FVec F S512x256 .f32)) slices_S512x256_o256_0_S128x256) (broadcastTo S128x256 (k0_pay109 (k0_pay99 b) (k0_pay100 q kb) (k0_pay101 mu)) broadcasts_S128x1_S128x256)) (select (cmpi CmpIPredicate.eq (shrsi (iota Kind.tc S128x256 32 [1] iota_S128x256_d1_w32) (broadcast S128x256 6#32)) (broadcast S128x256 1#32)) (mulf (extractStridedSlice S128x256 ![128, 0] (matmul dot_S512x640_S640x256_S512x256_1_0_0_1_n_n none (k0_pay112 (k0_pay99 b) (k0_pay100 q kb) (k0_pay101 mu) (k0_pay102 q mu kb b)) vb (constant S512x256 .f32 0x00000000#32 : FVec F S512x256 .f32)) slices_S512x256_o128_0_S128x256) (broadcastTo S128x256 (k0_pay107 (k0_pay99 b) (k0_pay100 q kb) (k0_pay101 mu)) broadcasts_S128x1_S128x256)) (mulf (extractStridedSlice S128x256 ![0, 0] (matmul dot_S512x640_S640x256_S512x256_1_0_0_1_n_n none (k0_pay112 (k0_pay99 b) (k0_pay100 q kb) (k0_pay101 mu) (k0_pay102 q mu kb b)) vb (constant S512x256 .f32 0x00000000#32 : FVec F S512x256 .f32)) slices_S512x256_o0_0_S128x256) (broadcastTo S128x256 (k0_pay105 (k0_pay103 q mu kb b) k0_pay104) broadcasts_S128x1_S128x256))))) bitsLt_bf16_f32) shapeCasts_S128x256_S128x256) = attBlock (extractStridedSlice S128x256 ![256, 0] q slices_S512x512_o256_0_S128x256) kb vb b (Scalar.subi 512#32 (Scalar.addi mu 256#32)) := rfl

/-- The block of attention at row 128, lane 256, as the kernel computes it. -/
theorem block_128_256 (q : FVec F S512x512 .bf16) (kb vb : Vec F S640x256 .bf16) (b : Vec F S1x512x640 .f32) (lim : BitVec 32) :
    k0_pay94 vb (k0_pay85 (k0_pay82 q lim kb b) (k0_pay83 q lim kb b)) (k0_pay86 (k0_pay82 q lim kb b) (k0_pay83 q lim kb b)) (k0_pay88 (k0_pay79 b) (k0_pay80 q kb) (k0_pay81 lim)) (k0_pay89 (k0_pay79 b) (k0_pay80 q kb) (k0_pay81 lim)) (k0_pay91 (k0_pay79 b) (k0_pay80 q kb) (k0_pay81 lim)) (k0_pay92 (k0_pay79 b) (k0_pay80 q kb) (k0_pay81 lim)) (k0_pay93 (k0_pay79 b) (k0_pay80 q kb) (k0_pay81 lim)) = attBlock (extractStridedSlice S128x256 ![128, 256] q slices_S512x512_o128_256_S128x256) kb vb b lim := rfl

/-- The block of attention at row 128, lane 0, as the kernel computes it. -/
theorem block_128_0 (q : FVec F S512x512 .bf16) (kb vb : Vec F S640x256 .bf16) (b : Vec F S1x512x640 .f32) (lim : BitVec 32) :
    k0_pay78 (k0_pay72 (k0_pay63 b) (k0_pay64 (k0_pay62 q) kb) (k0_pay65 lim)) (k0_pay74 (k0_pay63 b) (k0_pay64 (k0_pay62 q) kb) (k0_pay65 lim)) (k0_pay75 vb (k0_pay63 b) (k0_pay64 (k0_pay62 q) kb) (k0_pay65 lim) (k0_pay68 lim (k0_pay62 q) kb b) (k0_pay69 lim (k0_pay62 q) kb b)) k0_pay76 (k0_pay77 vb (k0_pay63 b) (k0_pay64 (k0_pay62 q) kb) (k0_pay65 lim) (k0_pay67 lim (k0_pay62 q) kb b) (k0_pay68 lim (k0_pay62 q) kb b) (k0_pay69 lim (k0_pay62 q) kb b) (k0_pay70 lim (k0_pay62 q) kb b)) = attBlock (extractStridedSlice S128x256 ![128, 0] q slices_S512x512_o128_0_S128x256) kb vb b lim := rfl

/-- The block of attention at row 0, lane 256, as the kernel computes it. -/
theorem block_0_256 (q : FVec F S512x512 .bf16) (kb vb : Vec F S640x256 .bf16) (b : Vec F S1x512x640 .f32) (lim : BitVec 32) :
    k0_pay57 (k0_pay51 (k0_pay42 b) (k0_pay43 (k0_pay41 q) kb) (k0_pay44 lim)) (k0_pay53 (k0_pay42 b) (k0_pay43 (k0_pay41 q) kb) (k0_pay44 lim)) (k0_pay54 vb (k0_pay42 b) (k0_pay43 (k0_pay41 q) kb) (k0_pay44 lim) (k0_pay47 lim (k0_pay41 q) kb b) (k0_pay48 lim (k0_pay41 q) kb b)) k0_pay55 (k0_pay56 vb (k0_pay42 b) (k0_pay43 (k0_pay41 q) kb) (k0_pay44 lim) (k0_pay46 lim (k0_pay41 q) kb b) (k0_pay47 lim (k0_pay41 q) kb b) (k0_pay48 lim (k0_pay41 q) kb b) (k0_pay49 lim (k0_pay41 q) kb b)) 2#32 = attBlock (extractStridedSlice S128x256 ![0, 256] q slices_S512x512_o0_256_S128x256) kb vb b lim := rfl

/-- The block of attention at row 0, lane 0, as the kernel computes it. -/
theorem block_0_0 (q : FVec F S512x512 .bf16) (kb vb : Vec F S640x256 .bf16) (b : Vec F S1x512x640 .f32) (lim : BitVec 32) :
    k0_pay40 vb (shapeCast S512x640 b shapeCasts_S1x512x640_S512x640) (k0_pay29 lim (iota Kind.tc S128x640 32 [1] iota_S128x640_d1_w32)) (k0_pay31 lim (shapeCast S512x640 b shapeCasts_S1x512x640_S512x640) (matmul dot_S512x256_S640x256_S512x640_1_1_0_0_n_n none (select (cmpi CmpIPredicate.eq (shrsi (iota Kind.tc S512x256 32 [0] iota_S512x256_d0_w32) (broadcast S512x256 7#32)) (shrsi (iota Kind.tc S512x256 32 [1] iota_S512x256_d1_w32) (broadcast S512x256 6#32))) (concatenate S512x256 0 [⟨S128x256, (extractStridedSlice S128x256 ![0, 0] q slices_S512x512_o0_0_S128x256)⟩, ⟨S128x256, (extractStridedSlice S128x256 ![0, 0] q slices_S512x512_o0_0_S128x256)⟩, ⟨S128x256, (extractStridedSlice S128x256 ![0, 0] q slices_S512x512_o0_0_S128x256)⟩, ⟨S128x256, (extractStridedSlice S128x256 ![0, 0] q slices_S512x512_o0_0_S128x256)⟩] concatenates_S128x256_S128x256_S128x256_S128x256_S512x256_d0) (broadcast S512x256 (Scalar.ofBits .bf16 0x0000#16 : F .bf16))) kb (constant S512x640 .f32 0x00000000#32 : FVec F S512x640 .f32)) (iota Kind.tc S128x640 32 [1] iota_S128x640_d1_w32)) (k0_pay32 lim (shapeCast S512x640 b shapeCasts_S1x512x640_S512x640) (matmul dot_S512x256_S640x256_S512x640_1_1_0_0_n_n none (select (cmpi CmpIPredicate.eq (shrsi (iota Kind.tc S512x256 32 [0] iota_S512x256_d0_w32) (broadcast S512x256 7#32)) (shrsi (iota Kind.tc S512x256 32 [1] iota_S512x256_d1_w32) (broadcast S512x256 6#32))) (concatenate S512x256 0 [⟨S128x256, (extractStridedSlice S128x256 ![0, 0] q slices_S512x512_o0_0_S128x256)⟩, ⟨S128x256, (extractStridedSlice S128x256 ![0, 0] q slices_S512x512_o0_0_S128x256)⟩, ⟨S128x256, (extractStridedSlice S128x256 ![0, 0] q slices_S512x512_o0_0_S128x256)⟩, ⟨S128x256, (extractStridedSlice S128x256 ![0, 0] q slices_S512x512_o0_0_S128x256)⟩] concatenates_S128x256_S128x256_S128x256_S128x256_S512x256_d0) (broadcast S512x256 (Scalar.ofBits .bf16 0x0000#16 : F .bf16))) kb (constant S512x640 .f32 0x00000000#32 : FVec F S512x640 .f32)) (iota Kind.tc S128x640 32 [1] iota_S128x640_d1_w32)) (k0_pay34 lim (shapeCast S512x640 b shapeCasts_S1x512x640_S512x640) (matmul dot_S512x256_S640x256_S512x640_1_1_0_0_n_n none (select (cmpi CmpIPredicate.eq (shrsi (iota Kind.tc S512x256 32 [0] iota_S512x256_d0_w32) (broadcast S512x256 7#32)) (shrsi (iota Kind.tc S512x256 32 [1] iota_S512x256_d1_w32) (broadcast S512x256 6#32))) (concatenate S512x256 0 [⟨S128x256, (extractStridedSlice S128x256 ![0, 0] q slices_S512x512_o0_0_S128x256)⟩, ⟨S128x256, (extractStridedSlice S128x256 ![0, 0] q slices_S512x512_o0_0_S128x256)⟩, ⟨S128x256, (extractStridedSlice S128x256 ![0, 0] q slices_S512x512_o0_0_S128x256)⟩, ⟨S128x256, (extractStridedSlice S128x256 ![0, 0] q slices_S512x512_o0_0_S128x256)⟩] concatenates_S128x256_S128x256_S128x256_S128x256_S512x256_d0) (broadcast S512x256 (Scalar.ofBits .bf16 0x0000#16 : F .bf16))) kb (constant S512x640 .f32 0x00000000#32 : FVec F S512x640 .f32)) (iota Kind.tc S128x640 32 [1] iota_S128x640_d1_w32)) (k0_pay35 lim (shapeCast S512x640 b shapeCasts_S1x512x640_S512x640) (matmul dot_S512x256_S640x256_S512x640_1_1_0_0_n_n none (select (cmpi CmpIPredicate.eq (shrsi (iota Kind.tc S512x256 32 [0] iota_S512x256_d0_w32) (broadcast S512x256 7#32)) (shrsi (iota Kind.tc S512x256 32 [1] iota_S512x256_d1_w32) (broadcast S512x256 6#32))) (concatenate S512x256 0 [⟨S128x256, (extractStridedSlice S128x256 ![0, 0] q slices_S512x512_o0_0_S128x256)⟩, ⟨S128x256, (extractStridedSlice S128x256 ![0, 0] q slices_S512x512_o0_0_S128x256)⟩, ⟨S128x256, (extractStridedSlice S128x256 ![0, 0] q slices_S512x512_o0_0_S128x256)⟩, ⟨S128x256, (extractStridedSlice S128x256 ![0, 0] q slices_S512x512_o0_0_S128x256)⟩] concatenates_S128x256_S128x256_S128x256_S128x256_S512x256_d0) (broadcast S512x256 (Scalar.ofBits .bf16 0x0000#16 : F .bf16))) kb (constant S512x640 .f32 0x00000000#32 : FVec F S512x640 .f32)) (iota Kind.tc S128x640 32 [1] iota_S128x640_d1_w32)) (k0_pay37 lim (shapeCast S512x640 b shapeCasts_S1x512x640_S512x640) (matmul dot_S512x256_S640x256_S512x640_1_1_0_0_n_n none (select (cmpi CmpIPredicate.eq (shrsi (iota Kind.tc S512x256 32 [0] iota_S512x256_d0_w32) (broadcast S512x256 7#32)) (shrsi (iota Kind.tc S512x256 32 [1] iota_S512x256_d1_w32) (broadcast S512x256 6#32))) (concatenate S512x256 0 [⟨S128x256, (extractStridedSlice S128x256 ![0, 0] q slices_S512x512_o0_0_S128x256)⟩, ⟨S128x256, (extractStridedSlice S128x256 ![0, 0] q slices_S512x512_o0_0_S128x256)⟩, ⟨S128x256, (extractStridedSlice S128x256 ![0, 0] q slices_S512x512_o0_0_S128x256)⟩, ⟨S128x256, (extractStridedSlice S128x256 ![0, 0] q slices_S512x512_o0_0_S128x256)⟩] concatenates_S128x256_S128x256_S128x256_S128x256_S512x256_d0) (broadcast S512x256 (Scalar.ofBits .bf16 0x0000#16 : F .bf16))) kb (constant S512x640 .f32 0x00000000#32 : FVec F S512x640 .f32)) (iota Kind.tc S128x640 32 [1] iota_S128x640_d1_w32)) (k0_pay38 lim (shapeCast S512x640 b shapeCasts_S1x512x640_S512x640) (matmul dot_S512x256_S640x256_S512x640_1_1_0_0_n_n none (select (cmpi CmpIPredicate.eq (shrsi (iota Kind.tc S512x256 32 [0] iota_S512x256_d0_w32) (broadcast S512x256 7#32)) (shrsi (iota Kind.tc S512x256 32 [1] iota_S512x256_d1_w32) (broadcast S512x256 6#32))) (concatenate S512x256 0 [⟨S128x256, (extractStridedSlice S128x256 ![0, 0] q slices_S512x512_o0_0_S128x256)⟩, ⟨S128x256, (extractStridedSlice S128x256 ![0, 0] q slices_S512x512_o0_0_S128x256)⟩, ⟨S128x256, (extractStridedSlice S128x256 ![0, 0] q slices_S512x512_o0_0_S128x256)⟩, ⟨S128x256, (extractStridedSlice S128x256 ![0, 0] q slices_S512x512_o0_0_S128x256)⟩] concatenates_S128x256_S128x256_S128x256_S128x256_S512x256_d0) (broadcast S512x256 (Scalar.ofBits .bf16 0x0000#16 : F .bf16))) kb (constant S512x640 .f32 0x00000000#32 : FVec F S512x640 .f32)) (iota Kind.tc S128x640 32 [1] iota_S128x640_d1_w32)) (k0_pay39 (matmul dot_S512x256_S640x256_S512x640_1_1_0_0_n_n none (select (cmpi CmpIPredicate.eq (shrsi (iota Kind.tc S512x256 32 [0] iota_S512x256_d0_w32) (broadcast S512x256 7#32)) (shrsi (iota Kind.tc S512x256 32 [1] iota_S512x256_d1_w32) (broadcast S512x256 6#32))) (concatenate S512x256 0 [⟨S128x256, (extractStridedSlice S128x256 ![0, 0] q slices_S512x512_o0_0_S128x256)⟩, ⟨S128x256, (extractStridedSlice S128x256 ![0, 0] q slices_S512x512_o0_0_S128x256)⟩, ⟨S128x256, (extractStridedSlice S128x256 ![0, 0] q slices_S512x512_o0_0_S128x256)⟩, ⟨S128x256, (extractStridedSlice S128x256 ![0, 0] q slices_S512x512_o0_0_S128x256)⟩] concatenates_S128x256_S128x256_S128x256_S128x256_S512x256_d0) (broadcast S512x256 (Scalar.ofBits .bf16 0x0000#16 : F .bf16))) kb (constant S512x640 .f32 0x00000000#32 : FVec F S512x640 .f32))) = attBlock (extractStridedSlice S128x256 ![0, 0] q slices_S512x512_o0_0_S128x256) kb vb b lim := rfl

end Cert.KernelIdeal.Hand

end
-- ==== Proof.Ideal.RowsA.lean ====
module
public import proofs.«01_k».proof.Proof.Ideal.RunA
public import proofs.«01_k».proof.Proof.Ideal.Blocks
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The block of output rows case A's run stores. -/
theorem x1_A (c : Dev nD) (i : grid0.Coords)
  (arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x128 .bf16) (harg12 : arg12.IsWhole)
  (arg13 : Memref sig .tc .vmem S1x128 .f32) (harg13 : arg13.IsWhole)
  (arg14 : Memref sig .tc .vmem S1x512x1024 .f32) (harg14 : arg14.IsWhole)
  (arg15 : Memref sig .tc .vmem S4096x128 .bf16) (harg15 : arg15.IsWhole)
  (arg16 : Memref sig .tc .vmem S1x512x512 .f32) (harg16 : arg16.IsWhole)
  (arg17 : Memref sig .tc .vmem S1x512x512 .f32) (harg17 : arg17.IsWhole)
  (arg18 : Memref sig .tc .vmem S1x8x512 .f32) (harg18 : arg18.IsWhole)
  (arg19 : Memref sig .tc .vmem S1x512x128 .f32) (harg19 : arg19.IsWhole)
  (arg20 : Memref sig .tc .vmem S1x128 .f32) (harg20 : arg20.IsWhole)
  (arg21 : Memref sig .tc .vmem S1024x512 .bf16) (harg21 : arg21.IsWhole)
  (arg22 : Memref sig .tc .vmem S1024x512 .bf16) (harg22 : arg22.IsWhole)
  (arg23 : Memref sig .tc .vmem S512x512 .bf16) (harg23 : arg23.IsWhole)
  (arg24 : Memref sig .tc .vmem S8x512 .f32) (harg24 : arg24.IsWhole)
  (arg25 : Memref sig .tc .vmem S1x128 .f32) (harg25 : arg25.IsWhole)
  (arg26 : Memref sig .tc .vmem S512x1024 .f32) (harg26 : arg26.IsWhole)
  (hc0 : cond0_0 i) (hc1 : cond0_1 i) (hc2 : cond0_2 i) (hc3 : ¬cond0_3 i)
  (x0 : Vec F S1x512x1024 .f32) (x1 : Vec F S1x6x1024 .f32) (x2 : Vec F S1x1024 .f32) (x3 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) (x11 : Vec F S1024x128 .bf16) (x12 : Vec F S1x128 .f32) (xs0 : Vec F S1024x512 .bf16) (xs1 : Vec F S1024x512 .bf16) (xs3 : Vec F S8x512 .f32) :
    (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).1
      = [⟨Rect.unit (s := S1x512x1024) ![0, 0, 0] S1x512x1024.size inb_S1x512x1024_S1x512x1024_0_0_0, (tileRd arg1 harg1 arg2 harg2 arg3 harg3 arg5 harg5 arg6 harg6 arg7 harg7 arg8 harg8 arg9 harg9 arg10 harg10 arg11 harg11 x0 x1 x2 x4 x5 x6 x7 x8 x9 x10).x1Out (arg23.view.readCov (Val := Elt F) (attPieces i (tileRd arg1 harg1 arg2 harg2 arg3 harg3 arg5 harg5 arg6 harg6 arg7 harg7 arg8 harg8 arg9 harg9 arg10 harg10 arg11 harg11 x0 x1 x2 x4 x5 x6 x7 x8 x9 x10).q (tileRd arg1 harg1 arg2 harg2 arg3 harg3 arg5 harg5 arg6 harg6 arg7 harg7 arg8 harg8 arg9 harg9 arg10 harg10 arg11 harg11 x0 x1 x2 x4 x5 x6 x7 x8 x9 x10).b0 (tileRd arg1 harg1 arg2 harg2 arg3 harg3 arg5 harg5 arg6 harg6 arg7 harg7 arg8 harg8 arg9 harg9 arg10 harg10 arg11 harg11 x0 x1 x2 x4 x5 x6 x7 x8 x9 x10).b1 (fun R => arg21.view.readCov (Val := Elt F) [⟨Rect.unit (s := S1024x512) ![512, 0] S512x512.size inb_S1024x512_S512x512_512_0, (tileRd arg1 harg1 arg2 harg2 arg3 harg3 arg5 harg5 arg6 harg6 arg7 harg7 arg8 harg8 arg9 harg9 arg10 harg10 arg11 harg11 x0 x1 x2 x4 x5 x6 x7 x8 x9 x10).kNew⟩, ⟨Rect.unit (s := S1024x512) ![0, 0] S512x512.size inb_S1024x512_S512x512_0_0, k0_pay6⟩] R) (fun R => arg22.view.readCov (Val := Elt F) [⟨Rect.unit (s := S1024x512) ![512, 0] S512x512.size inb_S1024x512_S512x512_512_0, (tileRd arg1 harg1 arg2 harg2 arg3 harg3 arg5 harg5 arg6 harg6 arg7 harg7 arg8 harg8 arg9 harg9 arg10 harg10 arg11 harg11 x0 x1 x2 x4 x5 x6 x7 x8 x9 x10).vNew⟩, ⟨Rect.unit (s := S1024x512) ![0, 0] S512x512.size inb_S1024x512_S512x512_0_0, k0_pay7⟩] R)) (Rect.unit (s := S512x512) ![0, 0] S512x512.size inb_S512x512_S512x512_0_0).toLoadRect) (arg24.view.readCov (Val := Elt F) [⟨Rect.unit (s := S8x512) ![0, 0] S8x512.size inb_S8x512_S8x512_0_0, k0_pay8⟩] (Rect.unit (s := S8x512) ![0, 0] S8x512.size inb_S8x512_S8x512_0_0).toLoadRect)⟩] := by
  refine Eq.trans (b := [⟨Rect.unit (s := S1x512x1024) ![0, 0, 0] S1x512x1024.size inb_S1x512x1024_S1x512x1024_0_0_0, (tileRd arg1 harg1 arg2 harg2 arg3 harg3 arg5 harg5 arg6 harg6 arg7 harg7 arg8 harg8 arg9 harg9 arg10 harg10 arg11 harg11 x0 x1 x2 x4 x5 x6 x7 x8 x9 x10).x1Out _ (arg24.view.readCov (Val := Elt F) [⟨Rect.unit (s := S8x512) ![0, 0] S8x512.size inb_S8x512_S8x512_0_0, k0_pay8⟩] (Rect.unit (s := S8x512) ![0, 0] S8x512.size inb_S8x512_S8x512_0_0).toLoadRect)⟩]) rfl ?_
  refine congrArg (fun a => ([⟨Rect.unit (s := S1x512x1024) ![0, 0, 0] S1x512x1024.size inb_S1x512x1024_S1x512x1024_0_0_0, (tileRd arg1 harg1 arg2 harg2 arg3 harg3 arg5 harg5 arg6 harg6 arg7 harg7 arg8 harg8 arg9 harg9 arg10 harg10 arg11 harg11 x0 x1 x2 x4 x5 x6 x7 x8 x9 x10).x1Out a (arg24.view.readCov (Val := Elt F) [⟨Rect.unit (s := S8x512) ![0, 0] S8x512.size inb_S8x512_S8x512_0_0, k0_pay8⟩] (Rect.unit (s := S8x512) ![0, 0] S8x512.size inb_S8x512_S8x512_0_0).toLoadRect)⟩] : List (View.Piece (Elt F) S1x512x1024 .f32))) ?_
  unfold run_A.sl.v1163 run_A.sl.H22_8 attPieces
  refine congrArg (fun L => arg23.view.readCov (Val := Elt F) L ((Rect.unit (s := S512x512) ![0, 0] S512x512.size inb_S512x512_S512x512_0_0).toLoadRect)) ?_
  refine attStores_congr ?_ ?_ ?_ ?_ ?_ ?_ ?_ ?_
  · exact (block_384_256 _ _ _ _ _).trans (attBlock_congr rfl rfl rfl rfl rfl)
  · exact (block_384_0 _ _ _ _ _).trans (attBlock_congr rfl rfl rfl rfl rfl)
  · exact (block_256_256 _ _ _ _ _).trans (attBlock_congr rfl rfl rfl rfl rfl)
  · exact (block_256_0 _ _ _ _ _).trans (attBlock_congr rfl rfl rfl rfl rfl)
  · exact (block_128_256 _ _ _ _ _).trans (attBlock_congr rfl rfl rfl rfl rfl)
  · exact (block_128_0 _ _ _ _ _).trans (attBlock_congr rfl rfl rfl rfl rfl)
  · exact (block_0_256 _ _ _ _ _).trans (attBlock_congr rfl rfl rfl rfl rfl)
  · exact (block_0_0 _ _ _ _ _).trans (attBlock_congr rfl rfl rfl rfl rfl)

end Cert.KernelIdeal.Hand

end
-- ==== Proof.Ideal.TileA.lean ====
module
public import proofs.«01_k».proof.Proof.Ideal.RowsA
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 40000000 in
/-- What case A's run stores, of the blocks and the carried scratch alone. -/
theorem pieces_A (c : Dev nD) (i : grid0.Coords)
(arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x128 .bf16) (harg12 : arg12.IsWhole)
  (arg13 : Memref sig .tc .vmem S1x128 .f32) (harg13 : arg13.IsWhole)
  (arg14 : Memref sig .tc .vmem S1x512x1024 .f32) (harg14 : arg14.IsWhole)
  (arg15 : Memref sig .tc .vmem S4096x128 .bf16) (harg15 : arg15.IsWhole)
  (arg16 : Memref sig .tc .vmem S1x512x512 .f32) (harg16 : arg16.IsWhole)
  (arg17 : Memref sig .tc .vmem S1x512x512 .f32) (harg17 : arg17.IsWhole)
  (arg18 : Memref sig .tc .vmem S1x8x512 .f32) (harg18 : arg18.IsWhole)
  (arg19 : Memref sig .tc .vmem S1x512x128 .f32) (harg19 : arg19.IsWhole)
  (arg20 : Memref sig .tc .vmem S1x128 .f32) (harg20 : arg20.IsWhole)
  (arg21 : Memref sig .tc .vmem S1024x512 .bf16) (harg21 : arg21.IsWhole)
  (arg22 : Memref sig .tc .vmem S1024x512 .bf16) (harg22 : arg22.IsWhole)
  (arg23 : Memref sig .tc .vmem S512x512 .bf16) (harg23 : arg23.IsWhole)
  (arg24 : Memref sig .tc .vmem S8x512 .f32) (harg24 : arg24.IsWhole)
  (arg25 : Memref sig .tc .vmem S1x128 .f32) (harg25 : arg25.IsWhole)
  (arg26 : Memref sig .tc .vmem S512x1024 .f32) (harg26 : arg26.IsWhole)
  (hc0 : cond0_0 i) (hc1 : cond0_1 i) (hc2 : cond0_2 i) (hc3 : ¬cond0_3 i)
  (x0 : Vec F S1x512x1024 .f32) (x1 : Vec F S1x6x1024 .f32) (x2 : Vec F S1x1024 .f32) (x3 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) (x11 : Vec F S1024x128 .bf16) (x12 : Vec F S1x128 .f32) (xs0 : Vec F S1024x512 .bf16) (xs1 : Vec F S1024x512 .bf16) (xs3 : Vec F S8x512 .f32) :
    (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).1 = [⟨Rect.unit (s := S1x512x1024) ![0, 0, 0] S1x512x1024.size inb_S1x512x1024_S1x512x1024_0_0_0, (tileOf x0 x1 x2 x4 x5 x6 x7 x8 x9 x10).x1Out ((tileOf x0 x1 x2 x4 x5 x6 x7 x8 x9 x10).att i k0_pay6 k0_pay7) k0_pay8⟩]
    ∧ (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.1 = [⟨Rect.unit (s := S1x512x512) ![0, 0, 0] S1x512x512.size inb_S1x512x512_S1x512x512_0_0_0, (tileOf x0 x1 x2 x4 x5 x6 x7 x8 x9 x10).kOut⟩]
    ∧ (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.1 = [⟨Rect.unit (s := S1x512x512) ![0, 0, 0] S1x512x512.size inb_S1x512x512_S1x512x512_0_0_0, (tileOf x0 x1 x2 x4 x5 x6 x7 x8 x9 x10).vOut⟩]
    ∧ (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.2.1 = [⟨Rect.unit (s := S1x8x512) ![0, 0, 0] S1x8x512.size inb_S1x8x512_S1x8x512_0_0_0, (tileOf x0 x1 x2 x4 x5 x6 x7 x8 x9 x10).uOut⟩]
    ∧ (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.2.2.1 = ⟨loR, (tileOf x0 x1 x2 x4 x5 x6 x7 x8 x9 x10).kNew⟩ :: ⟨hiR, (tileOf x0 x1 x2 x4 x5 x6 x7 x8 x9 x10).kNew⟩ :: [⟨loR, k0_pay6⟩]
    ∧ (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.2.2.2.1 = ⟨loR, (tileOf x0 x1 x2 x4 x5 x6 x7 x8 x9 x10).vNew⟩ :: ⟨hiR, (tileOf x0 x1 x2 x4 x5 x6 x7 x8 x9 x10).vNew⟩ :: [⟨loR, k0_pay7⟩]
    ∧ (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.2.2.2.2.1 = ⟨Rect.unit (s := S8x512) ![0, 0] S8x512.size inb_S8x512_S8x512_0_0, (tileOf x0 x1 x2 x4 x5 x6 x7 x8 x9 x10).u8⟩ :: [⟨Rect.unit (s := S8x512) ![0, 0] S8x512.size inb_S8x512_S8x512_0_0, k0_pay8⟩] := by
  have hT := tileRd_eq arg1 harg1 arg2 harg2 arg3 harg3 arg5 harg5 arg6 harg6 arg7 harg7 arg8 harg8 arg9 harg9 arg10 harg10 arg11 harg11 x0 x1 x2 x4 x5 x6 x7 x8 x9 x10
  refine ⟨?_, ?_, ?_, ?_, ?_, ?_, ?_⟩
  · have hk : (fun R => arg21.view.readCov (Val := Elt F) [⟨hiR, (tileRd arg1 harg1 arg2 harg2 arg3 harg3 arg5 harg5 arg6 harg6 arg7 harg7 arg8 harg8 arg9 harg9 arg10 harg10 arg11 harg11 x0 x1 x2 x4 x5 x6 x7 x8 x9 x10).kNew⟩, ⟨loR, k0_pay6⟩] R) = fun R y => ring k0_pay6 (tileRd arg1 harg1 arg2 harg2 arg3 harg3 arg5 harg5 arg6 harg6 arg7 harg7 arg8 harg8 arg9 harg9 arg10 harg10 arg11 harg11 x0 x1 x2 x4 x5 x6 x7 x8 x9 x10).kNew (R.idx y) := funext fun R => ring_fill arg21 _ _ R
    have hv : (fun R => arg22.view.readCov (Val := Elt F) [⟨hiR, (tileRd arg1 harg1 arg2 harg2 arg3 harg3 arg5 harg5 arg6 harg6 arg7 harg7 arg8 harg8 arg9 harg9 arg10 harg10 arg11 harg11 x0 x1 x2 x4 x5 x6 x7 x8 x9 x10).vNew⟩, ⟨loR, k0_pay7⟩] R) = fun R y => ring k0_pay7 (tileRd arg1 harg1 arg2 harg2 arg3 harg3 arg5 harg5 arg6 harg6 arg7 harg7 arg8 harg8 arg9 harg9 arg10 harg10 arg11 harg11 x0 x1 x2 x4 x5 x6 x7 x8 x9 x10).vNew (R.idx y) := funext fun R => ring_fill arg22 _ _ R
    have hu : (arg24.view.readCov (Val := Elt F) [⟨Rect.unit (s := S8x512) ![0, 0] S8x512.size inb_S8x512_S8x512_0_0, k0_pay8⟩] (Rect.unit (s := S8x512) ![0, 0] S8x512.size inb_S8x512_S8x512_0_0).toLoadRect) = k0_pay8 := View.readCov_unit_zero arg24.view (by funext a; fin_cases a <;> rfl) _ _
    refine Eq.trans (b := [⟨Rect.unit (s := S1x512x1024) ![0, 0, 0] S1x512x1024.size inb_S1x512x1024_S1x512x1024_0_0_0, (tileRd arg1 harg1 arg2 harg2 arg3 harg3 arg5 harg5 arg6 harg6 arg7 harg7 arg8 harg8 arg9 harg9 arg10 harg10 arg11 harg11 x0 x1 x2 x4 x5 x6 x7 x8 x9 x10).x1Out (arg23.view.readCov (Val := Elt F) (attPieces i (tileRd arg1 harg1 arg2 harg2 arg3 harg3 arg5 harg5 arg6 harg6 arg7 harg7 arg8 harg8 arg9 harg9 arg10 harg10 arg11 harg11 x0 x1 x2 x4 x5 x6 x7 x8 x9 x10).q (tileRd arg1 harg1 arg2 harg2 arg3 harg3 arg5 harg5 arg6 harg6 arg7 harg7 arg8 harg8 arg9 harg9 arg10 harg10 arg11 harg11 x0 x1 x2 x4 x5 x6 x7 x8 x9 x10).b0 (tileRd arg1 harg1 arg2 harg2 arg3 harg3 arg5 harg5 arg6 harg6 arg7 harg7 arg8 harg8 arg9 harg9 arg10 harg10 arg11 harg11 x0 x1 x2 x4 x5 x6 x7 x8 x9 x10).b1 (fun R => arg21.view.readCov (Val := Elt F) [⟨hiR, (tileRd arg1 harg1 arg2 harg2 arg3 harg3 arg5 harg5 arg6 harg6 arg7 harg7 arg8 harg8 arg9 harg9 arg10 harg10 arg11 harg11 x0 x1 x2 x4 x5 x6 x7 x8 x9 x10).kNew⟩, ⟨loR, k0_pay6⟩] R) (fun R => arg22.view.readCov (Val := Elt F) [⟨hiR, (tileRd arg1 harg1 arg2 harg2 arg3 harg3 arg5 harg5 arg6 harg6 arg7 harg7 arg8 harg8 arg9 harg9 arg10 harg10 arg11 harg11 x0 x1 x2 x4 x5 x6 x7 x8 x9 x10).vNew⟩, ⟨loR, k0_pay7⟩] R)) (Rect.unit (s := S512x512) ![0, 0] S512x512.size inb_S512x512_S512x512_0_0).toLoadRect) (arg24.view.readCov (Val := Elt F) [⟨Rect.unit (s := S8x512) ![0, 0] S8x512.size inb_S8x512_S8x512_0_0, k0_pay8⟩] (Rect.unit (s := S8x512) ![0, 0] S8x512.size inb_S8x512_S8x512_0_0).toLoadRect)⟩]) ?_ ?_
    · exact x1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3
    · rw [att_read, hk, hv, hu, hT]; rfl
  · exact (show (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.1 = [⟨Rect.unit (s := S1x512x512) ![0, 0, 0] S1x512x512.size inb_S1x512x512_S1x512x512_0_0_0, (tileRd arg1 harg1 arg2 harg2 arg3 harg3 arg5 harg5 arg6 harg6 arg7 harg7 arg8 harg8 arg9 harg9 arg10 harg10 arg11 harg11 x0 x1 x2 x4 x5 x6 x7 x8 x9 x10).kOut⟩] from rfl).trans (by rw [hT])
  · exact (show (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.1 = [⟨Rect.unit (s := S1x512x512) ![0, 0, 0] S1x512x512.size inb_S1x512x512_S1x512x512_0_0_0, (tileRd arg1 harg1 arg2 harg2 arg3 harg3 arg5 harg5 arg6 harg6 arg7 harg7 arg8 harg8 arg9 harg9 arg10 harg10 arg11 harg11 x0 x1 x2 x4 x5 x6 x7 x8 x9 x10).vOut⟩] from rfl).trans (by rw [hT])
  · exact (show (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.2.1 = [⟨Rect.unit (s := S1x8x512) ![0, 0, 0] S1x8x512.size inb_S1x8x512_S1x8x512_0_0_0, (tileRd arg1 harg1 arg2 harg2 arg3 harg3 arg5 harg5 arg6 harg6 arg7 harg7 arg8 harg8 arg9 harg9 arg10 harg10 arg11 harg11 x0 x1 x2 x4 x5 x6 x7 x8 x9 x10).uOut⟩] from rfl).trans (by rw [hT])
  · refine (show (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.2.2.1 = ⟨loR, k0_pay179 (arg21.view.readCov (Val := Elt F) [⟨hiR, (tileRd arg1 harg1 arg2 harg2 arg3 harg3 arg5 harg5 arg6 harg6 arg7 harg7 arg8 harg8 arg9 harg9 arg10 harg10 arg11 harg11 x0 x1 x2 x4 x5 x6 x7 x8 x9 x10).kNew⟩, ⟨loR, k0_pay6⟩] hiR.toLoadRect)⟩ :: ⟨hiR, (tileRd arg1 harg1 arg2 harg2 arg3 harg3 arg5 harg5 arg6 harg6 arg7 harg7 arg8 harg8 arg9 harg9 arg10 harg10 arg11 harg11 x0 x1 x2 x4 x5 x6 x7 x8 x9 x10).kNew⟩ :: [⟨loR, k0_pay6⟩] from rfl).trans ?_
    rw [hi_back, pay179_eq, hT]
  · refine (show (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.2.2.2.1 = ⟨loR, k0_pay180 (arg22.view.readCov (Val := Elt F) [⟨hiR, (tileRd arg1 harg1 arg2 harg2 arg3 harg3 arg5 harg5 arg6 harg6 arg7 harg7 arg8 harg8 arg9 harg9 arg10 harg10 arg11 harg11 x0 x1 x2 x4 x5 x6 x7 x8 x9 x10).vNew⟩, ⟨loR, k0_pay7⟩] hiR.toLoadRect)⟩ :: ⟨hiR, (tileRd arg1 harg1 arg2 harg2 arg3 harg3 arg5 harg5 arg6 harg6 arg7 harg7 arg8 harg8 arg9 harg9 arg10 harg10 arg11 harg11 x0 x1 x2 x4 x5 x6 x7 x8 x9 x10).vNew⟩ :: [⟨loR, k0_pay7⟩] from rfl).trans ?_
    rw [hi_back, pay180_eq, hT]
  · exact (show (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.2.2.2.2.1 = ⟨Rect.unit (s := S8x512) ![0, 0] S8x512.size inb_S8x512_S8x512_0_0, k0_pay187 (tileRd arg1 harg1 arg2 harg2 arg3 harg3 arg5 harg5 arg6 harg6 arg7 harg7 arg8 harg8 arg9 harg9 arg10 harg10 arg11 harg11 x0 x1 x2 x4 x5 x6 x7 x8 x9 x10).u⟩ :: [⟨Rect.unit (s := S8x512) ![0, 0] S8x512.size inb_S8x512_S8x512_0_0, k0_pay8⟩] from rfl).trans (by rw [pay187_eq, hT])

set_option maxHeartbeats 40000000 in
/-- Case A: what a tile's body is handed and what it leaves. -/
theorem tile_A (c : Dev nD) (i : grid0.Coords)
(arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x128 .bf16) (harg12 : arg12.IsWhole)
  (arg13 : Memref sig .tc .vmem S1x128 .f32) (harg13 : arg13.IsWhole)
  (arg14 : Memref sig .tc .vmem S1x512x1024 .f32) (harg14 : arg14.IsWhole)
  (arg15 : Memref sig .tc .vmem S4096x128 .bf16) (harg15 : arg15.IsWhole)
  (arg16 : Memref sig .tc .vmem S1x512x512 .f32) (harg16 : arg16.IsWhole)
  (arg17 : Memref sig .tc .vmem S1x512x512 .f32) (harg17 : arg17.IsWhole)
  (arg18 : Memref sig .tc .vmem S1x8x512 .f32) (harg18 : arg18.IsWhole)
  (arg19 : Memref sig .tc .vmem S1x512x128 .f32) (harg19 : arg19.IsWhole)
  (arg20 : Memref sig .tc .vmem S1x128 .f32) (harg20 : arg20.IsWhole)
  (arg21 : Memref sig .tc .vmem S1024x512 .bf16) (harg21 : arg21.IsWhole)
  (arg22 : Memref sig .tc .vmem S1024x512 .bf16) (harg22 : arg22.IsWhole)
  (arg23 : Memref sig .tc .vmem S512x512 .bf16) (harg23 : arg23.IsWhole)
  (arg24 : Memref sig .tc .vmem S8x512 .f32) (harg24 : arg24.IsWhole)
  (arg25 : Memref sig .tc .vmem S1x128 .f32) (harg25 : arg25.IsWhole)
  (arg26 : Memref sig .tc .vmem S512x1024 .f32) (harg26 : arg26.IsWhole)
  (hc0 : cond0_0 i) (hc1 : cond0_1 i) (hc2 : cond0_2 i) (hc3 : ¬cond0_3 i)
  (x0 : Vec F S1x512x1024 .f32) (x1 : Vec F S1x6x1024 .f32) (x2 : Vec F S1x1024 .f32) (x3 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) (x11 : Vec F S1024x128 .bf16) (x12 : Vec F S1x128 .f32) (xs0 : Vec F S1024x512 .bf16) (xs1 : Vec F S1024x512 .bf16) (xs3 : Vec F S8x512 .f32) (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare x9
      ∗ owns (c : Thread nD τ) arg11 fullShare x10
      ∗ owns (c : Thread nD τ) arg12 fullShare x11
      ∗ owns (c : Thread nD τ) arg13 fullShare x12
      ∗ (∃ d, owns (c : Thread nD τ) arg14 fullShare d)
      ∗ (∃ d, owns (c : Thread nD τ) arg15 fullShare d)
      ∗ (∃ d, owns (c : Thread nD τ) arg16 fullShare d)
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ owns (c : Thread nD τ) arg21 fullShare xs0
      ∗ owns (c : Thread nD τ) arg22 fullShare xs1
      ∗ (∃ d, owns (c : Thread nD τ) arg23 fullShare d)
      ∗ owns (c : Thread nD τ) arg24 fullShare xs3
      ∗ (∃ d, owns (c : Thread nD τ) arg25 fullShare d)
      ∗ (∃ d, owns (c : Thread nD τ) arg26 fullShare d)
      ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare ((tileOf x0 x1 x2 x4 x5 x6 x7 x8 x9 x10).x1Out ((tileOf x0 x1 x2 x4 x5 x6 x7 x8 x9 x10).att i k0_pay6 k0_pay7) k0_pay8)
          ∗ (∃ d, owns (c : Thread nD τ) arg15 fullShare d)
          ∗ owns (c : Thread nD τ) arg16 fullShare (tileOf x0 x1 x2 x4 x5 x6 x7 x8 x9 x10).kOut
          ∗ owns (c : Thread nD τ) arg17 fullShare (tileOf x0 x1 x2 x4 x5 x6 x7 x8 x9 x10).vOut
          ∗ owns (c : Thread nD τ) arg18 fullShare (tileOf x0 x1 x2 x4 x5 x6 x7 x8 x9 x10).uOut
          ∗ (∃ d, owns (c : Thread nD τ) arg19 fullShare d)
          ∗ (∃ d, owns (c : Thread nD τ) arg20 fullShare d)
          ∗ owns (c : Thread nD τ) arg21 fullShare (ring (tileOf x0 x1 x2 x4 x5 x6 x7 x8 x9 x10).kNew (tileOf x0 x1 x2 x4 x5 x6 x7 x8 x9 x10).kNew)
          ∗ owns (c : Thread nD τ) arg22 fullShare (ring (tileOf x0 x1 x2 x4 x5 x6 x7 x8 x9 x10).vNew (tileOf x0 x1 x2 x4 x5 x6 x7 x8 x9 x10).vNew)
          ∗ (∃ d, owns (c : Thread nD τ) arg23 fullShare d)
          ∗ owns (c : Thread nD τ) arg24 fullShare (tileOf x0 x1 x2 x4 x5 x6 x7 x8 x9 x10).u8
          ∗ (∃ d, owns (c : Thread nD τ) arg25 fullShare d)
          ∗ (∃ d, owns (c : Thread nD τ) arg26 fullShare d)) -∗ K ⟨⟩))
      ⊢ wp frame (wpE (defs₀ (F := F)) Variants.none c none) E (cc0_prompt_main i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨e13, e15, e16, e17, e20, e21, e23⟩ := pieces_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3
  generalize (run_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3) = r at e13 e15 e16 e17 e20 e21 e23
  obtain ⟨L13, L15, L16, L17, L20, L21, L23, hr⟩ := r
  dsimp only at e13 e15 e16 e17 e20 e21 e23
  subst e13 e15 e16 e17 e20 e21 e23
  have hrun := hr E K
  iintro ⟨H0, H1, H2, H3, H4, H5, H6, H7, H8, H9, H10, H11, H12, H13, H14, H15, H16, H17, H18, H19, H20, H21, H22, H23, H24, H25, Hk⟩
  iapply hrun
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H0, H1, H2, H3, H4, H5, H6, H7, H8, H9, H10, H11, H12, H13, H14, H15, H16, H17, H18, H19, H20, H21, H22, H23, H24, H25⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply (owns_of_whole c arg14 (off := ![0, 0, 0]) (by funext a; fin_cases a <;> rfl) _ _ _); iexact H13
  isplitl [H14]; · iexact H14
  isplitl [H15]; · iapply (owns_of_whole c arg16 (off := ![0, 0, 0]) (by funext a; fin_cases a <;> rfl) _ _ _); iexact H15
  isplitl [H16]; · iapply (owns_of_whole c arg17 (off := ![0, 0, 0]) (by funext a; fin_cases a <;> rfl) _ _ _); iexact H16
  isplitl [H17]; · iapply (owns_of_whole c arg18 (off := ![0, 0, 0]) (by funext a; fin_cases a <;> rfl) _ _ _); iexact H17
  isplitl [H18]; · iexact H18
  isplitl [H19]; · iexact H19
  isplitl [H20]; · iapply (owns_of_ring c arg21 _ _); iexact H20
  isplitl [H21]; · iapply (owns_of_ring c arg22 _ _); iexact H21
  isplitl [H22]; · iexact H22
  isplitl [H23]; · iapply (owns_of_whole c arg24 (off := ![0, 0]) (by funext a; fin_cases a <;> rfl) _ _ _); iexact H23
  isplitl [H24]; · iexact H24
  iexact H25

end Cert.KernelIdeal.Hand

end
-- ==== Proof.Ideal.RunB.lean ====
module

public import proofs.«01_k».proof.Proof.Ideal.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 3200000 in
noncomputable def run_B (c : Dev nD) (i : grid0.Coords)
  (arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x128 .bf16) (harg12 : arg12.IsWhole)
  (arg13 : Memref sig .tc .vmem S1x128 .f32) (harg13 : arg13.IsWhole)
  (arg14 : Memref sig .tc .vmem S1x512x1024 .f32) (harg14 : arg14.IsWhole)
  (arg15 : Memref sig .tc .vmem S4096x128 .bf16) (harg15 : arg15.IsWhole)
  (arg16 : Memref sig .tc .vmem S1x512x512 .f32) (harg16 : arg16.IsWhole)
  (arg17 : Memref sig .tc .vmem S1x512x512 .f32) (harg17 : arg17.IsWhole)
  (arg18 : Memref sig .tc .vmem S1x8x512 .f32) (harg18 : arg18.IsWhole)
  (arg19 : Memref sig .tc .vmem S1x512x128 .f32) (harg19 : arg19.IsWhole)
  (arg20 : Memref sig .tc .vmem S1x128 .f32) (harg20 : arg20.IsWhole)
  (arg21 : Memref sig .tc .vmem S1024x512 .bf16) (harg21 : arg21.IsWhole)
  (arg22 : Memref sig .tc .vmem S1024x512 .bf16) (harg22 : arg22.IsWhole)
  (arg23 : Memref sig .tc .vmem S512x512 .bf16) (harg23 : arg23.IsWhole)
  (arg24 : Memref sig .tc .vmem S8x512 .f32) (harg24 : arg24.IsWhole)
  (arg25 : Memref sig .tc .vmem S1x128 .f32) (harg25 : arg25.IsWhole)
  (arg26 : Memref sig .tc .vmem S512x1024 .f32) (harg26 : arg26.IsWhole)
  (hc0 : ¬cond0_0 i) (hc1 : cond0_1 i) (hc2 : ¬cond0_2 i) (hc3 : ¬cond0_3 i)
  (x0 : Vec F S1x512x1024 .f32) (x1 : Vec F S1x6x1024 .f32) (x2 : Vec F S1x1024 .f32) (x3 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) (x11 : Vec F S1024x128 .bf16) (x12 : Vec F S1x128 .f32) (xs0 : Vec F S1024x512 .bf16) (xs1 : Vec F S1024x512 .bf16) (xs3 : Vec F S8x512 .f32) :
    Σ' (L13 : List (View.Piece (Elt F) S1x512x1024 .f32)), Σ' (L15 : List (View.Piece (Elt F) S1x512x512 .f32)), Σ' (L16 : List (View.Piece (Elt F) S1x512x512 .f32)), Σ' (L17 : List (View.Piece (Elt F) S1x8x512 .f32)), Σ' (L20 : List (View.Piece (Elt F) S1024x512 .bf16)), Σ' (L21 : List (View.Piece (Elt F) S1024x512 .bf16)), { L23 : List (View.Piece (Elt F) S8x512 .f32) //
    ∀ (E : Set ℕ) (K : PUnit → sProp 𝕄), iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ owns (c : Thread nD τ) arg21 fullShare xs0
        ∗ owns (c : Thread nD τ) arg22 fullShare xs1
        ∗ (∃ d, owns (c : Thread nD τ) arg23 fullShare d)
        ∗ owns (c : Thread nD τ) arg24 fullShare xs3
        ∗ (∃ d, owns (c : Thread nD τ) arg25 fullShare d)
        ∗ (∃ d, owns (c : Thread nD τ) arg26 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ (∃ f, arg14.view.loc (c : Thread nD τ) ↦[arg14.view.set]{fullShare} arg14.view.writes (Elt F) f L13)
            ∗ (∃ d, owns (c : Thread nD τ) arg15 fullShare d)
            ∗ (∃ f, arg16.view.loc (c : Thread nD τ) ↦[arg16.view.set]{fullShare} arg16.view.writes (Elt F) f L15)
            ∗ (∃ f, arg17.view.loc (c : Thread nD τ) ↦[arg17.view.set]{fullShare} arg17.view.writes (Elt F) f L16)
            ∗ (∃ f, arg18.view.loc (c : Thread nD τ) ↦[arg18.view.set]{fullShare} arg18.view.writes (Elt F) f L17)
            ∗ (∃ d, owns (c : Thread nD τ) arg19 fullShare d)
            ∗ (∃ d, owns (c : Thread nD τ) arg20 fullShare d)
            ∗ (∃ f, arg21.view.loc (c : Thread nD τ) ↦[arg21.view.set]{fullShare} arg21.view.writes (Elt F) f L20)
            ∗ (∃ f, arg22.view.loc (c : Thread nD τ) ↦[arg22.view.set]{fullShare} arg22.view.writes (Elt F) f L21)
            ∗ (∃ d, owns (c : Thread nD τ) arg23 fullShare d)
            ∗ (∃ f, arg24.view.loc (c : Thread nD τ) ↦[arg24.view.set]{fullShare} arg24.view.writes (Elt F) f L23)
            ∗ (∃ d, owns (c : Thread nD τ) arg25 fullShare d)
            ∗ (∃ d, owns (c : Thread nD τ) arg26 fullShare d)) -∗ K ⟨⟩))
      ⊢ wp frame (wpE (defs₀ (F := F)) Variants.none c none) E (cc0_prompt_main i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, fun E K => ?run⟩
  case run =>
    simp only [cc0_prompt_main_eq_skeleton]; unfold cc0_prompt_main_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    have e15 : ∀ g, (arg15.view.loc (c : Thread nD τ) ↦[arg15.view.set]{fullShare} g : sProp 𝕄) = ((arg15.reshape S2048x2x128 reshapes_S4096x128_S2048x2x128.1 reshapes_S4096x128_S2048x2x128.2 harg15.contiguous).view.loc (c : Thread nD τ) ↦[(arg15.reshape S2048x2x128 reshapes_S4096x128_S2048x2x128.1 reshapes_S4096x128_S2048x2x128.2 harg15.contiguous).view.set]{fullShare} g) := fun g => by
      rw [show (arg15.reshape S2048x2x128 reshapes_S4096x128_S2048x2x128.1 reshapes_S4096x128_S2048x2x128.2 harg15.contiguous).view.set = arg15.view.set from View.set_reshape _ _]
    simp only [e15]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%f20, %hf20, H20⟩, ⟨%f21, %hf21, H21⟩, ⟨%d22, %f22, -, H22⟩, ⟨%f23, %hf23, H23⟩, ⟨%d24, %f24, -, H24⟩, ⟨%d25, %f25, -, H25⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg21.eq_unread hf20; obtain rfl := harg22.eq_unread hf21; obtain rfl := harg24.eq_unread hf23
    sl_exec (disch := first | sl_exact hc0 | sl_exact hc1 | sl_exact hc2 | sl_exact hc3)
    repeat (sl_step; try sl_exec (disch := first | sl_exact hc0 | sl_exact hc1 | sl_exact hc2 | sl_exact hc3))
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; iexact H13
    isplitl [H14]
    · iexists _, _; isplitr; swap; · iexact H14
      ipureintro; rfl
    isplitl [H15]
    · iexists _; iexact H15
    isplitl [H16]
    · iexists _; iexact H16
    isplitl [H17]
    · iexists _; iexact H17
    isplitl [H18]
    · iexists _, _; isplitr; swap; · iexact H18
      ipureintro; rfl
    isplitl [H19]
    · iexists _, _; isplitr; swap; · iexact H19
      ipureintro; rfl
    isplitl [H20]
    · iexists _; iexact H20
    isplitl [H21]
    · iexists _; iexact H21
    isplitl [H22]
    · iexists _, _; isplitr; swap; · iexact H22
      ipureintro; rfl
    isplitl [H23]
    · iexists _; iexact H23
    isplitl [H24]
    · iexists _, _; isplitr; swap; · iexact H24
      ipureintro; rfl
    iexists _, _; isplitr; swap; · iexact H25
    ipureintro; rfl

end Cert.KernelIdeal.Hand

end
-- ==== Proof.Ideal.RowsB.lean ====
module
public import proofs.«01_k».proof.Proof.Ideal.RunB
public import proofs.«01_k».proof.Proof.Ideal.Blocks
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The block of output rows case B's run stores. -/
theorem x1_B (c : Dev nD) (i : grid0.Coords)
  (arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x128 .bf16) (harg12 : arg12.IsWhole)
  (arg13 : Memref sig .tc .vmem S1x128 .f32) (harg13 : arg13.IsWhole)
  (arg14 : Memref sig .tc .vmem S1x512x1024 .f32) (harg14 : arg14.IsWhole)
  (arg15 : Memref sig .tc .vmem S4096x128 .bf16) (harg15 : arg15.IsWhole)
  (arg16 : Memref sig .tc .vmem S1x512x512 .f32) (harg16 : arg16.IsWhole)
  (arg17 : Memref sig .tc .vmem S1x512x512 .f32) (harg17 : arg17.IsWhole)
  (arg18 : Memref sig .tc .vmem S1x8x512 .f32) (harg18 : arg18.IsWhole)
  (arg19 : Memref sig .tc .vmem S1x512x128 .f32) (harg19 : arg19.IsWhole)
  (arg20 : Memref sig .tc .vmem S1x128 .f32) (harg20 : arg20.IsWhole)
  (arg21 : Memref sig .tc .vmem S1024x512 .bf16) (harg21 : arg21.IsWhole)
  (arg22 : Memref sig .tc .vmem S1024x512 .bf16) (harg22 : arg22.IsWhole)
  (arg23 : Memref sig .tc .vmem S512x512 .bf16) (harg23 : arg23.IsWhole)
  (arg24 : Memref sig .tc .vmem S8x512 .f32) (harg24 : arg24.IsWhole)
  (arg25 : Memref sig .tc .vmem S1x128 .f32) (harg25 : arg25.IsWhole)
  (arg26 : Memref sig .tc .vmem S512x1024 .f32) (harg26 : arg26.IsWhole)
  (hc0 : ¬cond0_0 i) (hc1 : cond0_1 i) (hc2 : ¬cond0_2 i) (hc3 : ¬cond0_3 i)
  (x0 : Vec F S1x512x1024 .f32) (x1 : Vec F S1x6x1024 .f32) (x2 : Vec F S1x1024 .f32) (x3 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) (x11 : Vec F S1024x128 .bf16) (x12 : Vec F S1x128 .f32) (xs0 : Vec F S1024x512 .bf16) (xs1 : Vec F S1024x512 .bf16) (xs3 : Vec F S8x512 .f32) :
    (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).1
      = [⟨Rect.unit (s := S1x512x1024) ![0, 0, 0] S1x512x1024.size inb_S1x512x1024_S1x512x1024_0_0_0, (tileRd arg1 harg1 arg2 harg2 arg3 harg3 arg5 harg5 arg6 harg6 arg7 harg7 arg8 harg8 arg9 harg9 arg10 harg10 arg11 harg11 x0 x1 x2 x4 x5 x6 x7 x8 x9 x10).x1Out (arg23.view.readCov (Val := Elt F) (attPieces i (tileRd arg1 harg1 arg2 harg2 arg3 harg3 arg5 harg5 arg6 harg6 arg7 harg7 arg8 harg8 arg9 harg9 arg10 harg10 arg11 harg11 x0 x1 x2 x4 x5 x6 x7 x8 x9 x10).q (tileRd arg1 harg1 arg2 harg2 arg3 harg3 arg5 harg5 arg6 harg6 arg7 harg7 arg8 harg8 arg9 harg9 arg10 harg10 arg11 harg11 x0 x1 x2 x4 x5 x6 x7 x8 x9 x10).b0 (tileRd arg1 harg1 arg2 harg2 arg3 harg3 arg5 harg5 arg6 harg6 arg7 harg7 arg8 harg8 arg9 harg9 arg10 harg10 arg11 harg11 x0 x1 x2 x4 x5 x6 x7 x8 x9 x10).b1 (fun R => View.readAt (Elt F) arg21.view R (arg21.view.writes (Elt F) (harg21.unread xs0) [⟨Rect.unit (s := S1024x512) ![512, 0] S512x512.size inb_S1024x512_S512x512_512_0, (tileRd arg1 harg1 arg2 harg2 arg3 harg3 arg5 harg5 arg6 harg6 arg7 harg7 arg8 harg8 arg9 harg9 arg10 harg10 arg11 harg11 x0 x1 x2 x4 x5 x6 x7 x8 x9 x10).kNew⟩])) (fun R => View.readAt (Elt F) arg22.view R (arg22.view.writes (Elt F) (harg22.unread xs1) [⟨Rect.unit (s := S1024x512) ![512, 0] S512x512.size inb_S1024x512_S512x512_512_0, (tileRd arg1 harg1 arg2 harg2 arg3 harg3 arg5 harg5 arg6 harg6 arg7 harg7 arg8 harg8 arg9 harg9 arg10 harg10 arg11 harg11 x0 x1 x2 x4 x5 x6 x7 x8 x9 x10).vNew⟩]))) (Rect.unit (s := S512x512) ![0, 0] S512x512.size inb_S512x512_S512x512_0_0).toLoadRect) (View.readAt (Elt F) arg24.view (Rect.unit (s := S8x512) ![0, 0] S8x512.size inb_S8x512_S8x512_0_0).toLoadRect (harg24.unread xs3))⟩] := by
  refine Eq.trans (b := [⟨Rect.unit (s := S1x512x1024) ![0, 0, 0] S1x512x1024.size inb_S1x512x1024_S1x512x1024_0_0_0, (tileRd arg1 harg1 arg2 harg2 arg3 harg3 arg5 harg5 arg6 harg6 arg7 harg7 arg8 harg8 arg9 harg9 arg10 harg10 arg11 harg11 x0 x1 x2 x4 x5 x6 x7 x8 x9 x10).x1Out _ (View.readAt (Elt F) arg24.view (Rect.unit (s := S8x512) ![0, 0] S8x512.size inb_S8x512_S8x512_0_0).toLoadRect (harg24.unread xs3))⟩]) rfl ?_
  refine congrArg (fun a => ([⟨Rect.unit (s := S1x512x1024) ![0, 0, 0] S1x512x1024.size inb_S1x512x1024_S1x512x1024_0_0_0, (tileRd arg1 harg1 arg2 harg2 arg3 harg3 arg5 harg5 arg6 harg6 arg7 harg7 arg8 harg8 arg9 harg9 arg10 harg10 arg11 harg11 x0 x1 x2 x4 x5 x6 x7 x8 x9 x10).x1Out a (View.readAt (Elt F) arg24.view (Rect.unit (s := S8x512) ![0, 0] S8x512.size inb_S8x512_S8x512_0_0).toLoadRect (harg24.unread xs3))⟩] : List (View.Piece (Elt F) S1x512x1024 .f32))) ?_
  unfold run_B.sl.v1163 run_B.sl.H22_8 attPieces
  refine congrArg (fun L => arg23.view.readCov (Val := Elt F) L ((Rect.unit (s := S512x512) ![0, 0] S512x512.size inb_S512x512_S512x512_0_0).toLoadRect)) ?_
  refine attStores_congr ?_ ?_ ?_ ?_ ?_ ?_ ?_ ?_
  · exact (block_384_256 _ _ _ _ _).trans (attBlock_congr rfl rfl rfl rfl rfl)
  · exact (block_384_0 _ _ _ _ _).trans (attBlock_congr rfl rfl rfl rfl rfl)
  · exact (block_256_256 _ _ _ _ _).trans (attBlock_congr rfl rfl rfl rfl rfl)
  · exact (block_256_0 _ _ _ _ _).trans (attBlock_congr rfl rfl rfl rfl rfl)
  · exact (block_128_256 _ _ _ _ _).trans (attBlock_congr rfl rfl rfl rfl rfl)
  · exact (block_128_0 _ _ _ _ _).trans (attBlock_congr rfl rfl rfl rfl rfl)
  · exact (block_0_256 _ _ _ _ _).trans (attBlock_congr rfl rfl rfl rfl rfl)
  · exact (block_0_0 _ _ _ _ _).trans (attBlock_congr rfl rfl rfl rfl rfl)

end Cert.KernelIdeal.Hand

end
-- ==== Proof.Ideal.TileB.lean ====
module
public import proofs.«01_k».proof.Proof.Ideal.RowsB
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 40000000 in
/-- What case B's run stores, of the blocks and the carried scratch alone. -/
theorem pieces_B (c : Dev nD) (i : grid0.Coords)
(arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x128 .bf16) (harg12 : arg12.IsWhole)
  (arg13 : Memref sig .tc .vmem S1x128 .f32) (harg13 : arg13.IsWhole)
  (arg14 : Memref sig .tc .vmem S1x512x1024 .f32) (harg14 : arg14.IsWhole)
  (arg15 : Memref sig .tc .vmem S4096x128 .bf16) (harg15 : arg15.IsWhole)
  (arg16 : Memref sig .tc .vmem S1x512x512 .f32) (harg16 : arg16.IsWhole)
  (arg17 : Memref sig .tc .vmem S1x512x512 .f32) (harg17 : arg17.IsWhole)
  (arg18 : Memref sig .tc .vmem S1x8x512 .f32) (harg18 : arg18.IsWhole)
  (arg19 : Memref sig .tc .vmem S1x512x128 .f32) (harg19 : arg19.IsWhole)
  (arg20 : Memref sig .tc .vmem S1x128 .f32) (harg20 : arg20.IsWhole)
  (arg21 : Memref sig .tc .vmem S1024x512 .bf16) (harg21 : arg21.IsWhole)
  (arg22 : Memref sig .tc .vmem S1024x512 .bf16) (harg22 : arg22.IsWhole)
  (arg23 : Memref sig .tc .vmem S512x512 .bf16) (harg23 : arg23.IsWhole)
  (arg24 : Memref sig .tc .vmem S8x512 .f32) (harg24 : arg24.IsWhole)
  (arg25 : Memref sig .tc .vmem S1x128 .f32) (harg25 : arg25.IsWhole)
  (arg26 : Memref sig .tc .vmem S512x1024 .f32) (harg26 : arg26.IsWhole)
  (hc0 : ¬cond0_0 i) (hc1 : cond0_1 i) (hc2 : ¬cond0_2 i) (hc3 : ¬cond0_3 i)
  (x0 : Vec F S1x512x1024 .f32) (x1 : Vec F S1x6x1024 .f32) (x2 : Vec F S1x1024 .f32) (x3 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) (x11 : Vec F S1024x128 .bf16) (x12 : Vec F S1x128 .f32) (kp kq vp vq : Vec F S512x512 .bf16) (up : Vec F S8x512 .f32) :
    (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 (ring kp kq) (ring vp vq) up).1 = [⟨Rect.unit (s := S1x512x1024) ![0, 0, 0] S1x512x1024.size inb_S1x512x1024_S1x512x1024_0_0_0, (tileOf x0 x1 x2 x4 x5 x6 x7 x8 x9 x10).x1Out ((tileOf x0 x1 x2 x4 x5 x6 x7 x8 x9 x10).att i kp vp) up⟩]
    ∧ (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 (ring kp kq) (ring vp vq) up).2.1 = [⟨Rect.unit (s := S1x512x512) ![0, 0, 0] S1x512x512.size inb_S1x512x512_S1x512x512_0_0_0, (tileOf x0 x1 x2 x4 x5 x6 x7 x8 x9 x10).kOut⟩]
    ∧ (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 (ring kp kq) (ring vp vq) up).2.2.1 = [⟨Rect.unit (s := S1x512x512) ![0, 0, 0] S1x512x512.size inb_S1x512x512_S1x512x512_0_0_0, (tileOf x0 x1 x2 x4 x5 x6 x7 x8 x9 x10).vOut⟩]
    ∧ (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 (ring kp kq) (ring vp vq) up).2.2.2.1 = [⟨Rect.unit (s := S1x8x512) ![0, 0, 0] S1x8x512.size inb_S1x8x512_S1x8x512_0_0_0, (tileOf x0 x1 x2 x4 x5 x6 x7 x8 x9 x10).uOut⟩]
    ∧ (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 (ring kp kq) (ring vp vq) up).2.2.2.2.1 = ⟨loR, (tileOf x0 x1 x2 x4 x5 x6 x7 x8 x9 x10).kNew⟩ :: ⟨hiR, (tileOf x0 x1 x2 x4 x5 x6 x7 x8 x9 x10).kNew⟩ :: []
    ∧ (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 (ring kp kq) (ring vp vq) up).2.2.2.2.2.1 = ⟨loR, (tileOf x0 x1 x2 x4 x5 x6 x7 x8 x9 x10).vNew⟩ :: ⟨hiR, (tileOf x0 x1 x2 x4 x5 x6 x7 x8 x9 x10).vNew⟩ :: []
    ∧ (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 (ring kp kq) (ring vp vq) up).2.2.2.2.2.2.1 = ⟨Rect.unit (s := S8x512) ![0, 0] S8x512.size inb_S8x512_S8x512_0_0, (tileOf x0 x1 x2 x4 x5 x6 x7 x8 x9 x10).u8⟩ :: [] := by
  have hT := tileRd_eq arg1 harg1 arg2 harg2 arg3 harg3 arg5 harg5 arg6 harg6 arg7 harg7 arg8 harg8 arg9 harg9 arg10 harg10 arg11 harg11 x0 x1 x2 x4 x5 x6 x7 x8 x9 x10
  refine ⟨?_, ?_, ?_, ?_, ?_, ?_, ?_⟩
  · have hk : (fun R => View.readAt (Elt F) arg21.view R (arg21.view.writes (Elt F) (harg21.unread (ring kp kq)) [⟨hiR, (tileRd arg1 harg1 arg2 harg2 arg3 harg3 arg5 harg5 arg6 harg6 arg7 harg7 arg8 harg8 arg9 harg9 arg10 harg10 arg11 harg11 x0 x1 x2 x4 x5 x6 x7 x8 x9 x10).kNew⟩])) = fun R y => ring kp (tileRd arg1 harg1 arg2 harg2 arg3 harg3 arg5 harg5 arg6 harg6 arg7 harg7 arg8 harg8 arg9 harg9 arg10 harg10 arg11 harg11 x0 x1 x2 x4 x5 x6 x7 x8 x9 x10).kNew (R.idx y) := funext fun R => ring_write arg21 harg21 kp kq _ R
    have hv : (fun R => View.readAt (Elt F) arg22.view R (arg22.view.writes (Elt F) (harg22.unread (ring vp vq)) [⟨hiR, (tileRd arg1 harg1 arg2 harg2 arg3 harg3 arg5 harg5 arg6 harg6 arg7 harg7 arg8 harg8 arg9 harg9 arg10 harg10 arg11 harg11 x0 x1 x2 x4 x5 x6 x7 x8 x9 x10).vNew⟩])) = fun R y => ring vp (tileRd arg1 harg1 arg2 harg2 arg3 harg3 arg5 harg5 arg6 harg6 arg7 harg7 arg8 harg8 arg9 harg9 arg10 harg10 arg11 harg11 x0 x1 x2 x4 x5 x6 x7 x8 x9 x10).vNew (R.idx y) := funext fun R => ring_write arg22 harg22 vp vq _ R
    have hu : (View.readAt (Elt F) arg24.view (Rect.unit (s := S8x512) ![0, 0] S8x512.size inb_S8x512_S8x512_0_0).toLoadRect (harg24.unread up)) = up := u8_kept arg24 harg24 up
    refine Eq.trans (b := [⟨Rect.unit (s := S1x512x1024) ![0, 0, 0] S1x512x1024.size inb_S1x512x1024_S1x512x1024_0_0_0, (tileRd arg1 harg1 arg2 harg2 arg3 harg3 arg5 harg5 arg6 harg6 arg7 harg7 arg8 harg8 arg9 harg9 arg10 harg10 arg11 harg11 x0 x1 x2 x4 x5 x6 x7 x8 x9 x10).x1Out (arg23.view.readCov (Val := Elt F) (attPieces i (tileRd arg1 harg1 arg2 harg2 arg3 harg3 arg5 harg5 arg6 harg6 arg7 harg7 arg8 harg8 arg9 harg9 arg10 harg10 arg11 harg11 x0 x1 x2 x4 x5 x6 x7 x8 x9 x10).q (tileRd arg1 harg1 arg2 harg2 arg3 harg3 arg5 harg5 arg6 harg6 arg7 harg7 arg8 harg8 arg9 harg9 arg10 harg10 arg11 harg11 x0 x1 x2 x4 x5 x6 x7 x8 x9 x10).b0 (tileRd arg1 harg1 arg2 harg2 arg3 harg3 arg5 harg5 arg6 harg6 arg7 harg7 arg8 harg8 arg9 harg9 arg10 harg10 arg11 harg11 x0 x1 x2 x4 x5 x6 x7 x8 x9 x10).b1 (fun R => View.readAt (Elt F) arg21.view R (arg21.view.writes (Elt F) (harg21.unread (ring kp kq)) [⟨hiR, (tileRd arg1 harg1 arg2 harg2 arg3 harg3 arg5 harg5 arg6 harg6 arg7 harg7 arg8 harg8 arg9 harg9 arg10 harg10 arg11 harg11 x0 x1 x2 x4 x5 x6 x7 x8 x9 x10).kNew⟩])) (fun R => View.readAt (Elt F) arg22.view R (arg22.view.writes (Elt F) (harg22.unread (ring vp vq)) [⟨hiR, (tileRd arg1 harg1 arg2 harg2 arg3 harg3 arg5 harg5 arg6 harg6 arg7 harg7 arg8 harg8 arg9 harg9 arg10 harg10 arg11 harg11 x0 x1 x2 x4 x5 x6 x7 x8 x9 x10).vNew⟩]))) (Rect.unit (s := S512x512) ![0, 0] S512x512.size inb_S512x512_S512x512_0_0).toLoadRect) (View.readAt (Elt F) arg24.view (Rect.unit (s := S8x512) ![0, 0] S8x512.size inb_S8x512_S8x512_0_0).toLoadRect (harg24.unread up))⟩]) ?_ ?_
    · exact x1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 (ring kp kq) (ring vp vq) up
    · rw [att_read, hk, hv, hu, hT]; rfl
  · exact (show (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 (ring kp kq) (ring vp vq) up).2.1 = [⟨Rect.unit (s := S1x512x512) ![0, 0, 0] S1x512x512.size inb_S1x512x512_S1x512x512_0_0_0, (tileRd arg1 harg1 arg2 harg2 arg3 harg3 arg5 harg5 arg6 harg6 arg7 harg7 arg8 harg8 arg9 harg9 arg10 harg10 arg11 harg11 x0 x1 x2 x4 x5 x6 x7 x8 x9 x10).kOut⟩] from rfl).trans (by rw [hT])
  · exact (show (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 (ring kp kq) (ring vp vq) up).2.2.1 = [⟨Rect.unit (s := S1x512x512) ![0, 0, 0] S1x512x512.size inb_S1x512x512_S1x512x512_0_0_0, (tileRd arg1 harg1 arg2 harg2 arg3 harg3 arg5 harg5 arg6 harg6 arg7 harg7 arg8 harg8 arg9 harg9 arg10 harg10 arg11 harg11 x0 x1 x2 x4 x5 x6 x7 x8 x9 x10).vOut⟩] from rfl).trans (by rw [hT])
  · exact (show (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 (ring kp kq) (ring vp vq) up).2.2.2.1 = [⟨Rect.unit (s := S1x8x512) ![0, 0, 0] S1x8x512.size inb_S1x8x512_S1x8x512_0_0_0, (tileRd arg1 harg1 arg2 harg2 arg3 harg3 arg5 harg5 arg6 harg6 arg7 harg7 arg8 harg8 arg9 harg9 arg10 harg10 arg11 harg11 x0 x1 x2 x4 x5 x6 x7 x8 x9 x10).uOut⟩] from rfl).trans (by rw [hT])
  · refine (show (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 (ring kp kq) (ring vp vq) up).2.2.2.2.1 = ⟨loR, k0_pay179 (arg21.view.readCov (Val := Elt F) [⟨hiR, (tileRd arg1 harg1 arg2 harg2 arg3 harg3 arg5 harg5 arg6 harg6 arg7 harg7 arg8 harg8 arg9 harg9 arg10 harg10 arg11 harg11 x0 x1 x2 x4 x5 x6 x7 x8 x9 x10).kNew⟩] hiR.toLoadRect)⟩ :: ⟨hiR, (tileRd arg1 harg1 arg2 harg2 arg3 harg3 arg5 harg5 arg6 harg6 arg7 harg7 arg8 harg8 arg9 harg9 arg10 harg10 arg11 harg11 x0 x1 x2 x4 x5 x6 x7 x8 x9 x10).kNew⟩ :: [] from rfl).trans ?_
    rw [hi_back, pay179_eq, hT]
  · refine (show (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 (ring kp kq) (ring vp vq) up).2.2.2.2.2.1 = ⟨loR, k0_pay180 (arg22.view.readCov (Val := Elt F) [⟨hiR, (tileRd arg1 harg1 arg2 harg2 arg3 harg3 arg5 harg5 arg6 harg6 arg7 harg7 arg8 harg8 arg9 harg9 arg10 harg10 arg11 harg11 x0 x1 x2 x4 x5 x6 x7 x8 x9 x10).vNew⟩] hiR.toLoadRect)⟩ :: ⟨hiR, (tileRd arg1 harg1 arg2 harg2 arg3 harg3 arg5 harg5 arg6 harg6 arg7 harg7 arg8 harg8 arg9 harg9 arg10 harg10 arg11 harg11 x0 x1 x2 x4 x5 x6 x7 x8 x9 x10).vNew⟩ :: [] from rfl).trans ?_
    rw [hi_back, pay180_eq, hT]
  · exact (show (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 (ring kp kq) (ring vp vq) up).2.2.2.2.2.2.1 = ⟨Rect.unit (s := S8x512) ![0, 0] S8x512.size inb_S8x512_S8x512_0_0, k0_pay187 (tileRd arg1 harg1 arg2 harg2 arg3 harg3 arg5 harg5 arg6 harg6 arg7 harg7 arg8 harg8 arg9 harg9 arg10 harg10 arg11 harg11 x0 x1 x2 x4 x5 x6 x7 x8 x9 x10).u⟩ :: [] from rfl).trans (by rw [pay187_eq, hT])

set_option maxHeartbeats 40000000 in
/-- Case B: what a tile's body is handed and what it leaves. -/
theorem tile_B (c : Dev nD) (i : grid0.Coords)
(arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x128 .bf16) (harg12 : arg12.IsWhole)
  (arg13 : Memref sig .tc .vmem S1x128 .f32) (harg13 : arg13.IsWhole)
  (arg14 : Memref sig .tc .vmem S1x512x1024 .f32) (harg14 : arg14.IsWhole)
  (arg15 : Memref sig .tc .vmem S4096x128 .bf16) (harg15 : arg15.IsWhole)
  (arg16 : Memref sig .tc .vmem S1x512x512 .f32) (harg16 : arg16.IsWhole)
  (arg17 : Memref sig .tc .vmem S1x512x512 .f32) (harg17 : arg17.IsWhole)
  (arg18 : Memref sig .tc .vmem S1x8x512 .f32) (harg18 : arg18.IsWhole)
  (arg19 : Memref sig .tc .vmem S1x512x128 .f32) (harg19 : arg19.IsWhole)
  (arg20 : Memref sig .tc .vmem S1x128 .f32) (harg20 : arg20.IsWhole)
  (arg21 : Memref sig .tc .vmem S1024x512 .bf16) (harg21 : arg21.IsWhole)
  (arg22 : Memref sig .tc .vmem S1024x512 .bf16) (harg22 : arg22.IsWhole)
  (arg23 : Memref sig .tc .vmem S512x512 .bf16) (harg23 : arg23.IsWhole)
  (arg24 : Memref sig .tc .vmem S8x512 .f32) (harg24 : arg24.IsWhole)
  (arg25 : Memref sig .tc .vmem S1x128 .f32) (harg25 : arg25.IsWhole)
  (arg26 : Memref sig .tc .vmem S512x1024 .f32) (harg26 : arg26.IsWhole)
  (hc0 : ¬cond0_0 i) (hc1 : cond0_1 i) (hc2 : ¬cond0_2 i) (hc3 : ¬cond0_3 i)
  (x0 : Vec F S1x512x1024 .f32) (x1 : Vec F S1x6x1024 .f32) (x2 : Vec F S1x1024 .f32) (x3 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) (x11 : Vec F S1024x128 .bf16) (x12 : Vec F S1x128 .f32) (kp kq vp vq : Vec F S512x512 .bf16) (up : Vec F S8x512 .f32) (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare x9
      ∗ owns (c : Thread nD τ) arg11 fullShare x10
      ∗ owns (c : Thread nD τ) arg12 fullShare x11
      ∗ owns (c : Thread nD τ) arg13 fullShare x12
      ∗ (∃ d, owns (c : Thread nD τ) arg14 fullShare d)
      ∗ (∃ d, owns (c : Thread nD τ) arg15 fullShare d)
      ∗ (∃ d, owns (c : Thread nD τ) arg16 fullShare d)
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ owns (c : Thread nD τ) arg21 fullShare (ring kp kq)
      ∗ owns (c : Thread nD τ) arg22 fullShare (ring vp vq)
      ∗ (∃ d, owns (c : Thread nD τ) arg23 fullShare d)
      ∗ owns (c : Thread nD τ) arg24 fullShare up
      ∗ (∃ d, owns (c : Thread nD τ) arg25 fullShare d)
      ∗ (∃ d, owns (c : Thread nD τ) arg26 fullShare d)
      ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare ((tileOf x0 x1 x2 x4 x5 x6 x7 x8 x9 x10).x1Out ((tileOf x0 x1 x2 x4 x5 x6 x7 x8 x9 x10).att i kp vp) up)
          ∗ (∃ d, owns (c : Thread nD τ) arg15 fullShare d)
          ∗ owns (c : Thread nD τ) arg16 fullShare (tileOf x0 x1 x2 x4 x5 x6 x7 x8 x9 x10).kOut
          ∗ owns (c : Thread nD τ) arg17 fullShare (tileOf x0 x1 x2 x4 x5 x6 x7 x8 x9 x10).vOut
          ∗ owns (c : Thread nD τ) arg18 fullShare (tileOf x0 x1 x2 x4 x5 x6 x7 x8 x9 x10).uOut
          ∗ (∃ d, owns (c : Thread nD τ) arg19 fullShare d)
          ∗ (∃ d, owns (c : Thread nD τ) arg20 fullShare d)
          ∗ owns (c : Thread nD τ) arg21 fullShare (ring (tileOf x0 x1 x2 x4 x5 x6 x7 x8 x9 x10).kNew (tileOf x0 x1 x2 x4 x5 x6 x7 x8 x9 x10).kNew)
          ∗ owns (c : Thread nD τ) arg22 fullShare (ring (tileOf x0 x1 x2 x4 x5 x6 x7 x8 x9 x10).vNew (tileOf x0 x1 x2 x4 x5 x6 x7 x8 x9 x10).vNew)
          ∗ (∃ d, owns (c : Thread nD τ) arg23 fullShare d)
          ∗ owns (c : Thread nD τ) arg24 fullShare (tileOf x0 x1 x2 x4 x5 x6 x7 x8 x9 x10).u8
          ∗ (∃ d, owns (c : Thread nD τ) arg25 fullShare d)
          ∗ (∃ d, owns (c : Thread nD τ) arg26 fullShare d)) -∗ K ⟨⟩))
      ⊢ wp frame (wpE (defs₀ (F := F)) Variants.none c none) E (cc0_prompt_main i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨e13, e15, e16, e17, e20, e21, e23⟩ := pieces_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 kp kq vp vq up
  generalize (run_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 (ring kp kq) (ring vp vq) up) = r at e13 e15 e16 e17 e20 e21 e23
  obtain ⟨L13, L15, L16, L17, L20, L21, L23, hr⟩ := r
  dsimp only at e13 e15 e16 e17 e20 e21 e23
  subst e13 e15 e16 e17 e20 e21 e23
  have hrun := hr E K
  iintro ⟨H0, H1, H2, H3, H4, H5, H6, H7, H8, H9, H10, H11, H12, H13, H14, H15, H16, H17, H18, H19, H20, H21, H22, H23, H24, H25, Hk⟩
  iapply hrun
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H0, H1, H2, H3, H4, H5, H6, H7, H8, H9, H10, H11, H12, H13, H14, H15, H16, H17, H18, H19, H20, H21, H22, H23, H24, H25⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply (owns_of_whole c arg14 (off := ![0, 0, 0]) (by funext a; fin_cases a <;> rfl) _ _ _); iexact H13
  isplitl [H14]; · iexact H14
  isplitl [H15]; · iapply (owns_of_whole c arg16 (off := ![0, 0, 0]) (by funext a; fin_cases a <;> rfl) _ _ _); iexact H15
  isplitl [H16]; · iapply (owns_of_whole c arg17 (off := ![0, 0, 0]) (by funext a; fin_cases a <;> rfl) _ _ _); iexact H16
  isplitl [H17]; · iapply (owns_of_whole c arg18 (off := ![0, 0, 0]) (by funext a; fin_cases a <;> rfl) _ _ _); iexact H17
  isplitl [H18]; · iexact H18
  isplitl [H19]; · iexact H19
  isplitl [H20]; · iapply (owns_of_ring c arg21 _ _); iexact H20
  isplitl [H21]; · iapply (owns_of_ring c arg22 _ _); iexact H21
  isplitl [H22]; · iexact H22
  isplitl [H23]; · iapply (owns_of_whole c arg24 (off := ![0, 0]) (by funext a; fin_cases a <;> rfl) _ _ _); iexact H23
  isplitl [H24]; · iexact H24
  iexact H25

end Cert.KernelIdeal.Hand

end
-- ==== Proof.Ideal.RunC.lean ====
module

public import proofs.«01_k».proof.Proof.Ideal.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 3200000 in
noncomputable def run_C (c : Dev nD) (i : grid0.Coords)
  (arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x128 .bf16) (harg12 : arg12.IsWhole)
  (arg13 : Memref sig .tc .vmem S1x128 .f32) (harg13 : arg13.IsWhole)
  (arg14 : Memref sig .tc .vmem S1x512x1024 .f32) (harg14 : arg14.IsWhole)
  (arg15 : Memref sig .tc .vmem S4096x128 .bf16) (harg15 : arg15.IsWhole)
  (arg16 : Memref sig .tc .vmem S1x512x512 .f32) (harg16 : arg16.IsWhole)
  (arg17 : Memref sig .tc .vmem S1x512x512 .f32) (harg17 : arg17.IsWhole)
  (arg18 : Memref sig .tc .vmem S1x8x512 .f32) (harg18 : arg18.IsWhole)
  (arg19 : Memref sig .tc .vmem S1x512x128 .f32) (harg19 : arg19.IsWhole)
  (arg20 : Memref sig .tc .vmem S1x128 .f32) (harg20 : arg20.IsWhole)
  (arg21 : Memref sig .tc .vmem S1024x512 .bf16) (harg21 : arg21.IsWhole)
  (arg22 : Memref sig .tc .vmem S1024x512 .bf16) (harg22 : arg22.IsWhole)
  (arg23 : Memref sig .tc .vmem S512x512 .bf16) (harg23 : arg23.IsWhole)
  (arg24 : Memref sig .tc .vmem S8x512 .f32) (harg24 : arg24.IsWhole)
  (arg25 : Memref sig .tc .vmem S1x128 .f32) (harg25 : arg25.IsWhole)
  (arg26 : Memref sig .tc .vmem S512x1024 .f32) (harg26 : arg26.IsWhole)
  (hc0 : ¬cond0_0 i) (hc1 : cond0_1 i) (hc2 : cond0_2 i) (hc3 : ¬cond0_3 i)
  (x0 : Vec F S1x512x1024 .f32) (x1 : Vec F S1x6x1024 .f32) (x2 : Vec F S1x1024 .f32) (x3 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) (x11 : Vec F S1024x128 .bf16) (x12 : Vec F S1x128 .f32) (xs0 : Vec F S1024x512 .bf16) (xs1 : Vec F S1024x512 .bf16) (xs3 : Vec F S8x512 .f32) :
    Σ' (L13 : List (View.Piece (Elt F) S1x512x1024 .f32)), Σ' (L15 : List (View.Piece (Elt F) S1x512x512 .f32)), Σ' (L16 : List (View.Piece (Elt F) S1x512x512 .f32)), Σ' (L17 : List (View.Piece (Elt F) S1x8x512 .f32)), Σ' (L20 : List (View.Piece (Elt F) S1024x512 .bf16)), Σ' (L21 : List (View.Piece (Elt F) S1024x512 .bf16)), { L23 : List (View.Piece (Elt F) S8x512 .f32) //
    ∀ (E : Set ℕ) (K : PUnit → sProp 𝕄), iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ (∃ d, owns (c : Thread nD τ) arg14 fullShare d)
        ∗ (∃ d, owns (c : Thread nD τ) arg15 fullShare d)
        ∗ (∃ d, owns (c : Thread nD τ) arg16 fullShare d)
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ owns (c : Thread nD τ) arg21 fullShare xs0
        ∗ owns (c : Thread nD τ) arg22 fullShare xs1
        ∗ (∃ d, owns (c : Thread nD τ) arg23 fullShare d)
        ∗ owns (c : Thread nD τ) arg24 fullShare xs3
        ∗ (∃ d, owns (c : Thread nD τ) arg25 fullShare d)
        ∗ (∃ d, owns (c : Thread nD τ) arg26 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ (∃ f, arg14.view.loc (c : Thread nD τ) ↦[arg14.view.set]{fullShare} arg14.view.writes (Elt F) f L13)
            ∗ (∃ d, owns (c : Thread nD τ) arg15 fullShare d)
            ∗ (∃ f, arg16.view.loc (c : Thread nD τ) ↦[arg16.view.set]{fullShare} arg16.view.writes (Elt F) f L15)
            ∗ (∃ f, arg17.view.loc (c : Thread nD τ) ↦[arg17.view.set]{fullShare} arg17.view.writes (Elt F) f L16)
            ∗ (∃ f, arg18.view.loc (c : Thread nD τ) ↦[arg18.view.set]{fullShare} arg18.view.writes (Elt F) f L17)
            ∗ (∃ d, owns (c : Thread nD τ) arg19 fullShare d)
            ∗ (∃ d, owns (c : Thread nD τ) arg20 fullShare d)
            ∗ (∃ f, arg21.view.loc (c : Thread nD τ) ↦[arg21.view.set]{fullShare} arg21.view.writes (Elt F) f L20)
            ∗ (∃ f, arg22.view.loc (c : Thread nD τ) ↦[arg22.view.set]{fullShare} arg22.view.writes (Elt F) f L21)
            ∗ (∃ d, owns (c : Thread nD τ) arg23 fullShare d)
            ∗ (∃ f, arg24.view.loc (c : Thread nD τ) ↦[arg24.view.set]{fullShare} arg24.view.writes (Elt F) f L23)
            ∗ (∃ d, owns (c : Thread nD τ) arg25 fullShare d)
            ∗ (∃ d, owns (c : Thread nD τ) arg26 fullShare d)) -∗ K ⟨⟩))
      ⊢ wp frame (wpE (defs₀ (F := F)) Variants.none c none) E (cc0_prompt_main i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, fun E K => ?run⟩
  case run =>
    simp only [cc0_prompt_main_eq_skeleton]; unfold cc0_prompt_main_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
    unfold owns
    have e15 : ∀ g, (arg15.view.loc (c : Thread nD τ) ↦[arg15.view.set]{fullShare} g : sProp 𝕄) = ((arg15.reshape S2048x2x128 reshapes_S4096x128_S2048x2x128.1 reshapes_S4096x128_S2048x2x128.2 harg15.contiguous).view.loc (c : Thread nD τ) ↦[(arg15.reshape S2048x2x128 reshapes_S4096x128_S2048x2x128.1 reshapes_S4096x128_S2048x2x128.2 harg15.contiguous).view.set]{fullShare} g) := fun g => by
      rw [show (arg15.reshape S2048x2x128 reshapes_S4096x128_S2048x2x128.1 reshapes_S4096x128_S2048x2x128.2 harg15.contiguous).view.set = arg15.view.set from View.set_reshape _ _]
    simp only [e15]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%f20, %hf20, H20⟩, ⟨%f21, %hf21, H21⟩, ⟨%d22, %f22, -, H22⟩, ⟨%f23, %hf23, H23⟩, ⟨%d24, %f24, -, H24⟩, ⟨%d25, %f25, -, H25⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg21.eq_unread hf20; obtain rfl := harg22.eq_unread hf21; obtain rfl := harg24.eq_unread hf23
    sl_exec (disch := first | sl_exact hc0 | sl_exact hc1 | sl_exact hc2 | sl_exact hc3)
    repeat (sl_step; try sl_exec (disch := first | sl_exact hc0 | sl_exact hc1 | sl_exact hc2 | sl_exact hc3))
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; iexact H13
    isplitl [H14]
    · iexists _, _; isplitr; swap; · iexact H14
      ipureintro; rfl
    isplitl [H15]
    · iexists _; iexact H15
    isplitl [H16]
    · iexists _; iexact H16
    isplitl [H17]
    · iexists _; iexact H17
    isplitl [H18]
    · iexists _, _; isplitr; swap; · iexact H18
      ipureintro; rfl
    isplitl [H19]
    · iexists _, _; isplitr; swap; · iexact H19
      ipureintro; rfl
    isplitl [H20]
    · iexists _; iexact H20
    isplitl [H21]
    · iexists _; iexact H21
    isplitl [H22]
    · iexists _, _; isplitr; swap; · iexact H22
      ipureintro; rfl
    isplitl [H23]
    · iexists _; iexact H23
    isplitl [H24]
    · iexists _, _; isplitr; swap; · iexact H24
      ipureintro; rfl
    iexists _, _; isplitr; swap; · iexact H25
    ipureintro; rfl

end Cert.KernelIdeal.Hand

end
-- ==== Proof.Ideal.RowsC.lean ====
module
public import proofs.«01_k».proof.Proof.Ideal.RunC
public import proofs.«01_k».proof.Proof.Ideal.Blocks
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The block of output rows case C's run stores. -/
theorem x1_C (c : Dev nD) (i : grid0.Coords)
  (arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x128 .bf16) (harg12 : arg12.IsWhole)
  (arg13 : Memref sig .tc .vmem S1x128 .f32) (harg13 : arg13.IsWhole)
  (arg14 : Memref sig .tc .vmem S1x512x1024 .f32) (harg14 : arg14.IsWhole)
  (arg15 : Memref sig .tc .vmem S4096x128 .bf16) (harg15 : arg15.IsWhole)
  (arg16 : Memref sig .tc .vmem S1x512x512 .f32) (harg16 : arg16.IsWhole)
  (arg17 : Memref sig .tc .vmem S1x512x512 .f32) (harg17 : arg17.IsWhole)
  (arg18 : Memref sig .tc .vmem S1x8x512 .f32) (harg18 : arg18.IsWhole)
  (arg19 : Memref sig .tc .vmem S1x512x128 .f32) (harg19 : arg19.IsWhole)
  (arg20 : Memref sig .tc .vmem S1x128 .f32) (harg20 : arg20.IsWhole)
  (arg21 : Memref sig .tc .vmem S1024x512 .bf16) (harg21 : arg21.IsWhole)
  (arg22 : Memref sig .tc .vmem S1024x512 .bf16) (harg22 : arg22.IsWhole)
  (arg23 : Memref sig .tc .vmem S512x512 .bf16) (harg23 : arg23.IsWhole)
  (arg24 : Memref sig .tc .vmem S8x512 .f32) (harg24 : arg24.IsWhole)
  (arg25 : Memref sig .tc .vmem S1x128 .f32) (harg25 : arg25.IsWhole)
  (arg26 : Memref sig .tc .vmem S512x1024 .f32) (harg26 : arg26.IsWhole)
  (hc0 : ¬cond0_0 i) (hc1 : cond0_1 i) (hc2 : cond0_2 i) (hc3 : ¬cond0_3 i)
  (x0 : Vec F S1x512x1024 .f32) (x1 : Vec F S1x6x1024 .f32) (x2 : Vec F S1x1024 .f32) (x3 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) (x11 : Vec F S1024x128 .bf16) (x12 : Vec F S1x128 .f32) (xs0 : Vec F S1024x512 .bf16) (xs1 : Vec F S1024x512 .bf16) (xs3 : Vec F S8x512 .f32) :
    (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).1
      = [⟨Rect.unit (s := S1x512x1024) ![0, 0, 0] S1x512x1024.size inb_S1x512x1024_S1x512x1024_0_0_0, (tileRd arg1 harg1 arg2 harg2 arg3 harg3 arg5 harg5 arg6 harg6 arg7 harg7 arg8 harg8 arg9 harg9 arg10 harg10 arg11 harg11 x0 x1 x2 x4 x5 x6 x7 x8 x9 x10).x1Out (arg23.view.readCov (Val := Elt F) (attPieces i (tileRd arg1 harg1 arg2 harg2 arg3 harg3 arg5 harg5 arg6 harg6 arg7 harg7 arg8 harg8 arg9 harg9 arg10 harg10 arg11 harg11 x0 x1 x2 x4 x5 x6 x7 x8 x9 x10).q (tileRd arg1 harg1 arg2 harg2 arg3 harg3 arg5 harg5 arg6 harg6 arg7 harg7 arg8 harg8 arg9 harg9 arg10 harg10 arg11 harg11 x0 x1 x2 x4 x5 x6 x7 x8 x9 x10).b0 (tileRd arg1 harg1 arg2 harg2 arg3 harg3 arg5 harg5 arg6 harg6 arg7 harg7 arg8 harg8 arg9 harg9 arg10 harg10 arg11 harg11 x0 x1 x2 x4 x5 x6 x7 x8 x9 x10).b1 (fun R => arg21.view.readCov (Val := Elt F) [⟨Rect.unit (s := S1024x512) ![512, 0] S512x512.size inb_S1024x512_S512x512_512_0, (tileRd arg1 harg1 arg2 harg2 arg3 harg3 arg5 harg5 arg6 harg6 arg7 harg7 arg8 harg8 arg9 harg9 arg10 harg10 arg11 harg11 x0 x1 x2 x4 x5 x6 x7 x8 x9 x10).kNew⟩, ⟨Rect.unit (s := S1024x512) ![0, 0] S512x512.size inb_S1024x512_S512x512_0_0, k0_pay6⟩] R) (fun R => arg22.view.readCov (Val := Elt F) [⟨Rect.unit (s := S1024x512) ![512, 0] S512x512.size inb_S1024x512_S512x512_512_0, (tileRd arg1 harg1 arg2 harg2 arg3 harg3 arg5 harg5 arg6 harg6 arg7 harg7 arg8 harg8 arg9 harg9 arg10 harg10 arg11 harg11 x0 x1 x2 x4 x5 x6 x7 x8 x9 x10).vNew⟩, ⟨Rect.unit (s := S1024x512) ![0, 0] S512x512.size inb_S1024x512_S512x512_0_0, k0_pay7⟩] R)) (Rect.unit (s := S512x512) ![0, 0] S512x512.size inb_S512x512_S512x512_0_0).toLoadRect) (arg24.view.readCov (Val := Elt F) [⟨Rect.unit (s := S8x512) ![0, 0] S8x512.size inb_S8x512_S8x512_0_0, k0_pay8⟩] (Rect.unit (s := S8x512) ![0, 0] S8x512.size inb_S8x512_S8x512_0_0).toLoadRect)⟩] := by
  refine Eq.trans (b := [⟨Rect.unit (s := S1x512x1024) ![0, 0, 0] S1x512x1024.size inb_S1x512x1024_S1x512x1024_0_0_0, (tileRd arg1 harg1 arg2 harg2 arg3 harg3 arg5 harg5 arg6 harg6 arg7 harg7 arg8 harg8 arg9 harg9 arg10 harg10 arg11 harg11 x0 x1 x2 x4 x5 x6 x7 x8 x9 x10).x1Out _ (arg24.view.readCov (Val := Elt F) [⟨Rect.unit (s := S8x512) ![0, 0] S8x512.size inb_S8x512_S8x512_0_0, k0_pay8⟩] (Rect.unit (s := S8x512) ![0, 0] S8x512.size inb_S8x512_S8x512_0_0).toLoadRect)⟩]) rfl ?_
  refine congrArg (fun a => ([⟨Rect.unit (s := S1x512x1024) ![0, 0, 0] S1x512x1024.size inb_S1x512x1024_S1x512x1024_0_0_0, (tileRd arg1 harg1 arg2 harg2 arg3 harg3 arg5 harg5 arg6 harg6 arg7 harg7 arg8 harg8 arg9 harg9 arg10 harg10 arg11 harg11 x0 x1 x2 x4 x5 x6 x7 x8 x9 x10).x1Out a (arg24.view.readCov (Val := Elt F) [⟨Rect.unit (s := S8x512) ![0, 0] S8x512.size inb_S8x512_S8x512_0_0, k0_pay8⟩] (Rect.unit (s := S8x512) ![0, 0] S8x512.size inb_S8x512_S8x512_0_0).toLoadRect)⟩] : List (View.Piece (Elt F) S1x512x1024 .f32))) ?_
  unfold run_C.sl.v1163 run_C.sl.H22_8 attPieces
  refine congrArg (fun L => arg23.view.readCov (Val := Elt F) L ((Rect.unit (s := S512x512) ![0, 0] S512x512.size inb_S512x512_S512x512_0_0).toLoadRect)) ?_
  refine attStores_congr ?_ ?_ ?_ ?_ ?_ ?_ ?_ ?_
  · exact (block_384_256 _ _ _ _ _).trans (attBlock_congr rfl rfl rfl rfl rfl)
  · exact (block_384_0 _ _ _ _ _).trans (attBlock_congr rfl rfl rfl rfl rfl)
  · exact (block_256_256 _ _ _ _ _).trans (attBlock_congr rfl rfl rfl rfl rfl)
  · exact (block_256_0 _ _ _ _ _).trans (attBlock_congr rfl rfl rfl rfl rfl)
  · exact (block_128_256 _ _ _ _ _).trans (attBlock_congr rfl rfl rfl rfl rfl)
  · exact (block_128_0 _ _ _ _ _).trans (attBlock_congr rfl rfl rfl rfl rfl)
  · exact (block_0_256 _ _ _ _ _).trans (attBlock_congr rfl rfl rfl rfl rfl)
  · exact (block_0_0 _ _ _ _ _).trans (attBlock_congr rfl rfl rfl rfl rfl)

end Cert.KernelIdeal.Hand

end
-- ==== Proof.Ideal.TileC.lean ====
module
public import proofs.«01_k».proof.Proof.Ideal.RowsC
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 40000000 in
/-- What case C's run stores, of the blocks and the carried scratch alone. -/
theorem pieces_C (c : Dev nD) (i : grid0.Coords)
(arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x128 .bf16) (harg12 : arg12.IsWhole)
  (arg13 : Memref sig .tc .vmem S1x128 .f32) (harg13 : arg13.IsWhole)
  (arg14 : Memref sig .tc .vmem S1x512x1024 .f32) (harg14 : arg14.IsWhole)
  (arg15 : Memref sig .tc .vmem S4096x128 .bf16) (harg15 : arg15.IsWhole)
  (arg16 : Memref sig .tc .vmem S1x512x512 .f32) (harg16 : arg16.IsWhole)
  (arg17 : Memref sig .tc .vmem S1x512x512 .f32) (harg17 : arg17.IsWhole)
  (arg18 : Memref sig .tc .vmem S1x8x512 .f32) (harg18 : arg18.IsWhole)
  (arg19 : Memref sig .tc .vmem S1x512x128 .f32) (harg19 : arg19.IsWhole)
  (arg20 : Memref sig .tc .vmem S1x128 .f32) (harg20 : arg20.IsWhole)
  (arg21 : Memref sig .tc .vmem S1024x512 .bf16) (harg21 : arg21.IsWhole)
  (arg22 : Memref sig .tc .vmem S1024x512 .bf16) (harg22 : arg22.IsWhole)
  (arg23 : Memref sig .tc .vmem S512x512 .bf16) (harg23 : arg23.IsWhole)
  (arg24 : Memref sig .tc .vmem S8x512 .f32) (harg24 : arg24.IsWhole)
  (arg25 : Memref sig .tc .vmem S1x128 .f32) (harg25 : arg25.IsWhole)
  (arg26 : Memref sig .tc .vmem S512x1024 .f32) (harg26 : arg26.IsWhole)
  (hc0 : ¬cond0_0 i) (hc1 : cond0_1 i) (hc2 : cond0_2 i) (hc3 : ¬cond0_3 i)
  (x0 : Vec F S1x512x1024 .f32) (x1 : Vec F S1x6x1024 .f32) (x2 : Vec F S1x1024 .f32) (x3 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) (x11 : Vec F S1024x128 .bf16) (x12 : Vec F S1x128 .f32) (xs0 : Vec F S1024x512 .bf16) (xs1 : Vec F S1024x512 .bf16) (xs3 : Vec F S8x512 .f32) :
    (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).1 = [⟨Rect.unit (s := S1x512x1024) ![0, 0, 0] S1x512x1024.size inb_S1x512x1024_S1x512x1024_0_0_0, (tileOf x0 x1 x2 x4 x5 x6 x7 x8 x9 x10).x1Out ((tileOf x0 x1 x2 x4 x5 x6 x7 x8 x9 x10).att i k0_pay6 k0_pay7) k0_pay8⟩]
    ∧ (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.1 = [⟨Rect.unit (s := S1x512x512) ![0, 0, 0] S1x512x512.size inb_S1x512x512_S1x512x512_0_0_0, (tileOf x0 x1 x2 x4 x5 x6 x7 x8 x9 x10).kOut⟩]
    ∧ (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.1 = [⟨Rect.unit (s := S1x512x512) ![0, 0, 0] S1x512x512.size inb_S1x512x512_S1x512x512_0_0_0, (tileOf x0 x1 x2 x4 x5 x6 x7 x8 x9 x10).vOut⟩]
    ∧ (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.2.1 = [⟨Rect.unit (s := S1x8x512) ![0, 0, 0] S1x8x512.size inb_S1x8x512_S1x8x512_0_0_0, (tileOf x0 x1 x2 x4 x5 x6 x7 x8 x9 x10).uOut⟩]
    ∧ (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.2.2.1 = ⟨loR, (tileOf x0 x1 x2 x4 x5 x6 x7 x8 x9 x10).kNew⟩ :: ⟨hiR, (tileOf x0 x1 x2 x4 x5 x6 x7 x8 x9 x10).kNew⟩ :: [⟨loR, k0_pay6⟩]
    ∧ (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.2.2.2.1 = ⟨loR, (tileOf x0 x1 x2 x4 x5 x6 x7 x8 x9 x10).vNew⟩ :: ⟨hiR, (tileOf x0 x1 x2 x4 x5 x6 x7 x8 x9 x10).vNew⟩ :: [⟨loR, k0_pay7⟩]
    ∧ (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.2.2.2.2.1 = ⟨Rect.unit (s := S8x512) ![0, 0] S8x512.size inb_S8x512_S8x512_0_0, (tileOf x0 x1 x2 x4 x5 x6 x7 x8 x9 x10).u8⟩ :: [⟨Rect.unit (s := S8x512) ![0, 0] S8x512.size inb_S8x512_S8x512_0_0, k0_pay8⟩] := by
  have hT := tileRd_eq arg1 harg1 arg2 harg2 arg3 harg3 arg5 harg5 arg6 harg6 arg7 harg7 arg8 harg8 arg9 harg9 arg10 harg10 arg11 harg11 x0 x1 x2 x4 x5 x6 x7 x8 x9 x10
  refine ⟨?_, ?_, ?_, ?_, ?_, ?_, ?_⟩
  · have hk : (fun R => arg21.view.readCov (Val := Elt F) [⟨hiR, (tileRd arg1 harg1 arg2 harg2 arg3 harg3 arg5 harg5 arg6 harg6 arg7 harg7 arg8 harg8 arg9 harg9 arg10 harg10 arg11 harg11 x0 x1 x2 x4 x5 x6 x7 x8 x9 x10).kNew⟩, ⟨loR, k0_pay6⟩] R) = fun R y => ring k0_pay6 (tileRd arg1 harg1 arg2 harg2 arg3 harg3 arg5 harg5 arg6 harg6 arg7 harg7 arg8 harg8 arg9 harg9 arg10 harg10 arg11 harg11 x0 x1 x2 x4 x5 x6 x7 x8 x9 x10).kNew (R.idx y) := funext fun R => ring_fill arg21 _ _ R
    have hv : (fun R => arg22.view.readCov (Val := Elt F) [⟨hiR, (tileRd arg1 harg1 arg2 harg2 arg3 harg3 arg5 harg5 arg6 harg6 arg7 harg7 arg8 harg8 arg9 harg9 arg10 harg10 arg11 harg11 x0 x1 x2 x4 x5 x6 x7 x8 x9 x10).vNew⟩, ⟨loR, k0_pay7⟩] R) = fun R y => ring k0_pay7 (tileRd arg1 harg1 arg2 harg2 arg3 harg3 arg5 harg5 arg6 harg6 arg7 harg7 arg8 harg8 arg9 harg9 arg10 harg10 arg11 harg11 x0 x1 x2 x4 x5 x6 x7 x8 x9 x10).vNew (R.idx y) := funext fun R => ring_fill arg22 _ _ R
    have hu : (arg24.view.readCov (Val := Elt F) [⟨Rect.unit (s := S8x512) ![0, 0] S8x512.size inb_S8x512_S8x512_0_0, k0_pay8⟩] (Rect.unit (s := S8x512) ![0, 0] S8x512.size inb_S8x512_S8x512_0_0).toLoadRect) = k0_pay8 := View.readCov_unit_zero arg24.view (by funext a; fin_cases a <;> rfl) _ _
    refine Eq.trans (b := [⟨Rect.unit (s := S1x512x1024) ![0, 0, 0] S1x512x1024.size inb_S1x512x1024_S1x512x1024_0_0_0, (tileRd arg1 harg1 arg2 harg2 arg3 harg3 arg5 harg5 arg6 harg6 arg7 harg7 arg8 harg8 arg9 harg9 arg10 harg10 arg11 harg11 x0 x1 x2 x4 x5 x6 x7 x8 x9 x10).x1Out (arg23.view.readCov (Val := Elt F) (attPieces i (tileRd arg1 harg1 arg2 harg2 arg3 harg3 arg5 harg5 arg6 harg6 arg7 harg7 arg8 harg8 arg9 harg9 arg10 harg10 arg11 harg11 x0 x1 x2 x4 x5 x6 x7 x8 x9 x10).q (tileRd arg1 harg1 arg2 harg2 arg3 harg3 arg5 harg5 arg6 harg6 arg7 harg7 arg8 harg8 arg9 harg9 arg10 harg10 arg11 harg11 x0 x1 x2 x4 x5 x6 x7 x8 x9 x10).b0 (tileRd arg1 harg1 arg2 harg2 arg3 harg3 arg5 harg5 arg6 harg6 arg7 harg7 arg8 harg8 arg9 harg9 arg10 harg10 arg11 harg11 x0 x1 x2 x4 x5 x6 x7 x8 x9 x10).b1 (fun R => arg21.view.readCov (Val := Elt F) [⟨hiR, (tileRd arg1 harg1 arg2 harg2 arg3 harg3 arg5 harg5 arg6 harg6 arg7 harg7 arg8 harg8 arg9 harg9 arg10 harg10 arg11 harg11 x0 x1 x2 x4 x5 x6 x7 x8 x9 x10).kNew⟩, ⟨loR, k0_pay6⟩] R) (fun R => arg22.view.readCov (Val := Elt F) [⟨hiR, (tileRd arg1 harg1 arg2 harg2 arg3 harg3 arg5 harg5 arg6 harg6 arg7 harg7 arg8 harg8 arg9 harg9 arg10 harg10 arg11 harg11 x0 x1 x2 x4 x5 x6 x7 x8 x9 x10).vNew⟩, ⟨loR, k0_pay7⟩] R)) (Rect.unit (s := S512x512) ![0, 0] S512x512.size inb_S512x512_S512x512_0_0).toLoadRect) (arg24.view.readCov (Val := Elt F) [⟨Rect.unit (s := S8x512) ![0, 0] S8x512.size inb_S8x512_S8x512_0_0, k0_pay8⟩] (Rect.unit (s := S8x512) ![0, 0] S8x512.size inb_S8x512_S8x512_0_0).toLoadRect)⟩]) ?_ ?_
    · exact x1_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3
    · rw [att_read, hk, hv, hu, hT]; rfl
  · exact (show (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.1 = [⟨Rect.unit (s := S1x512x512) ![0, 0, 0] S1x512x512.size inb_S1x512x512_S1x512x512_0_0_0, (tileRd arg1 harg1 arg2 harg2 arg3 harg3 arg5 harg5 arg6 harg6 arg7 harg7 arg8 harg8 arg9 harg9 arg10 harg10 arg11 harg11 x0 x1 x2 x4 x5 x6 x7 x8 x9 x10).kOut⟩] from rfl).trans (by rw [hT])
  · exact (show (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.1 = [⟨Rect.unit (s := S1x512x512) ![0, 0, 0] S1x512x512.size inb_S1x512x512_S1x512x512_0_0_0, (tileRd arg1 harg1 arg2 harg2 arg3 harg3 arg5 harg5 arg6 harg6 arg7 harg7 arg8 harg8 arg9 harg9 arg10 harg10 arg11 harg11 x0 x1 x2 x4 x5 x6 x7 x8 x9 x10).vOut⟩] from rfl).trans (by rw [hT])
  · exact (show (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.2.1 = [⟨Rect.unit (s := S1x8x512) ![0, 0, 0] S1x8x512.size inb_S1x8x512_S1x8x512_0_0_0, (tileRd arg1 harg1 arg2 harg2 arg3 harg3 arg5 harg5 arg6 harg6 arg7 harg7 arg8 harg8 arg9 harg9 arg10 harg10 arg11 harg11 x0 x1 x2 x4 x5 x6 x7 x8 x9 x10).uOut⟩] from rfl).trans (by rw [hT])
  · refine (show (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.2.2.1 = ⟨loR, k0_pay179 (arg21.view.readCov (Val := Elt F) [⟨hiR, (tileRd arg1 harg1 arg2 harg2 arg3 harg3 arg5 harg5 arg6 harg6 arg7 harg7 arg8 harg8 arg9 harg9 arg10 harg10 arg11 harg11 x0 x1 x2 x4 x5 x6 x7 x8 x9 x10).kNew⟩, ⟨loR, k0_pay6⟩] hiR.toLoadRect)⟩ :: ⟨hiR, (tileRd arg1 harg1 arg2 harg2 arg3 harg3 arg5 harg5 arg6 harg6 arg7 harg7 arg8 harg8 arg9 harg9 arg10 harg10 arg11 harg11 x0 x1 x2 x4 x5 x6 x7 x8 x9 x10).kNew⟩ :: [⟨loR, k0_pay6⟩] from rfl).trans ?_
    rw [hi_back, pay179_eq, hT]
  · refine (show (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.2.2.2.1 = ⟨loR, k0_pay180 (arg22.view.readCov (Val := Elt F) [⟨hiR, (tileRd arg1 harg1 arg2 harg2 arg3 harg3 arg5 harg5 arg6 harg6 arg7 harg7 arg8 harg8 arg9 harg9 arg10 harg10 arg11 harg11 x0 x1 x2 x4 x5 x6 x7 x8 x9 x10).vNew⟩, ⟨loR, k0_pay7⟩] hiR.toLoadRect)⟩ :: ⟨hiR, (tileRd arg1 harg1 arg2 harg2 arg3 harg3 arg5 harg5 arg6 harg6 arg7 harg7 arg8 harg8 arg9 harg9 arg10 harg10 arg11 harg11 x0 x1 x2 x4 x5 x6 x7 x8 x9 x10).vNew⟩ :: [⟨loR, k0_pay7⟩] from rfl).trans ?_
    rw [hi_back, pay180_eq, hT]
  · exact (show (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3).2.2.2.2.2.2.1 = ⟨Rect.unit (s := S8x512) ![0, 0] S8x512.size inb_S8x512_S8x512_0_0, k0_pay187 (tileRd arg1 harg1 arg2 harg2 arg3 harg3 arg5 harg5 arg6 harg6 arg7 harg7 arg8 harg8 arg9 harg9 arg10 harg10 arg11 harg11 x0 x1 x2 x4 x5 x6 x7 x8 x9 x10).u⟩ :: [⟨Rect.unit (s := S8x512) ![0, 0] S8x512.size inb_S8x512_S8x512_0_0, k0_pay8⟩] from rfl).trans (by rw [pay187_eq, hT])

set_option maxHeartbeats 40000000 in
/-- Case C: what a tile's body is handed and what it leaves. -/
theorem tile_C (c : Dev nD) (i : grid0.Coords)
(arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x128 .bf16) (harg12 : arg12.IsWhole)
  (arg13 : Memref sig .tc .vmem S1x128 .f32) (harg13 : arg13.IsWhole)
  (arg14 : Memref sig .tc .vmem S1x512x1024 .f32) (harg14 : arg14.IsWhole)
  (arg15 : Memref sig .tc .vmem S4096x128 .bf16) (harg15 : arg15.IsWhole)
  (arg16 : Memref sig .tc .vmem S1x512x512 .f32) (harg16 : arg16.IsWhole)
  (arg17 : Memref sig .tc .vmem S1x512x512 .f32) (harg17 : arg17.IsWhole)
  (arg18 : Memref sig .tc .vmem S1x8x512 .f32) (harg18 : arg18.IsWhole)
  (arg19 : Memref sig .tc .vmem S1x512x128 .f32) (harg19 : arg19.IsWhole)
  (arg20 : Memref sig .tc .vmem S1x128 .f32) (harg20 : arg20.IsWhole)
  (arg21 : Memref sig .tc .vmem S1024x512 .bf16) (harg21 : arg21.IsWhole)
  (arg22 : Memref sig .tc .vmem S1024x512 .bf16) (harg22 : arg22.IsWhole)
  (arg23 : Memref sig .tc .vmem S512x512 .bf16) (harg23 : arg23.IsWhole)
  (arg24 : Memref sig .tc .vmem S8x512 .f32) (harg24 : arg24.IsWhole)
  (arg25 : Memref sig .tc .vmem S1x128 .f32) (harg25 : arg25.IsWhole)
  (arg26 : Memref sig .tc .vmem S512x1024 .f32) (harg26 : arg26.IsWhole)
  (hc0 : ¬cond0_0 i) (hc1 : cond0_1 i) (hc2 : cond0_2 i) (hc3 : ¬cond0_3 i)
  (x0 : Vec F S1x512x1024 .f32) (x1 : Vec F S1x6x1024 .f32) (x2 : Vec F S1x1024 .f32) (x3 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) (x11 : Vec F S1024x128 .bf16) (x12 : Vec F S1x128 .f32) (xs0 : Vec F S1024x512 .bf16) (xs1 : Vec F S1024x512 .bf16) (xs3 : Vec F S8x512 .f32) (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ owns (c : Thread nD τ) arg7 fullShare x6
      ∗ owns (c : Thread nD τ) arg8 fullShare x7
      ∗ owns (c : Thread nD τ) arg9 fullShare x8
      ∗ owns (c : Thread nD τ) arg10 fullShare x9
      ∗ owns (c : Thread nD τ) arg11 fullShare x10
      ∗ owns (c : Thread nD τ) arg12 fullShare x11
      ∗ owns (c : Thread nD τ) arg13 fullShare x12
      ∗ (∃ d, owns (c : Thread nD τ) arg14 fullShare d)
      ∗ (∃ d, owns (c : Thread nD τ) arg15 fullShare d)
      ∗ (∃ d, owns (c : Thread nD τ) arg16 fullShare d)
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ owns (c : Thread nD τ) arg21 fullShare xs0
      ∗ owns (c : Thread nD τ) arg22 fullShare xs1
      ∗ (∃ d, owns (c : Thread nD τ) arg23 fullShare d)
      ∗ owns (c : Thread nD τ) arg24 fullShare xs3
      ∗ (∃ d, owns (c : Thread nD τ) arg25 fullShare d)
      ∗ (∃ d, owns (c : Thread nD τ) arg26 fullShare d)
      ∗ (iprop(owns (c : Thread nD τ) arg1 fullShare x0
          ∗ owns (c : Thread nD τ) arg2 fullShare x1
          ∗ owns (c : Thread nD τ) arg3 fullShare x2
          ∗ owns (c : Thread nD τ) arg4 fullShare x3
          ∗ owns (c : Thread nD τ) arg5 fullShare x4
          ∗ owns (c : Thread nD τ) arg6 fullShare x5
          ∗ owns (c : Thread nD τ) arg7 fullShare x6
          ∗ owns (c : Thread nD τ) arg8 fullShare x7
          ∗ owns (c : Thread nD τ) arg9 fullShare x8
          ∗ owns (c : Thread nD τ) arg10 fullShare x9
          ∗ owns (c : Thread nD τ) arg11 fullShare x10
          ∗ owns (c : Thread nD τ) arg12 fullShare x11
          ∗ owns (c : Thread nD τ) arg13 fullShare x12
          ∗ owns (c : Thread nD τ) arg14 fullShare ((tileOf x0 x1 x2 x4 x5 x6 x7 x8 x9 x10).x1Out ((tileOf x0 x1 x2 x4 x5 x6 x7 x8 x9 x10).att i k0_pay6 k0_pay7) k0_pay8)
          ∗ (∃ d, owns (c : Thread nD τ) arg15 fullShare d)
          ∗ owns (c : Thread nD τ) arg16 fullShare (tileOf x0 x1 x2 x4 x5 x6 x7 x8 x9 x10).kOut
          ∗ owns (c : Thread nD τ) arg17 fullShare (tileOf x0 x1 x2 x4 x5 x6 x7 x8 x9 x10).vOut
          ∗ owns (c : Thread nD τ) arg18 fullShare (tileOf x0 x1 x2 x4 x5 x6 x7 x8 x9 x10).uOut
          ∗ (∃ d, owns (c : Thread nD τ) arg19 fullShare d)
          ∗ (∃ d, owns (c : Thread nD τ) arg20 fullShare d)
          ∗ owns (c : Thread nD τ) arg21 fullShare (ring (tileOf x0 x1 x2 x4 x5 x6 x7 x8 x9 x10).kNew (tileOf x0 x1 x2 x4 x5 x6 x7 x8 x9 x10).kNew)
          ∗ owns (c : Thread nD τ) arg22 fullShare (ring (tileOf x0 x1 x2 x4 x5 x6 x7 x8 x9 x10).vNew (tileOf x0 x1 x2 x4 x5 x6 x7 x8 x9 x10).vNew)
          ∗ (∃ d, owns (c : Thread nD τ) arg23 fullShare d)
          ∗ owns (c : Thread nD τ) arg24 fullShare (tileOf x0 x1 x2 x4 x5 x6 x7 x8 x9 x10).u8
          ∗ (∃ d, owns (c : Thread nD τ) arg25 fullShare d)
          ∗ (∃ d, owns (c : Thread nD τ) arg26 fullShare d)) -∗ K ⟨⟩))
      ⊢ wp frame (wpE (defs₀ (F := F)) Variants.none c none) E (cc0_prompt_main i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  obtain ⟨e13, e15, e16, e17, e20, e21, e23⟩ := pieces_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3
  generalize (run_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 hc2 hc3 x0 x1 x2 x3 x4 x5 x6 x7 x8 x9 x10 x11 x12 xs0 xs1 xs3) = r at e13 e15 e16 e17 e20 e21 e23
  obtain ⟨L13, L15, L16, L17, L20, L21, L23, hr⟩ := r
  dsimp only at e13 e15 e16 e17 e20 e21 e23
  subst e13 e15 e16 e17 e20 e21 e23
  have hrun := hr E K
  iintro ⟨H0, H1, H2, H3, H4, H5, H6, H7, H8, H9, H10, H11, H12, H13, H14, H15, H16, H17, H18, H19, H20, H21, H22, H23, H24, H25, Hk⟩
  iapply hrun
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iintro ⟨H0, H1, H2, H3, H4, H5, H6, H7, H8, H9, H10, H11, H12, H13, H14, H15, H16, H17, H18, H19, H20, H21, H22, H23, H24, H25⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iapply (owns_of_whole c arg14 (off := ![0, 0, 0]) (by funext a; fin_cases a <;> rfl) _ _ _); iexact H13
  isplitl [H14]; · iexact H14
  isplitl [H15]; · iapply (owns_of_whole c arg16 (off := ![0, 0, 0]) (by funext a; fin_cases a <;> rfl) _ _ _); iexact H15
  isplitl [H16]; · iapply (owns_of_whole c arg17 (off := ![0, 0, 0]) (by funext a; fin_cases a <;> rfl) _ _ _); iexact H16
  isplitl [H17]; · iapply (owns_of_whole c arg18 (off := ![0, 0, 0]) (by funext a; fin_cases a <;> rfl) _ _ _); iexact H17
  isplitl [H18]; · iexact H18
  isplitl [H19]; · iexact H19
  isplitl [H20]; · iapply (owns_of_ring c arg21 _ _); iexact H20
  isplitl [H21]; · iapply (owns_of_ring c arg22 _ _); iexact H21
  isplitl [H22]; · iexact H22
  isplitl [H23]; · iapply (owns_of_whole c arg24 (off := ![0, 0]) (by funext a; fin_cases a <;> rfl) _ _ _); iexact H23
  isplitl [H24]; · iexact H24
  iexact H25

end Cert.KernelIdeal.Hand

end
-- ==== Proof.Ideal.RunD.lean ====
module

public import proofs.«01_k».proof.Proof.Ideal.Base

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 3200000 in
theorem run_D (c : Dev nD) (i : grid0.Coords)
  (arg1 : Memref sig .tc .vmem S1x512x1024 .f32) (harg1 : arg1.IsWhole)
  (arg2 : Memref sig .tc .vmem S1x6x1024 .f32) (harg2 : arg2.IsWhole)
  (arg3 : Memref sig .tc .vmem S1x1024 .f32) (harg3 : arg3.IsWhole)
  (arg4 : Memref sig .tc .vmem S1x1024 .f32) (harg4 : arg4.IsWhole)
  (arg5 : Memref sig .tc .vmem S1024x5120 .bf16) (harg5 : arg5.IsWhole)
  (arg6 : Memref sig .tc .vmem S2x512x640 .f32) (harg6 : arg6.IsWhole)
  (arg7 : Memref sig .tc .vmem S8x512 .f32) (harg7 : arg7.IsWhole)
  (arg8 : Memref sig .tc .vmem S1x512 .f32) (harg8 : arg8.IsWhole)
  (arg9 : Memref sig .tc .vmem S512x1024 .bf16) (harg9 : arg9.IsWhole)
  (arg10 : Memref sig .tc .vmem S512x1024 .bf16) (harg10 : arg10.IsWhole)
  (arg11 : Memref sig .tc .vmem S1024x1024 .bf16) (harg11 : arg11.IsWhole)
  (arg12 : Memref sig .tc .vmem S1024x128 .bf16) (harg12 : arg12.IsWhole)
  (arg13 : Memref sig .tc .vmem S1x128 .f32) (harg13 : arg13.IsWhole)
  (arg14 : Memref sig .tc .vmem S1x512x1024 .f32) (harg14 : arg14.IsWhole)
  (arg15 : Memref sig .tc .vmem S4096x128 .bf16) (harg15 : arg15.IsWhole)
  (arg16 : Memref sig .tc .vmem S1x512x512 .f32) (harg16 : arg16.IsWhole)
  (arg17 : Memref sig .tc .vmem S1x512x512 .f32) (harg17 : arg17.IsWhole)
  (arg18 : Memref sig .tc .vmem S1x8x512 .f32) (harg18 : arg18.IsWhole)
  (arg19 : Memref sig .tc .vmem S1x512x128 .f32) (harg19 : arg19.IsWhole)
  (arg20 : Memref sig .tc .vmem S1x128 .f32) (harg20 : arg20.IsWhole)
  (arg21 : Memref sig .tc .vmem S1024x512 .bf16) (harg21 : arg21.IsWhole)
  (arg22 : Memref sig .tc .vmem S1024x512 .bf16) (harg22 : arg22.IsWhole)
  (arg23 : Memref sig .tc .vmem S512x512 .bf16) (harg23 : arg23.IsWhole)
  (arg24 : Memref sig .tc .vmem S8x512 .f32) (harg24 : arg24.IsWhole)
  (arg25 : Memref sig .tc .vmem S1x128 .f32) (harg25 : arg25.IsWhole)
  (arg26 : Memref sig .tc .vmem S512x1024 .f32) (harg26 : arg26.IsWhole)
  (hc0 : ¬cond0_0 i) (hc1 : ¬cond0_1 i) (hc3 : cond0_3 i)
  (x0 : Vec F S1x512x1024 .f32) (x1 : Vec F S1x6x1024 .f32) (x2 : Vec F S1x1024 .f32) (x3 : Vec F S1x1024 .f32) (x4 : Vec F S1024x5120 .bf16) (x5 : Vec F S2x512x640 .f32) (x6 : Vec F S8x512 .f32) (x7 : Vec F S1x512 .f32) (x8 : Vec F S512x1024 .bf16) (x9 : Vec F S512x1024 .bf16) (x10 : Vec F S1024x1024 .bf16) (x11 : Vec F S1024x128 .bf16) (x12 : Vec F S1x128 .f32) (y13 : Vec F S1x512x1024 .f32) (y15 : Vec F S1x512x512 .f32) (y16 : Vec F S1x512x512 .f32) (y17 : Vec F S1x8x512 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare y13
        ∗ (∃ d, owns (c : Thread nD τ) arg15 fullShare d)
        ∗ owns (c : Thread nD τ) arg16 fullShare y15
        ∗ owns (c : Thread nD τ) arg17 fullShare y16
        ∗ owns (c : Thread nD τ) arg18 fullShare y17
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ (∃ d, owns (c : Thread nD τ) arg24 fullShare d)
        ∗ (∃ d, owns (c : Thread nD τ) arg25 fullShare d)
        ∗ (∃ d, owns (c : Thread nD τ) arg26 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare y13
            ∗ (∃ d, owns (c : Thread nD τ) arg15 fullShare d)
            ∗ owns (c : Thread nD τ) arg16 fullShare y15
            ∗ owns (c : Thread nD τ) arg17 fullShare y16
            ∗ owns (c : Thread nD τ) arg18 fullShare y17
            ∗ (∃ d, owns (c : Thread nD τ) arg19 fullShare d)
            ∗ (∃ d, owns (c : Thread nD τ) arg20 fullShare d)
            ∗ (∃ d, owns (c : Thread nD τ) arg21 fullShare d)
            ∗ (∃ d, owns (c : Thread nD τ) arg22 fullShare d)
            ∗ (∃ d, owns (c : Thread nD τ) arg23 fullShare d)
            ∗ (∃ d, owns (c : Thread nD τ) arg24 fullShare d)
            ∗ (∃ d, owns (c : Thread nD τ) arg25 fullShare d)
            ∗ (∃ d, owns (c : Thread nD τ) arg26 fullShare d)) -∗ K ⟨⟩))
      ⊢ wp frame (wpE (defs₀ (F := F)) Variants.none c none) E (cc0_prompt_main i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0_prompt_main_eq_skeleton]; unfold cc0_prompt_main_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton]
  unfold owns
  have e15 : ∀ g, (arg15.view.loc (c : Thread nD τ) ↦[arg15.view.set]{fullShare} g : sProp 𝕄) = ((arg15.reshape S2048x2x128 reshapes_S4096x128_S2048x2x128.1 reshapes_S4096x128_S2048x2x128.2 harg15.contiguous).view.loc (c : Thread nD τ) ↦[(arg15.reshape S2048x2x128 reshapes_S4096x128_S2048x2x128.1 reshapes_S4096x128_S2048x2x128.2 harg15.contiguous).view.set]{fullShare} g) := fun g => by
    rw [show (arg15.reshape S2048x2x128 reshapes_S4096x128_S2048x2x128.1 reshapes_S4096x128_S2048x2x128.2 harg15.contiguous).view.set = arg15.view.set from View.set_reshape _ _]
  simp only [e15]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, ⟨%f17, %hf17, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg16.eq_unread hf15; obtain rfl := harg17.eq_unread hf16; obtain rfl := harg18.eq_unread hf17
  sl_exec (disch := first | sl_exact hc0 | sl_exact hc1 | sl_exact hc3)
  repeat (sl_step; try sl_exec (disch := first | sl_exact hc0 | sl_exact hc1 | sl_exact hc3))
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [H12]
  · iexists _; isplitr; · ipureintro; exact harg13.read_unread _
    iexact H12
  isplitl [H13]
  · iexists _; isplitr; · ipureintro; exact harg14.read_unread _
    iexact H13
  isplitl [H14]
  · iexists _, _; isplitr; swap; · iexact H14
    ipureintro; rfl
  isplitl [H15]
  · iexists _; isplitr; · ipureintro; exact harg16.read_unread _
    iexact H15
  isplitl [H16]
  · iexists _; isplitr; · ipureintro; exact harg17.read_unread _
    iexact H16
  isplitl [H17]
  · iexists _; isplitr; · ipureintro; exact harg18.read_unread _
    iexact H17
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  iexists _, _; isplitr; swap; · iexact H25
  ipureintro; rfl

end Cert.KernelIdeal.Hand

end
-- ==== Proof.Ideal.Data.lean ====
module

public import proofs.«01_k».proof.Proof.Ideal.Val
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each point leaves -/

/-- The point before; -/
def pred (t : Fin cfg0.N) : Fin cfg0.N := ⟨t.val - 1, lt_of_le_of_lt (Nat.sub_le _ _) t.isLt⟩

/-- the tile whose outputs the buffers hold after a point: the point's own, the last tile's at the last point. -/
def tl (t : Fin cfg0.N) : Fin cfg0.N := if t.val < 64 then t else pred t

theorem tl_of_lt {t : Fin cfg0.N} (h : t.val < 64) : tl t = t := if_pos h
theorem tl_last {t : Fin cfg0.N} (h : t.val = 64) : tl t = pred t := if_neg (by omega)
theorem tl_pred_last {t : Fin cfg0.N} (h : t.val = 64) : tl (pred t) = pred t := tl_of_lt (show t.val - 1 < 64 by omega)

/-- The tile a point works on. -/
def tileAt (c : Dev nD) (t : Fin cfg0.N) : Tile F :=
  tileOf (iblk m c 0 t) (iblk m c 1 t) (iblk m c 2 t) (iblk m c 4 t) (iblk m c 5 t) (iblk m c 6 t) (iblk m c 7 t) (iblk m c 8 t) (iblk m c 9 t) (iblk m c 10 t)

/-- The keys, values and last rows of `u` a tile finds: zeros at its batch's first tile, the tile before's at the others. -/
def kPrev (c : Dev nD) (t : Fin cfg0.N) : Vec F S512x512 .bf16 := if t.val % 16 = 0 then k0_pay6 else (tileAt m c (pred t)).kNew
def vPrev (c : Dev nD) (t : Fin cfg0.N) : Vec F S512x512 .bf16 := if t.val % 16 = 0 then k0_pay7 else (tileAt m c (pred t)).vNew
def uPrev (c : Dev nD) (t : Fin cfg0.N) : Vec F S8x512 .f32 := if t.val % 16 = 0 then k0_pay8 else (tileAt m c (pred t)).u8

/-- A tile's output rows. -/
def x1At (c : Dev nD) (t : Fin cfg0.N) : Vec F S1x512x1024 .f32 :=
  (tileAt m c t).x1Out ((tileAt m c t).att (grid0.coords t) (kPrev m c t) (vPrev m c t)) (uPrev m c t)

/-- The output windows the frame says nothing of. -/
def forgets0 : Fin 20 → Bool := fun w => w.val == 14 || w.val == 18 || w.val == 19

/-- The scratch after a tile: both halves of each ring at the tile, the last rows of `u`, the rest at anything. -/
def carried (c : Dev nD) (T : Tile F) : sProp 𝕄 :=
  iprop(iprop(owns (c : Thread nD τ) scM0_0 fullShare (ring T.kNew T.kNew) ∗ owns (c : Thread nD τ) scM0_1 fullShare (ring T.vNew T.vNew)
    ∗ (∃ d, owns (c : Thread nD τ) scM0_2 fullShare d) ∗ owns (c : Thread nD τ) scM0_3 fullShare T.u8
    ∗ (∃ d, owns (c : Thread nD τ) scM0_4 fullShare d) ∗ (∃ d, owns (c : Thread nD τ) scM0_5 fullShare d)) ∗ (∃ r, prngReg c r))

theorem carried_forget (c : Dev nD) (T : Tile F) : carried c T ⊢ (Pipeline.ΦA spec0 c : sProp 𝕄) := by
  rw [PhiA0_eq]; unfold carried
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexact HS2
    isplitl [HS3]; · iexists _; iexact HS3
    isplitl [HS4]; · iexact HS4
    iexact HS5
  iexact Hg

/-- The scratch before a point. -/
def scratch (c : Dev nD) (n : Fin (cfg0.N + 1)) : sProp 𝕄 :=
  if h : 0 < n.val ∧ n.val < 65 then carried c (tileAt m c ⟨n.val - 1, by have := n.isLt; omega⟩) else Pipeline.ΦA spec0 c

theorem scratch_castSucc (c : Dev nD) (t : Fin cfg0.N) (h : 0 < t.val) : scratch m c t.castSucc = carried c (tileAt m c (pred t)) :=
  dif_pos ⟨h, lt_of_lt_of_eq t.isLt N_0⟩
theorem scratch_first (c : Dev nD) (t : Fin cfg0.N) (h : t.val = 0) : scratch m c t.castSucc = Pipeline.ΦA spec0 c :=
  dif_neg fun h' => by have : 0 < t.val := h'.1; omega
theorem scratch_succ (c : Dev nD) (t : Fin cfg0.N) (h : t.val < 64) : scratch m c t.succ = carried c (tileAt m c t) :=
  (dif_pos ⟨Nat.succ_pos _, show t.val + 1 < 65 by omega⟩).trans rfl
theorem scratch_last (c : Dev nD) (t : Fin cfg0.N) (h : t.val = 64) : scratch m c t.succ = Pipeline.ΦA spec0 c :=
  dif_neg fun h' => by have : t.val + 1 < 65 := h'.2; omega

/-- The pipeline's proof data: every input's buffer at its block, the tracked outputs at their tile's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => x1At m c (tl t)
    | ⟨14, h⟩ => Pipeline.Dat.unnamed (cfg := cfg0) ⟨14, h⟩ t
    | ⟨15, _⟩ => (tileAt m c (tl t)).kOut
    | ⟨16, _⟩ => (tileAt m c (tl t)).vOut
    | ⟨17, _⟩ => (tileAt m c (tl t)).uOut
    | ⟨18, h⟩ => Pipeline.Dat.unnamed (cfg := cfg0) ⟨18, h⟩ t
    | ⟨19, h⟩ => Pipeline.Dat.unnamed (cfg := cfg0) ⟨19, h⟩ t
    | ⟨_ + 20, h⟩ => absurd h (Nat.not_lt.2 (Nat.le_add_left _ _))
  Φ n := scratch m c n
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = x1At m c (tl t) := by dsimp only [dats]
theorem after0_15 (c : Dev nD) (t : Fin cfg0.N) : (dats m 0 c).after 15 t = (tileAt m c (tl t)).kOut := by dsimp only [dats]
theorem after0_16 (c : Dev nD) (t : Fin cfg0.N) : (dats m 0 c).after 16 t = (tileAt m c (tl t)).vOut := by dsimp only [dats]
theorem after0_17 (c : Dev nD) (t : Fin cfg0.N) : (dats m 0 c).after 17 t = (tileAt m c (tl t)).uOut := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The tracked outputs at the last point, which leaves them as it finds them -/

theorem idle_iff (t : Fin cfg0.N) : (!(k0_cond2 (grid0.coords t) == 1#1)) = true ↔ ¬ t.val < 64 := by
  rw [← hcond0_1 t]; simp [cond0_1]

theorem live0_13 (t : Fin cfg0.N) (h : t.val < 64) : cfg0.idle 13 (grid0.coords t) = false := by
  have e := (idle_iff t).not.2 (not_not.2 h)
  exact Bool.eq_false_iff.2 e
theorem resting0_13 (t : Fin cfg0.N) (h : t.val = 64) : cfg0.idle 13 (grid0.coords t) = true := (idle_iff t).2 (by omega)
theorem held0_13 : ∀ t : Fin grid0.N, t.val = 63 → win0_13.flush t = false := by decide +kernel
theorem flushed0_13 : ∀ t : Fin grid0.N, t.val = 64 → win0_13.flush t = true := by decide +kernel
theorem before0_13_last (c : Dev nD) (t : Fin cfg0.N) (h : t.val = 64) (d) : (dats m 0 c).before 13 t d = x1At m c (pred t) := by
  rw [Dat.before_of_pos _ 13 t (by omega) rfl, if_neg (by rw [show (cfg0.win 13).flush ⟨t.val - 1, _⟩ = false from held0_13 _ (show t.val - 1 = 63 by omega)]; exact Bool.false_ne_true)]
  unfold Dat.left
  rw [show cfg0.idle 13 (cfg0.grid.coords ⟨t.val - 1, _⟩) = false from live0_13 _ (show t.val - 1 < 64 by omega)]
  refine (show _ = (dats m 0 c).after 13 (pred t) from rfl).trans ?_
  rw [after0_13, tl_pred_last h]

theorem live0_15 (t : Fin cfg0.N) (h : t.val < 64) : cfg0.idle 15 (grid0.coords t) = false := by
  have e := (idle_iff t).not.2 (not_not.2 h)
  exact Bool.eq_false_iff.2 e
theorem resting0_15 (t : Fin cfg0.N) (h : t.val = 64) : cfg0.idle 15 (grid0.coords t) = true := (idle_iff t).2 (by omega)
theorem held0_15 : ∀ t : Fin grid0.N, t.val = 63 → win0_15.flush t = false := by decide +kernel
theorem flushed0_15 : ∀ t : Fin grid0.N, t.val = 64 → win0_15.flush t = true := by decide +kernel
theorem before0_15_last (c : Dev nD) (t : Fin cfg0.N) (h : t.val = 64) (d) : (dats m 0 c).before 15 t d = (tileAt m c (pred t)).kOut := by
  rw [Dat.before_of_pos _ 15 t (by omega) rfl, if_neg (by rw [show (cfg0.win 15).flush ⟨t.val - 1, _⟩ = false from held0_15 _ (show t.val - 1 = 63 by omega)]; exact Bool.false_ne_true)]
  unfold Dat.left
  rw [show cfg0.idle 15 (cfg0.grid.coords ⟨t.val - 1, _⟩) = false from live0_15 _ (show t.val - 1 < 64 by omega)]
  refine (show _ = (dats m 0 c).after 15 (pred t) from rfl).trans ?_
  rw [after0_15, tl_pred_last h]

theorem live0_16 (t : Fin cfg0.N) (h : t.val < 64) : cfg0.idle 16 (grid0.coords t) = false := by
  have e := (idle_iff t).not.2 (not_not.2 h)
  exact Bool.eq_false_iff.2 e
theorem resting0_16 (t : Fin cfg0.N) (h : t.val = 64) : cfg0.idle 16 (grid0.coords t) = true := (idle_iff t).2 (by omega)
theorem held0_16 : ∀ t : Fin grid0.N, t.val = 63 → win0_16.flush t = false := by decide +kernel
theorem flushed0_16 : ∀ t : Fin grid0.N, t.val = 64 → win0_16.flush t = true := by decide +kernel
theorem before0_16_last (c : Dev nD) (t : Fin cfg0.N) (h : t.val = 64) (d) : (dats m 0 c).before 16 t d = (tileAt m c (pred t)).vOut := by
  rw [Dat.before_of_pos _ 16 t (by omega) rfl, if_neg (by rw [show (cfg0.win 16).flush ⟨t.val - 1, _⟩ = false from held0_16 _ (show t.val - 1 = 63 by omega)]; exact Bool.false_ne_true)]
  unfold Dat.left
  rw [show cfg0.idle 16 (cfg0.grid.coords ⟨t.val - 1, _⟩) = false from live0_16 _ (show t.val - 1 < 64 by omega)]
  refine (show _ = (dats m 0 c).after 16 (pred t) from rfl).trans ?_
  rw [after0_16, tl_pred_last h]

theorem live0_17 (t : Fin cfg0.N) (h : t.val < 64) : cfg0.idle 17 (grid0.coords t) = false := by
  have e := (idle_iff t).not.2 (not_not.2 h)
  exact Bool.eq_false_iff.2 e
theorem resting0_17 (t : Fin cfg0.N) (h : t.val = 64) : cfg0.idle 17 (grid0.coords t) = true := (idle_iff t).2 (by omega)
theorem held0_17 : ∀ t : Fin grid0.N, t.val = 63 → win0_17.flush t = false := by decide +kernel
theorem flushed0_17 : ∀ t : Fin grid0.N, t.val = 64 → win0_17.flush t = true := by decide +kernel
theorem before0_17_last (c : Dev nD) (t : Fin cfg0.N) (h : t.val = 64) (d) : (dats m 0 c).before 17 t d = (tileAt m c (pred t)).uOut := by
  rw [Dat.before_of_pos _ 17 t (by omega) rfl, if_neg (by rw [show (cfg0.win 17).flush ⟨t.val - 1, _⟩ = false from held0_17 _ (show t.val - 1 = 63 by omega)]; exact Bool.false_ne_true)]
  unfold Dat.left
  rw [show cfg0.idle 17 (cfg0.grid.coords ⟨t.val - 1, _⟩) = false from live0_17 _ (show t.val - 1 < 64 by omega)]
  refine (show _ = (dats m 0 c).after 17 (pred t) from rfl).trans ?_
  rw [after0_17, tl_pred_last h]

end Cert.KernelIdeal.Hand

end
-- ==== Proof.Ideal.Frame.lean ====
module

public import proofs.«01_k».proof.Proof.Ideal.TileA
public import proofs.«01_k».proof.Proof.Ideal.TileB
public import proofs.«01_k».proof.Proof.Ideal.TileC
public import proofs.«01_k».proof.Proof.Ideal.RunD
public import proofs.«01_k».proof.Proof.Ideal.Data
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is called with at a point. -/
def bodyPre (c : Dev nD) (t : Fin cfg0.N) : sProp 𝕄 :=
  iprop((dats m 0 c).Φ t.castSucc
    ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare d)
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare d)
    ∗ (∃ d, owns (c : Thread nD τ) (ms0_19 t) fullShare d))

/-- What it hands back. -/
def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (∃ d, owns (c : Thread nD τ) (ms0_14 t) fullShare d)
    ∗ (dats m 0 c).leavesExact 15 t
    ∗ (dats m 0 c).leavesExact 16 t
    ∗ (dats m 0 c).leavesExact 17 t
    ∗ (∃ d, owns (c : Thread nD τ) (ms0_18 t) fullShare d)
    ∗ (∃ d, owns (c : Thread nD τ) (ms0_19 t) fullShare d))

set_option maxHeartbeats 8000000 in
/-- The body at a point of case A. -/
theorem sound_A (c : Dev nD) (t : Fin cfg0.N) (h3 : ¬ t.val % 65 = 64) (h0 : t.val = 0) :
    bodyPre m c t ⊢ wp frame (wpE (defs₀ (F := F)) Variants.none c none) Set.univ (bodyAt0 t) (fun _ => bodyPost m c t) := by
  have hN : t.val < 65 := lt_of_lt_of_eq t.isLt (show cfg0.N = 65 from N_0)
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = scratch m c t.succ from rfl, show (dats m 0 c).Φ t.castSucc = scratch m c t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare (x1At m c t) from by
    unfold Dat.leavesExact; rw [show cfg0.idle 13 (cfg0.grid.coords t) = false from live0_13 t (by omega)]; exact (show _ = owns (c : Thread nD τ) (ms0_13 t) fullShare ((dats m 0 c).after 13 t) from rfl).trans (by rw [after0_13, tl_of_lt (by omega)])]
  rw [show (dats m 0 c).leavesExact 15 t = owns (c : Thread nD τ) (ms0_15 t) fullShare ((tileAt m c t).kOut) from by
    unfold Dat.leavesExact; rw [show cfg0.idle 15 (cfg0.grid.coords t) = false from live0_15 t (by omega)]; exact (show _ = owns (c : Thread nD τ) (ms0_15 t) fullShare ((dats m 0 c).after 15 t) from rfl).trans (by rw [after0_15, tl_of_lt (by omega)])]
  rw [show (dats m 0 c).leavesExact 16 t = owns (c : Thread nD τ) (ms0_16 t) fullShare ((tileAt m c t).vOut) from by
    unfold Dat.leavesExact; rw [show cfg0.idle 16 (cfg0.grid.coords t) = false from live0_16 t (by omega)]; exact (show _ = owns (c : Thread nD τ) (ms0_16 t) fullShare ((dats m 0 c).after 16 t) from rfl).trans (by rw [after0_16, tl_of_lt (by omega)])]
  rw [show (dats m 0 c).leavesExact 17 t = owns (c : Thread nD τ) (ms0_17 t) fullShare ((tileAt m c t).uOut) from by
    unfold Dat.leavesExact; rw [show cfg0.idle 17 (cfg0.grid.coords t) = false from live0_17 t (by omega)]; exact (show _ = owns (c : Thread nD τ) (ms0_17 t) fullShare ((dats m 0 c).after 17 t) from rfl).trans (by rw [after0_17, tl_of_lt (by omega)])]
  rw [scratch_first m c t h0, scratch_succ m c t (by omega), PhiA0_eq]
  unfold x1At kPrev vPrev uPrev carried
  rw [if_pos (by omega), if_pos (by omega), if_pos (by omega)]
  iintro ⟨⟨⟨⟨%xs0, HS0⟩, ⟨%xs1, HS1⟩, HS2, ⟨%xs3, HS3⟩, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14, H15, H16, H17, H18, H19⟩
  iapply (tile_A c (grid0.coords t) _ _ _ _ _ _ _ _ _ _ _ _ _ _ _ _ _ _ _ _ _ _ _ _ _ _ _ _ _ _ _ _ _ _ _ _ _ _ _ _ _ _ _ _ _ _ _ _ _ _ _ _ ((hcond0_0 t).mpr (by omega)) ((hcond0_1 t).mpr (by omega)) ((hcond0_2 t).mpr (by omega)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs0 xs1 xs3 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · icases H13 with ⟨%d, H13⟩; iexists _; iexact H13
  isplitl [H14]; · iexact H14
  isplitl [H15]; · icases H15 with ⟨%d, H15⟩; iexists _; iexact H15
  isplitl [H16]; · icases H16 with ⟨%d, H16⟩; iexists _; iexact H16
  isplitl [H17]; · icases H17 with ⟨%d, H17⟩; iexists _; iexact H17
  isplitl [H18]; · iexact H18
  isplitl [H19]; · iexact H19
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

set_option maxHeartbeats 8000000 in
/-- The body at a point of case B. -/
theorem sound_B (c : Dev nD) (t : Fin cfg0.N) (h3 : ¬ t.val % 65 = 64) (h2 : ¬ t.val % 16 = 0) :
    bodyPre m c t ⊢ wp frame (wpE (defs₀ (F := F)) Variants.none c none) Set.univ (bodyAt0 t) (fun _ => bodyPost m c t) := by
  have hN : t.val < 65 := lt_of_lt_of_eq t.isLt (show cfg0.N = 65 from N_0)
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = scratch m c t.succ from rfl, show (dats m 0 c).Φ t.castSucc = scratch m c t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare (x1At m c t) from by
    unfold Dat.leavesExact; rw [show cfg0.idle 13 (cfg0.grid.coords t) = false from live0_13 t (by omega)]; exact (show _ = owns (c : Thread nD τ) (ms0_13 t) fullShare ((dats m 0 c).after 13 t) from rfl).trans (by rw [after0_13, tl_of_lt (by omega)])]
  rw [show (dats m 0 c).leavesExact 15 t = owns (c : Thread nD τ) (ms0_15 t) fullShare ((tileAt m c t).kOut) from by
    unfold Dat.leavesExact; rw [show cfg0.idle 15 (cfg0.grid.coords t) = false from live0_15 t (by omega)]; exact (show _ = owns (c : Thread nD τ) (ms0_15 t) fullShare ((dats m 0 c).after 15 t) from rfl).trans (by rw [after0_15, tl_of_lt (by omega)])]
  rw [show (dats m 0 c).leavesExact 16 t = owns (c : Thread nD τ) (ms0_16 t) fullShare ((tileAt m c t).vOut) from by
    unfold Dat.leavesExact; rw [show cfg0.idle 16 (cfg0.grid.coords t) = false from live0_16 t (by omega)]; exact (show _ = owns (c : Thread nD τ) (ms0_16 t) fullShare ((dats m 0 c).after 16 t) from rfl).trans (by rw [after0_16, tl_of_lt (by omega)])]
  rw [show (dats m 0 c).leavesExact 17 t = owns (c : Thread nD τ) (ms0_17 t) fullShare ((tileAt m c t).uOut) from by
    unfold Dat.leavesExact; rw [show cfg0.idle 17 (cfg0.grid.coords t) = false from live0_17 t (by omega)]; exact (show _ = owns (c : Thread nD τ) (ms0_17 t) fullShare ((dats m 0 c).after 17 t) from rfl).trans (by rw [after0_17, tl_of_lt (by omega)])]
  rw [scratch_castSucc m c t (by omega), scratch_succ m c t (by omega)]
  unfold x1At kPrev vPrev uPrev carried
  rw [if_neg h2, if_neg h2, if_neg h2]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14, H15, H16, H17, H18, H19⟩
  iapply (tile_B c (grid0.coords t) _ _ _ _ _ _ _ _ _ _ _ _ _ _ _ _ _ _ _ _ _ _ _ _ _ _ _ _ _ _ _ _ _ _ _ _ _ _ _ _ _ _ _ _ _ _ _ _ _ _ _ _ (fun h => by have := (hcond0_0 t).mp h; omega) ((hcond0_1 t).mpr (by omega)) (fun h => by have := (hcond0_2 t).mp h; omega) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · icases H13 with ⟨%d, H13⟩; iexists _; iexact H13
  isplitl [H14]; · iexact H14
  isplitl [H15]; · icases H15 with ⟨%d, H15⟩; iexists _; iexact H15
  isplitl [H16]; · icases H16 with ⟨%d, H16⟩; iexists _; iexact H16
  isplitl [H17]; · icases H17 with ⟨%d, H17⟩; iexists _; iexact H17
  isplitl [H18]; · iexact H18
  isplitl [H19]; · iexact H19
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

set_option maxHeartbeats 8000000 in
/-- The body at a point of case C. -/
theorem sound_C (c : Dev nD) (t : Fin cfg0.N) (h3 : ¬ t.val % 65 = 64) (h2 : t.val % 16 = 0) (h0 : ¬ t.val = 0) :
    bodyPre m c t ⊢ wp frame (wpE (defs₀ (F := F)) Variants.none c none) Set.univ (bodyAt0 t) (fun _ => bodyPost m c t) := by
  have hN : t.val < 65 := lt_of_lt_of_eq t.isLt (show cfg0.N = 65 from N_0)
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = scratch m c t.succ from rfl, show (dats m 0 c).Φ t.castSucc = scratch m c t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare (x1At m c t) from by
    unfold Dat.leavesExact; rw [show cfg0.idle 13 (cfg0.grid.coords t) = false from live0_13 t (by omega)]; exact (show _ = owns (c : Thread nD τ) (ms0_13 t) fullShare ((dats m 0 c).after 13 t) from rfl).trans (by rw [after0_13, tl_of_lt (by omega)])]
  rw [show (dats m 0 c).leavesExact 15 t = owns (c : Thread nD τ) (ms0_15 t) fullShare ((tileAt m c t).kOut) from by
    unfold Dat.leavesExact; rw [show cfg0.idle 15 (cfg0.grid.coords t) = false from live0_15 t (by omega)]; exact (show _ = owns (c : Thread nD τ) (ms0_15 t) fullShare ((dats m 0 c).after 15 t) from rfl).trans (by rw [after0_15, tl_of_lt (by omega)])]
  rw [show (dats m 0 c).leavesExact 16 t = owns (c : Thread nD τ) (ms0_16 t) fullShare ((tileAt m c t).vOut) from by
    unfold Dat.leavesExact; rw [show cfg0.idle 16 (cfg0.grid.coords t) = false from live0_16 t (by omega)]; exact (show _ = owns (c : Thread nD τ) (ms0_16 t) fullShare ((dats m 0 c).after 16 t) from rfl).trans (by rw [after0_16, tl_of_lt (by omega)])]
  rw [show (dats m 0 c).leavesExact 17 t = owns (c : Thread nD τ) (ms0_17 t) fullShare ((tileAt m c t).uOut) from by
    unfold Dat.leavesExact; rw [show cfg0.idle 17 (cfg0.grid.coords t) = false from live0_17 t (by omega)]; exact (show _ = owns (c : Thread nD τ) (ms0_17 t) fullShare ((dats m 0 c).after 17 t) from rfl).trans (by rw [after0_17, tl_of_lt (by omega)])]
  rw [scratch_castSucc m c t (by omega), scratch_succ m c t (by omega)]
  unfold x1At kPrev vPrev uPrev carried
  rw [if_pos h2, if_pos h2, if_pos h2]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13, H14, H15, H16, H17, H18, H19⟩
  iapply (tile_C c (grid0.coords t) _ _ _ _ _ _ _ _ _ _ _ _ _ _ _ _ _ _ _ _ _ _ _ _ _ _ _ _ _ _ _ _ _ _ _ _ _ _ _ _ _ _ _ _ _ _ _ _ _ _ _ _ (fun h => by have := (hcond0_0 t).mp h; omega) ((hcond0_1 t).mpr (by omega)) ((hcond0_2 t).mpr (by omega)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · icases H13 with ⟨%d, H13⟩; iexists _; iexact H13
  isplitl [H14]; · iexact H14
  isplitl [H15]; · icases H15 with ⟨%d, H15⟩; iexists _; iexact H15
  isplitl [H16]; · icases H16 with ⟨%d, H16⟩; iexists _; iexact H16
  isplitl [H17]; · icases H17 with ⟨%d, H17⟩; iexists _; iexact H17
  isplitl [H18]; · iexact H18
  isplitl [H19]; · iexact H19
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

set_option maxHeartbeats 8000000 in
/-- The body at a point of case D. -/
theorem sound_D (c : Dev nD) (t : Fin cfg0.N) (h3 : t.val % 65 = 64) :
    bodyPre m c t ⊢ wp frame (wpE (defs₀ (F := F)) Variants.none c none) Set.univ (bodyAt0 t) (fun _ => bodyPost m c t) := by
  have hN : t.val < 65 := lt_of_lt_of_eq t.isLt (show cfg0.N = 65 from N_0)
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = scratch m c t.succ from rfl, show (dats m 0 c).Φ t.castSucc = scratch m c t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare (x1At m c (pred t)) from by
    unfold Dat.leavesExact; rw [show cfg0.idle 13 (cfg0.grid.coords t) = true from resting0_13 t (by omega), show (cfg0.win 13).flush t = true from flushed0_13 t (by omega)]; exact (show _ = owns (c : Thread nD τ) (ms0_13 t) fullShare ((dats m 0 c).after 13 t) from rfl).trans (by rw [after0_13, tl_last (by omega)])]
  simp only [before0_13_last m c t (by omega)]
  rw [show (dats m 0 c).leavesExact 15 t = owns (c : Thread nD τ) (ms0_15 t) fullShare ((tileAt m c (pred t)).kOut) from by
    unfold Dat.leavesExact; rw [show cfg0.idle 15 (cfg0.grid.coords t) = true from resting0_15 t (by omega), show (cfg0.win 15).flush t = true from flushed0_15 t (by omega)]; exact (show _ = owns (c : Thread nD τ) (ms0_15 t) fullShare ((dats m 0 c).after 15 t) from rfl).trans (by rw [after0_15, tl_last (by omega)])]
  simp only [before0_15_last m c t (by omega)]
  rw [show (dats m 0 c).leavesExact 16 t = owns (c : Thread nD τ) (ms0_16 t) fullShare ((tileAt m c (pred t)).vOut) from by
    unfold Dat.leavesExact; rw [show cfg0.idle 16 (cfg0.grid.coords t) = true from resting0_16 t (by omega), show (cfg0.win 16).flush t = true from flushed0_16 t (by omega)]; exact (show _ = owns (c : Thread nD τ) (ms0_16 t) fullShare ((dats m 0 c).after 16 t) from rfl).trans (by rw [after0_16, tl_last (by omega)])]
  simp only [before0_16_last m c t (by omega)]
  rw [show (dats m 0 c).leavesExact 17 t = owns (c : Thread nD τ) (ms0_17 t) fullShare ((tileAt m c (pred t)).uOut) from by
    unfold Dat.leavesExact; rw [show cfg0.idle 17 (cfg0.grid.coords t) = true from resting0_17 t (by omega), show (cfg0.win 17).flush t = true from flushed0_17 t (by omega)]; exact (show _ = owns (c : Thread nD τ) (ms0_17 t) fullShare ((dats m 0 c).after 17 t) from rfl).trans (by rw [after0_17, tl_last (by omega)])]
  simp only [before0_17_last m c t (by omega)]
  rw [scratch_castSucc m c t (by omega), scratch_last m c t (by omega), PhiA0_eq]
  unfold carried
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, H14, ⟨%d15, H15⟩, ⟨%d16, H16⟩, ⟨%d17, H17⟩, H18, H19⟩
  iapply (run_D c (grid0.coords t) _ _ _ _ _ _ _ _ _ _ _ _ _ _ _ _ _ _ _ _ _ _ _ _ _ _ _ _ _ _ _ _ _ _ _ _ _ _ _ _ _ _ _ _ _ _ _ _ _ _ _ _ (fun h => by have := (hcond0_0 t).mp h; omega) (fun h => by have := (hcond0_1 t).mp h; omega) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [HS0]; · iexists _; iexact HS0
  isplitl [HS1]; · iexists _; iexact HS1
  isplitl [HS2]; · iexact HS2
  isplitl [HS3]; · iexists _; iexact HS3
  isplitl [HS4]; · iexact HS4
  isplitl [HS5]; · iexact HS5
  iintro ⟨H0, H1, H2, H3, H4, H5, H6, H7, H8, H9, H10, H11, H12, H13, H14, H15, H16, H17, H18, H19, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The body at any point, by the case its coordinate is in. -/
theorem sound_body (c : Dev nD) (t : Fin cfg0.N) :
    bodyPre m c t ⊢ wp frame (wpE (defs₀ (F := F)) Variants.none c none) Set.univ (bodyAt0 t) (fun _ => bodyPost m c t) := by
  by_cases h3 : t.val % 65 = 64
  · exact sound_D m c t h3
  by_cases h2 : t.val % 16 = 0
  · by_cases h0 : t.val = 0
    · exact sound_A m c t h3 h0
    · exact sound_C m c t h3 h2 h0
  · exact sound_B m c t h3 h2

/-- The body table's row at a point is the body at that point. -/
theorem defs₀_row (t : Fin cfg0.N) :
    defs₀ (F := F) .tc cfg0.body (cfg0.bodyArgs t (cfg0.slots t)) = bodyAt0 t := by
  unfold defs₀; rw [Defs.onTc_tc]

/-- The library's body obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 :=
  .of_eq (show scratch m c 0 = _ from dif_neg fun h' => absurd h'.1 (lt_irrefl 0)).symm

theorem hout (c : Dev nD) : (dats m 0 c).Φ (Fin.last cfg0.N) ⊢ Pipeline.ΦA spec0 c :=
  .of_eq (show scratch m c (Fin.last cfg0.N) = _ from dif_neg fun h' => by have : cfg0.N < 65 := h'.2; have : cfg0.N = 65 := N_0; omega)

set_option backward.isDefEq.respectTransparency.types false in
/-- The launch: the frame's postcondition, and every counter at zero, at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch's postcondition alone. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

set_option maxHeartbeats 4000000 in
/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(Pipeline.RDat.FramePost.arr_in h c 0 rfl).trans ((A_eq m c 0).trans (V_main_arg0 m c)),
      (Pipeline.RDat.FramePost.arr_in h c 1 rfl).trans ((A_eq m c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.KernelIdeal.Hand

end
-- ==== Proof.RefFrame.lean ====
/- The reference's frame and the ideal pass's rewrites. -/
module

public import proofs.«01_k».proof.Defs
public import proofs.«01_k».proof.Proof.Gen.ReferenceIdeal
public import proofs.«01_k».proof.Proof.Gen.ReferenceIdeal.Run
public import Idealize.ShloMosaic.Lib.Bf16Pair

@[expose] public section

noncomputable section

namespace Cert.ReferenceIdeal.Hand

open Idealize.ShloMosaic Idealize.SL.Sem Cert.ReferenceIdeal

variable {F : FTy → Type} [FloatOps F]

/-- The reference runs, its arguments end unchanged, and it has no semaphore to leave. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c => (h c).2.2.2.2, sem_eq_zero_of_no_sems (by decide) r.2⟩) (Cert.ReferenceIdeal.Value.run m ρ)

end Cert.ReferenceIdeal.Hand

namespace Cert.KernelIdeal.Hand

open Idealize.ShloMosaic

/-- The ideal pass's rewrites: the scale and the mask named, and the packed words read as their two halves. -/
theorem preserves : Cert.preserves_Kernel_KernelIdeal :=
  ⟨IdealRules.named_const.statement _ _ _ _ _ rfl, IdealRules.named_const.statement _ _ _ _ _ rfl,
    IdealRules.bf16_pair.packStatement Cert.KernelIdeal.S512x512, IdealRules.bf16_pair.statement Cert.KernelIdeal.S512x2x128 Cert.KernelIdeal.S512x1x128⟩

end Cert.KernelIdeal.Hand

end
-- ==== Proof.Value.Softmax.lean ====
module

public import Idealize.ShloMosaic.PureOps.Ideal

/-! A row of attention over every key, and the same row over a window of them that holds every key not masked, its
scores and its powers to the base two: the two agree over the extended reals, whatever the scores and the values. -/

@[expose] public section

noncomputable section

namespace Cert.Value

open Idealize.ShloMosaic
open scoped BigOperators

/-- The scale between the two bases. -/
def lg : ℝ := 1 / Real.log 2

theorem lg_pos : 0 < lg := one_div_pos.2 (Real.log_pos one_lt_two)

theorem scale_add (x y : EReal) : (lg : EReal) * (x + y) = (lg : EReal) * x + (lg : EReal) * y :=
  EReal.left_distrib_of_nonneg_of_ne_top (EReal.coe_nonneg.2 lg_pos.le) (EReal.coe_ne_top _) x y

theorem scale_sub (x y : EReal) : (lg : EReal) * x - (lg : EReal) * y = (lg : EReal) * (x - y) := by
  rw [sub_eq_add_neg, sub_eq_add_neg, scale_add, mul_neg]

theorem scale_mono {x y : EReal} (h : x ≤ y) : (lg : EReal) * x ≤ (lg : EReal) * y :=
  mul_le_mul_of_nonneg_left h (EReal.coe_nonneg.2 lg_pos.le)

theorem scale_bot : (lg : EReal) * ⊥ = ⊥ := EReal.coe_mul_bot_of_pos lg_pos

/-- Powers of two of scaled scores are powers of e of the scores. -/
theorem exp2_scale (x : EReal) : Ideal.exp2 ((lg : EReal) * x) = Ideal.exp x := by
  induction x with
  | bot => rw [scale_bot]; rfl
  | top => rw [EReal.coe_mul_top_of_pos lg_pos]; rfl
  | coe r =>
    rw [← EReal.coe_mul, Ideal.exp2_coe, Ideal.exp_coe]
    congr 1
    show (2 : ℝ) ^ (lg * r) = Real.exp r
    rw [Real.rpow_def_of_pos two_pos, lg, ← mul_assoc, mul_one_div_cancel (Real.log_pos one_lt_two).ne', one_mul]

theorem exp_nonneg (x : EReal) : 0 ≤ Ideal.exp x := by
  induction x with
  | bot => exact le_rfl
  | top => exact le_top
  | coe r => rw [Ideal.exp_coe]; exact EReal.coe_nonneg.2 (Real.exp_pos r).le

/-- A score at most the greatest has a power at most one. -/
theorem exp_le_one {x y : EReal} (h : x ≤ y) : Ideal.exp (x - y) ≤ 1 := by
  induction y with
  | bot => rw [le_bot_iff.1 h]; exact zero_le_one
  | top =>
    have e : x - ⊤ = ⊥ := by rw [sub_eq_add_neg, EReal.neg_top, EReal.add_bot]
    rw [e]; exact zero_le_one
  | coe b =>
    induction x with
    | bot => exact zero_le_one
    | top => exact absurd h (by simp)
    | coe a =>
      rw [← EReal.coe_sub, Ideal.exp_coe, ← EReal.coe_one]
      exact EReal.coe_le_coe_iff.2 (Real.exp_le_one_iff.2 (sub_nonpos.2 (EReal.coe_le_coe_iff.1 h)))

/-- A factor that is not negative and not the top moves into a sum. -/
theorem sum_mul_of_nonneg {ι : Type} (s : Finset ι) (f : ι → EReal) {c : EReal} (h0 : 0 ≤ c) (h1 : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

/-- One over a sum of numbers that are not negative: moved in. -/
theorem weigh_sum {ι : Type} [Fintype ι] (p v : ι → EReal) (hp : ∀ i, 0 ≤ p i) :
    (∑ i, p i * v i) * Ideal.div 1 (∑ i, p i) = ∑ i, v i * (p i * Ideal.div 1 (∑ i, p i)) := by
  by_cases h : ∑ i, p i = 0
  · have hz : ∀ i, p i = 0 := fun i => (Finset.sum_eq_zero_iff_of_nonneg (fun i _ => hp i)).1 h i (Finset.mem_univ i)
    simp [hz]
  · have h0 : 0 ≤ ∑ i, p i := Finset.sum_nonneg fun i _ => hp i
    have hd : Ideal.div 1 (∑ i, p i) = (∑ i, p i)⁻¹ := by rw [Ideal.div, if_neg h, one_mul]
    rw [hd, sum_mul_of_nonneg _ _ (EReal.inv_nonneg_of_nonneg h0)]
    · refine Finset.sum_congr rfl fun i _ => ?_
      rw [mul_comm (p i) (v i), mul_assoc]
    · intro ht
      generalize ∑ i, p i = l at *
      induction l with
      | bot => simp at ht
      | top => simp at ht
      | coe r => rw [← EReal.coe_inv] at ht; exact EReal.coe_ne_top _ ht

/-- A row of attention over all keys. -/
def soft {ι : Type} [Fintype ι] (S V : ι → EReal) : EReal :=
  ∑ j, V j * (Ideal.exp (S j - Finset.univ.fold max ⊥ S) * Ideal.div 1 (∑ k, Ideal.exp (S k - Finset.univ.fold max ⊥ S)))

/-- A row of attention over a window, to the base two, divided after the sum. -/
def soft2 {κ : Type} [Fintype κ] (X W : κ → EReal) : EReal :=
  (∑ w, Ideal.exp2 (X w - Finset.univ.fold max ⊥ X) * W w) * Ideal.div 1 (∑ w, Ideal.exp2 (X w - Finset.univ.fold max ⊥ X))

theorem le_foldMax {ι : Type} [Fintype ι] (S : ι → EReal) (j : ι) : S j ≤ Finset.univ.fold max ⊥ S :=
  (Finset.le_fold_max _).2 (Or.inr ⟨j, Finset.mem_univ j, le_rfl⟩)

theorem foldMax_le {ι : Type} [Fintype ι] {S : ι → EReal} {b : EReal} (h : ∀ j, S j ≤ b) : Finset.univ.fold max ⊥ S ≤ b :=
  (Finset.fold_max_le _).2 ⟨bot_le, fun j _ => h j⟩

theorem foldMax_eq {ι : Type} [Fintype ι] (S : ι → EReal) : Finset.univ.fold max ⊥ S = ⊥ ∨ ∃ j, Finset.univ.fold max ⊥ S = S j := by
  rcases (Finset.le_fold_max (s := Finset.univ) (f := S) (b := ⊥) (Finset.univ.fold max ⊥ S)).1 le_rfl with h | ⟨j, _, h⟩
  · exact Or.inl (le_bot_iff.1 h)
  · exact Or.inr ⟨j, le_antisymm h (le_foldMax S j)⟩

/-- **The window's row is the whole row**: `good` says which keys of the window there are, `g` which key each is. -/
theorem soft2_eq_soft {ι κ : Type} [Fintype ι] [Fintype κ] (S V : ι → EReal) (X W : κ → EReal) (good : κ → Prop) (g : κ → ι)
    (inj : ∀ a b, good a → good b → g a = g b → a = b) (hX : ∀ w, good w → X w = (lg : EReal) * S (g w)) (hW : ∀ w, good w → W w = V (g w))
    (bad : ∀ w, ¬ good w → X w = ⊥) (out : ∀ j, (∀ w, good w → g w ≠ j) → S j = ⊥) : soft2 X W = soft S V := by
  classical
  have hM : Finset.univ.fold max ⊥ X = (lg : EReal) * Finset.univ.fold max ⊥ S := by
    refine le_antisymm (foldMax_le fun w => ?_) ?_
    · by_cases h : good w
      · rw [hX w h]; exact scale_mono (le_foldMax S _)
      · rw [bad w h]; exact bot_le
    · rcases foldMax_eq S with h | ⟨j, h⟩
      · rw [h, scale_bot]; exact bot_le
      · rw [h]
        by_cases hj : ∃ w, good w ∧ g w = j
        · obtain ⟨w, hw, rfl⟩ := hj
          rw [← hX w hw]; exact le_foldMax X w
        · rw [out j fun w hw e => hj ⟨w, hw, e⟩, scale_bot]; exact bot_le
  have hb : ∀ x : EReal, (⊥ : EReal) - x = ⊥ := fun x => by rw [sub_eq_add_neg, EReal.bot_add]
  have hp : ∀ w, good w → Ideal.exp2 (X w - Finset.univ.fold max ⊥ X) = Ideal.exp (S (g w) - Finset.univ.fold max ⊥ S) := fun w hw => by
    rw [hM, hX w hw, scale_sub, exp2_scale]
  have hq : ∀ w, ¬ good w → Ideal.exp2 (X w - Finset.univ.fold max ⊥ X) = 0 := fun w hw => by rw [bad w hw, hb]; rfl
  have hr : ∀ j, (∀ w, good w → g w ≠ j) → Ideal.exp (S j - Finset.univ.fold max ⊥ S) = 0 := fun j hj => by rw [out j hj, hb]; rfl
  have move : ∀ (A : κ → EReal) (B : ι → EReal), (∀ w, good w → A w = B (g w)) → (∀ w, ¬ good w → A w = 0) → (∀ j, (∀ w, good w → g w ≠ j) → B j = 0) →
      ∑ w, A w = ∑ j, B j := fun A B h1 h2 h3 => by
    rw [← Finset.sum_filter_add_sum_filter_not Finset.univ good A, Finset.sum_eq_zero (s := Finset.univ.filter fun w => ¬ good w) (fun w hw => h2 w (Finset.mem_filter.1 hw).2), add_zero]
    refine Finset.sum_of_injOn g (fun a ha b hb e => inj a b (Finset.mem_filter.1 ha).2 (Finset.mem_filter.1 hb).2 e) (fun _ _ => Finset.mem_coe.2 (Finset.mem_univ _)) (fun j _ hj => h3 j fun w hw e => hj ⟨w, Finset.mem_coe.2 (Finset.mem_filter.2 ⟨Finset.mem_univ _, hw⟩), e⟩) (fun w hw => h1 w (Finset.mem_filter.1 hw).2)
  unfold soft2 soft
  rw [move (fun w => Ideal.exp2 (X w - Finset.univ.fold max ⊥ X)) (fun j => Ideal.exp (S j - Finset.univ.fold max ⊥ S)) hp hq hr,
    move (fun w => Ideal.exp2 (X w - Finset.univ.fold max ⊥ X) * W w) (fun j => Ideal.exp (S j - Finset.univ.fold max ⊥ S) * V j)
      (fun w hw => by rw [hp w hw, hW w hw]) (fun w hw => by rw [hq w hw, zero_mul]) (fun j hj => by rw [hr j hj, zero_mul])]
  exact weigh_sum _ _ fun j => exp_nonneg _

end Cert.Value

end
-- ==== Proof.Value.Tables.lean ====
module

public import proofs.«01_k».proof.Proof.Ideal.Base
public import proofs.«01_k».proof.Proof.Gen.ReferenceIdeal.Run
public import proofs.«01_k».proof.Proof.Value.Softmax
public import Idealize.ShloMosaic.Lib.Claim
public import Idealize.ShloMosaic.Lib.IdealHost
public import Idealize.ShloMosaic.Lib.Pointwise

/-! The tables both programs look up, the two gathers read at an index, and the constants as numbers. -/

@[expose] public section

set_option maxRecDepth 16384

noncomputable section

namespace Cert.Value

open Idealize.ShloMosaic Idealize.ShloMosaic.TcCoe Idealize.ShloMosaic.Tactic
open Cert.KernelIdeal Cert.KernelIdeal.Gen

theorem gather_lane (x : FVec Ideal Cert.KernelIdeal.S8x257 .f32) (i : IVec Cert.KernelIdeal.S768x1 32) (h : Fin 8) (n : Fin 768) :
    Host.gather Cert.KernelIdeal.gather_S8x257_S768x1_S8x768_0_1_n_n_1_1_81 x i (ix2 h n) = x (ix2 h ⟨min (i (ix2 n 0)).toInt.toNat 256, by omega⟩) := by
  unfold Host.gather
  congr 1
  funext a
  refine Fin.ext ?_
  match a with
  | ⟨0, _⟩ =>
    show GatherDims.start _ _ i 0 + GatherDims.batchCoord _ _ 0 + GatherDims.offCoord _ _ 0 = h.val
    rw [GatherDims.batchCoord_eq_zero _ _ _ List.not_mem_nil]
    unfold GatherDims.start GatherDims.offCoord
    rw [dif_neg (by decide), dif_pos (by decide)]
    simp only [Nat.zero_add, Nat.add_zero]
    rfl
  | ⟨1, _⟩ =>
    show GatherDims.start _ _ i 1 + GatherDims.batchCoord _ _ 1 + GatherDims.offCoord _ _ 1 = min (i (ix2 n 0)).toInt.toNat 256
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (by decide)]
    have hs : ∀ q, GatherDims.siIdx Cert.KernelIdeal.gather_S8x257_S768x1_S8x768_0_1_n_n_1_1_81 (ix2 h n) q = ix2 n 0 := by
      intro q
      funext b
      refine Fin.ext ?_
      fin_cases b <;> fin_cases q <;> rfl
    rw [hs]
    rfl

theorem gather_pair (x : FVec Ideal Cert.ReferenceIdeal.S8x257 .f32) (i : IVec Cert.ReferenceIdeal.S8192x8192x1 32) (h : Fin 8) (n k : Fin 8192) :
    Host.gather Cert.ReferenceIdeal.gather_S8x257_S8192x8192x1_S8x8192x8192_0_1_n_n_1_2_81 x i (ix3 h n k) = x (ix2 h ⟨min (i (ix3 n k 0)).toInt.toNat 256, by omega⟩) := by
  unfold Host.gather
  congr 1
  funext a
  refine Fin.ext ?_
  match a with
  | ⟨0, _⟩ =>
    show GatherDims.start _ _ i 0 + GatherDims.batchCoord _ _ 0 + GatherDims.offCoord _ _ 0 = h.val
    rw [GatherDims.batchCoord_eq_zero _ _ _ List.not_mem_nil]
    unfold GatherDims.start GatherDims.offCoord
    rw [dif_neg (by decide), dif_pos (by decide)]
    simp only [Nat.zero_add, Nat.add_zero]
    rfl
  | ⟨1, _⟩ =>
    show GatherDims.start _ _ i 1 + GatherDims.batchCoord _ _ 1 + GatherDims.offCoord _ _ 1 = min (i (ix3 n k 0)).toInt.toNat 256
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (by decide)]
    have hs : ∀ q, GatherDims.siIdx Cert.ReferenceIdeal.gather_S8x257_S8192x8192x1_S8x8192x8192_0_1_n_n_1_2_81 (ix3 h n k) q = ix3 n k 0 := by
      intro q
      funext b
      refine Fin.ext ?_
      fin_cases b <;> fin_cases q <;> rfl
    rw [hs]
    rfl

theorem lit_lane : ∀ n : Fin 768, Cert.KernelIdeal.lit0 n = BitVec.ofNat 32 (min 256 (767 - n.val)) := by decide +kernel

/-- The signed division of a small row number by 64, as the host spells floor division. -/
theorem floor_div : ∀ r : Fin 128, Scalar.select
    (IntOp.andi
      (IntOp.cmpi CmpIPredicate.ne
        (if BitVec.ofNat 32 r.val = 0 then (0 : BitVec 32) else if (BitVec.ofNat 32 r.val).msb = true then -1 else 1)
        (if 64#32 = 0 then (0 : BitVec 32) else if (64#32).msb = true then -1 else 1))
      (IntOp.cmpi CmpIPredicate.ne (IntOp.remsi ArithUnit.host (BitVec.ofNat 32 r.val) 64#32) 0#32))
    (IntOp.subi (IntOp.divsi ArithUnit.host (BitVec.ofNat 32 r.val) 64#32) 1#32)
    (IntOp.divsi ArithUnit.host (BitVec.ofNat 32 r.val) 64#32) = BitVec.ofNat 32 (r.val / 64) := by decide +kernel

theorem band : ∀ (a : Fin 2) (w : Fin 640), IntOp.andi
    (IntOp.cmpi CmpIPredicate.sge (IntOp.subi (BitVec.ofNat 32 w.val) (IntOp.muli (BitVec.ofNat 32 a.val) 64#32)) 0#32)
    (IntOp.cmpi CmpIPredicate.slt (IntOp.subi (BitVec.ofNat 32 w.val) (IntOp.muli (BitVec.ofNat 32 a.val) 64#32)) 576#32)
      = if 64 * a.val ≤ w.val ∧ w.val < 64 * a.val + 576 then 1#1 else 0#1 := by decide +kernel

theorem ofBits_two : Ideal.ofBits .f32 1073741824#32 = ((2 : ℝ) : EReal) := by
  simp [Ideal.ofBits, Ideal.ieee, -EReal.coe_mul]; norm_num

theorem ofBits_bot : Ideal.ofBits .f32 4286578688#32 = ⊥ := by
  simp [Ideal.ofBits, Ideal.ieee, -EReal.coe_mul]

theorem log2e_eq : Ideal.div (Ideal.ofBits .f32 1065353216#32) (Ideal.log (Ideal.ofBits .f32 1073741824#32)) = (lg : EReal) := by
  rw [ofBits_two, show Ideal.ofBits .f32 1065353216#32 = 1 from Ideal.ofBits_one_f32, Ideal.log_coe, if_neg (by norm_num), Ideal.div_coe (Real.log_pos one_lt_two).ne', one_mul, lg]

end Cert.Value
end
-- ==== Proof.Value.Layer.lean ====
module

public import proofs.«01_k».proof.Proof.Value.Softmax

/-! The layer's mathematics on numbers: what the prompt's rows are made into, as functions of the arguments' entries. -/

@[expose] public section

noncomputable section

namespace Cert.Value

open Idealize.ShloMosaic
open scoped BigOperators

/-- A row normalised and modulated. -/
def row (x g sc sh : Fin 1024 → EReal) (j : Fin 1024) : EReal :=
  x j * Ideal.rsqrt (Ideal.div (∑ k : Fin 1024, x k * x k) (Ideal.ofBits .f32 0x44800000#32) + Ideal.ofBits .f32 0x358637BD#32) * g j * (1 + sc j) + sh j

/-- The logistic function. -/
def sg (g : EReal) : EReal := Ideal.div 1 (1 + Ideal.exp (-g))

/-- The layer's arguments, entry by entry. -/
@[ext] structure Layer where
  x : Fin 4 → Fin 8192 → Fin 1024 → EReal
  md : Fin 4 → Fin 6 → Fin 1024 → EReal
  g1 : Fin 1024 → EReal
  win : Fin 1024 → Fin 5120 → EReal
  rb : Fin 8 → Fin 257 → EReal
  cw : Fin 3 → Fin 512 → EReal
  cb : Fin 512 → EReal
  wpa : Fin 512 → Fin 1024 → EReal
  wpb : Fin 512 → Fin 1024 → EReal
  wo : Fin 1024 → Fin 1024 → EReal

namespace Layer

variable (A : Layer)

/-- The modulated rows. -/
def hid (b : Fin 4) (i : Fin 8192) (j : Fin 1024) : EReal := row (A.x b i) A.g1 (A.md b 1) (A.md b 0) j
/-- Their projection: queries, keys, values, the three parts of the convolution, the two gates. -/
def z (b : Fin 4) (i : Fin 8192) (o : Fin 5120) : EReal := ∑ j : Fin 1024, A.hid b i j * A.win j o
/-- The convolution's input. -/
def u (b : Fin 4) (i : Fin 8192) (e : Fin 512) : EReal := A.z b i ⟨2048 + e.val, by omega⟩ * A.z b i ⟨2560 + e.val, by omega⟩
/-- The convolution's input some rows before. -/
def ub (n : ℕ) (b : Fin 4) (i : Fin 8192) (e : Fin 512) : EReal := if i.val < n then 0 else A.u b ⟨i.val - n, by omega⟩ e
/-- The gated convolution. -/
def conv (b : Fin 4) (i : Fin 8192) (e : Fin 512) : EReal :=
  A.z b i ⟨1536 + e.val, by omega⟩ * (A.cw 0 e * A.ub 2 b i e + A.cw 1 e * A.ub 1 b i e + A.cw 2 e * A.u b i e + A.cb e)
/-- The masked scores of a head. -/
def S (b : Fin 4) (h : Fin 8) (i j : Fin 8192) : EReal :=
  if j.val / 64 ≤ i.val / 64 ∧ i.val / 64 ≤ j.val / 64 + 8 then
    (∑ d : Fin 64, A.z b i ⟨64 * h.val + d.val, by omega⟩ * A.z b j ⟨512 + (64 * h.val + d.val), by omega⟩) * Ideal.ofBits .f32 0x3E000000#32
      + A.rb h ⟨min 256 (i.val + 128 - j.val), by omega⟩
  else ⊥
/-- The attention. -/
def att (b : Fin 4) (i : Fin 8192) (e : Fin 512) : EReal :=
  soft (fun j => A.S b ⟨e.val / 64, by omega⟩ i j) (fun j => A.z b j ⟨1024 + e.val, by omega⟩)
/-- The two branches mixed by their gates. -/
def mixed (b : Fin 4) (i : Fin 8192) (n : Fin 1024) : EReal :=
  sg (A.z b i ⟨3072 + n.val, by omega⟩) * (∑ e : Fin 512, A.att b i e * A.wpa e n)
    + sg (A.z b i ⟨4096 + n.val, by omega⟩) * (∑ e : Fin 512, A.conv b i e * A.wpb e n)
/-- The layer's rows after the residual. -/
def x1 (b : Fin 4) (i : Fin 8192) (n : Fin 1024) : EReal := A.x b i n + A.md b 2 n * ∑ k : Fin 1024, A.mixed b i k * A.wo k n

end Layer

end Cert.Value

end
-- ==== Proof.Value.Reference.lean ====
module

public import proofs.«01_k».proof.Proof.Gen.ReferenceIdeal.Run
public import proofs.«01_k».proof.Proof.Value.Tables
public import proofs.«01_k».proof.Proof.Value.Layer
public import Idealize.ShloMosaic.Lib.Pointwise
public import Idealize.ShloMosaic.Lib.Tactic.CleanTypes
public import Idealize.ShloMosaic.Lib.Tactic.WordOmega

/-! The reference's arrays, entry by entry: they are the layer's mathematics. -/

@[expose] public section

set_option maxRecDepth 16384

noncomputable section

namespace Cert.Value.Ref

open Idealize.ShloMosaic Idealize.ShloMosaic.TcCoe Idealize.ShloMosaic.Tactic
open Cert.ReferenceIdeal Cert.ReferenceIdeal.Gen Cert.ReferenceIdeal.Value
open scoped BigOperators

variable (V : Valuation τ sig (Elt Ideal))

/-- The layer's arguments as the reference's memory holds them. -/
def rLayer : Layer where
  x b i j := (V (Proc.devRef .tc main_arg0) : FVec Ideal S4x8192x1024 .f32) (ix3 b i j)
  md b k j := (V (Proc.devRef .tc main_arg1) : FVec Ideal S4x6x1024 .f32) (ix3 b k j)
  g1 j := (V (Proc.devRef .tc main_arg2) : FVec Ideal S1x1024 .f32) (ix2 0 j)
  win j o := (V (Proc.devRef .tc main_arg4) : FVec Ideal S1x1024x5120 .f32) (ix3 0 j o)
  rb h w := (V (Proc.devRef .tc main_arg5) : FVec Ideal S1x8x257 .f32) (ix3 0 h w)
  cw k e := (V (Proc.devRef .tc main_arg6) : FVec Ideal S1x3x512 .f32) (ix3 0 k e)
  cb e := (V (Proc.devRef .tc main_arg7) : FVec Ideal S1x512 .f32) (ix2 0 e)
  wpa e n := (V (Proc.devRef .tc main_arg8) : FVec Ideal S1x512x1024 .f32) (ix3 0 e n)
  wpb e n := (V (Proc.devRef .tc main_arg9) : FVec Ideal S1x512x1024 .f32) (ix3 0 e n)
  wo k n := (V (Proc.devRef .tc main_arg10) : FVec Ideal S1x1024x1024 .f32) (ix3 0 k n)

theorem z_at (b : Fin 4) (i : Fin 8192) (o : Fin 5120) :
    (res_main_v27 V : FVec Ideal S4x8192x5120 .f32) (ix3 b i o) = (rLayer V).z b i o := by
  show _ = ∑ j : Fin 1024, row (fun j => (V (Proc.devRef .tc main_arg0) : FVec Ideal S4x8192x1024 .f32) (ix3 b i j)) (fun j => (V (Proc.devRef .tc main_arg2) : FVec Ideal S1x1024 .f32) (ix2 0 j))
      (fun j => (V (Proc.devRef .tc main_arg1) : FVec Ideal S4x6x1024 .f32) (ix3 b 1 j)) (fun j => (V (Proc.devRef .tc main_arg1) : FVec Ideal S4x6x1024 .f32) (ix3 b 0 j)) j * (V (Proc.devRef .tc main_arg4) : FVec Ideal S1x1024x5120 .f32) (ix3 0 j o)
  unfold res_main_v27 row
  clean_types
  pointwise []

theorem k_at (b : Fin 4) (i : Fin 8192) (e : Fin 512) :
    (res_main_v29 V : FVec Ideal S4x8192x512 .f32) (ix3 b i e) = (rLayer V).z b i ⟨512 + e.val, by omega⟩ := by
  refine Eq.trans ?_ (z_at V b i _)
  unfold res_main_v29
  pointwise []

theorem v_at (b : Fin 4) (i : Fin 8192) (e : Fin 512) :
    (res_main_v30 V : FVec Ideal S4x8192x512 .f32) (ix3 b i e) = (rLayer V).z b i ⟨1024 + e.val, by omega⟩ := by
  refine Eq.trans ?_ (z_at V b i _)
  unfold res_main_v30
  pointwise []

theorem u_at (b : Fin 4) (i : Fin 8192) (e : Fin 512) :
    (res_main_v93 V : FVec Ideal S4x8192x512 .f32) (ix3 b i e) = (rLayer V).u b i e := by
  unfold Layer.u
  rw [← z_at, ← z_at]
  unfold res_main_v93
  pointwise []

end Cert.Value.Ref

end
-- ==== Proof.Value.Words.lean ====
module

public import proofs.«01_k».proof.Proof.Value.Reference
public import proofs.«01_k».proof.Proof.Value.Tables

/-! The reference's index words: chunks, the mask of near chunks, the clamped distance. -/

@[expose] public section

set_option maxRecDepth 16384

noncomputable section

namespace Cert.Value.Ref
open scoped BigOperators
open Idealize.ShloMosaic Idealize.ShloMosaic.TcCoe Idealize.ShloMosaic.Tactic

/-- A row's chunk. -/
theorem chunk : ∀ i : Fin 8192, IntOp.divsi ArithUnit.host (BitVec.ofNat 32 i.val) 64#32 = BitVec.ofNat 32 (i.val / 64) := by decide +kernel
theorem chunk_near : ∀ p q : Fin 128, IntOp.andi (IntOp.cmpi CmpIPredicate.sle (BitVec.ofNat 32 q.val) (BitVec.ofNat 32 p.val))
        (IntOp.cmpi CmpIPredicate.sle (BitVec.ofNat 32 p.val) (IntOp.addi (BitVec.ofNat 32 q.val) 8#32)) = if q.val ≤ p.val ∧ p.val ≤ q.val + 8 then 1#1 else 0#1 := by decide +kernel

theorem toInt_small (k : ℕ) (hk : k < 2147483648) : (BitVec.ofNat 32 k).toInt = (k : Int) :=
  (BitVec.toInt_ofNat k).trans (Int.bmod_eq_of_le (by omega) (by omega))

/-- The clamped distance of a query and a key, as a row of the bias table. -/
theorem dist (i j : Fin 8192) : IntOp.addi (IntOp.minsi 128#32 (IntOp.maxsi 4294967168#32 (IntOp.subi (BitVec.ofNat 32 i.val) (BitVec.ofNat 32 j.val)))) 128#32 = BitVec.ofNat 32 (min 256 (i.val + 128 - j.val)) := by
  have hD : (IntOp.subi (BitVec.ofNat 32 i.val) (BitVec.ofNat 32 j.val)).toInt = (i.val : Int) - j.val := by
    show (BitVec.ofNat 32 i.val - BitVec.ofNat 32 j.val).toInt = _
    rw [BitVec.toInt_sub, toInt_small _ (by omega), toInt_small _ (by omega), Int.bmod_eq_of_le (by omega) (by omega)]
  generalize IntOp.subi (BitVec.ofNat 32 i.val) (BitVec.ofNat 32 j.val) = D at hD
  have hlo : (4294967168#32 : BitVec 32).toInt = -128 := by decide
  have hhi : (128#32 : BitVec 32).toInt = 128 := by decide
  unfold IntOp.maxsi
  by_cases h1 : D.slt 4294967168#32 = true
  · have h1' : D.toInt < -128 := hlo ▸ of_decide_eq_true h1
    rw [if_pos h1, show min 256 (i.val + 128 - j.val) = 0 by omega]
    decide
  · have h1' : ¬ D.toInt < -128 := fun hh => h1 (decide_eq_true (hlo.symm ▸ hh))
    rw [if_neg h1]
    unfold IntOp.minsi
    by_cases h2 : (128#32).slt D = true
    · have h2' : 128 < D.toInt := hhi ▸ of_decide_eq_true h2
      rw [if_pos h2, show min 256 (i.val + 128 - j.val) = 256 by omega]
      decide
    · have h2' : ¬ 128 < D.toInt := fun hh => h2 (decide_eq_true (hhi.symm ▸ hh))
      rw [if_neg h2]
      refine BitVec.eq_of_toInt_eq ?_
      show (D + 128#32).toInt = _
      rw [BitVec.toInt_add, hD, hhi, toInt_small _ (by omega), Int.bmod_eq_of_le (by omega) (by omega)]
      omega
theorem dist_pos : ∀ k : Fin 257, IntOp.cmpi CmpIPredicate.slt (BitVec.ofNat 32 k.val) 0#32 = 0#1 := by decide +kernel
theorem dist_int : ∀ k : Fin 257, (BitVec.ofNat 32 k.val).toInt.toNat = k.val := by decide +kernel

theorem select_if {p : Prop} [Decidable p] (a b : EReal) : Scalar.select (if p then 1#1 else 0#1) a b = if p then a else b := by
  by_cases h : p
  · rw [if_pos h, if_pos h]; rfl
  · rw [if_neg h, if_neg h]; rfl

end Cert.Value.Ref

end
-- ==== Proof.Value.Scores.lean ====
module

public import proofs.«01_k».proof.Proof.Value.Reference
public import proofs.«01_k».proof.Proof.Value.Words

/-! The reference's masked scores are the layer's. -/

@[expose] public section

set_option maxRecDepth 16384

noncomputable section

namespace Cert.Value.Ref
open scoped BigOperators
open Idealize.ShloMosaic Idealize.ShloMosaic.TcCoe Idealize.ShloMosaic.Tactic

open Cert.ReferenceIdeal Cert.ReferenceIdeal.Gen Cert.ReferenceIdeal.Value
variable (V : Valuation τ sig (Elt Ideal))

theorem gather_clamped (x : FVec Ideal S8x257 .f32) (i : IVec S8192x8192x1 32) (h : Fin 8) (n k : Fin 8192) (d : ℕ) (hd : d ≤ 256) (e : (i (ix3 n k 0)).toInt.toNat = d) :
    Host.gather gather_S8x257_S8192x8192x1_S8x8192x8192_0_1_n_n_1_2_81 x i (ix3 h n k) = x (ix2 h ⟨d, by omega⟩) := by
  subst e
  rw [gather_pair]
  exact congrArg (fun d => x (ix2 h d)) (Fin.ext (Nat.min_eq_left hd))

theorem chunk_at (i : Fin 8192) : (res_main_v49 V : IVec S8192 32) (ix1 i) = BitVec.ofNat 32 (i.val / 64) := by
  rw [← chunk]
  unfold res_main_v49 res_main_v39
  clean_types
  pointwise []

theorem dist_at (i j : Fin 8192) : (res_main_v47 V : IVec S8192x8192 32) (ix2 i j) = BitVec.ofNat 32 (min 256 (i.val + 128 - j.val)) := by
  rw [← dist]
  unfold res_main_v47 res_main_v39
  clean_types
  pointwise []
  rfl

theorem index_at (i j : Fin 8192) : ((broadcastInDim S8192x8192x1 ![0, 1] bcast_S8192x8192_S8192x8192x1_0_1
            (select
              (cmpi CmpIPredicate.slt (res_main_v47 V : IVec S8192x8192 32)
                (broadcastInDim S8192x8192 ![] bcast_S_S8192x8192 (constantI S_ 32 0#32)))
              (addi (res_main_v47 V) (broadcastInDim S8192x8192 ![] bcast_S_S8192x8192 (constantI S_ 32 257#32)))
              (res_main_v47 V)) : IVec S8192x8192x1 32) (ix3 i j 0)).toInt.toNat = min 256 (i.val + 128 - j.val) := by
  have e := dist_pos ⟨min 256 (i.val + 128 - j.val), by omega⟩
  have e' := dist_int ⟨min 256 (i.val + 128 - j.val), by omega⟩
  simp only [] at e e'
  refine Eq.trans (congrArg (fun w : BitVec 32 => w.toInt.toNat) ?_) e'
  refine Eq.trans ?_ (dist_at V i j)
  pointwise []
  rw [dist_at, e]
  rfl

theorem S_at (b : Fin 4) (h : Fin 8) (i j : Fin 8192) :
    (res_main_v78 V : FVec Ideal S4x8x8192x8192 .f32) (ix4 b h i j) = (rLayer V).S b h i j := by
  unfold res_main_v78
  clean_types
  pointwise []
  rw [chunk_at, chunk_at, chunk_near ⟨i.val / 64, by omega⟩ ⟨j.val / 64, by omega⟩]
  unfold Layer.S
  refine Eq.trans ?_ (if_congr Iff.rfl rfl ofBits_bot)
  refine Eq.trans ?_ (select_if _ _)
  refine congrArg₂ (fun x y => Scalar.select _ x y) ?_ rfl
  refine congrArg₂ (· + ·) (congrArg (· * _) (Finset.sum_congr rfl fun d _ => ?_)) ?_
  · rw [z_at, k_at]
    exact congrArg₂ (fun o o' => (rLayer V).z b i o * (rLayer V).z b j o') (Fin.ext (show h.val * 64 + d.val = 64 * h.val + d.val by omega)) (Fin.ext (show 512 + (h.val * 64 + d.val) = 512 + (64 * h.val + d.val) by omega))
  · refine (gather_clamped _ _ h i j _ (by omega) (index_at V i j)).trans ?_
    pointwise []
    rfl
end Cert.Value.Ref

end
-- ==== Proof.Value.RefRows.lean ====
module

public import proofs.«01_k».proof.Proof.Value.Scores

/-! The reference's output rows are the layer's. -/

@[expose] public section

set_option maxRecDepth 16384

noncomputable section

namespace Cert.Value.Ref
open Idealize.ShloMosaic Idealize.ShloMosaic.TcCoe Idealize.ShloMosaic.Tactic
open Cert.ReferenceIdeal Cert.ReferenceIdeal.Gen Cert.ReferenceIdeal.Value
open scoped BigOperators
variable (V : Valuation τ sig (Elt Ideal))

theorem P_at (b : Fin 4) (h : Fin 8) (i j : Fin 8192) :
    (res_main_v83 V : FVec Ideal S4x8x8192x8192 .f32) (ix4 b h i j) = Ideal.exp ((rLayer V).S b h i j - Finset.univ.fold max ⊥ ((rLayer V).S b h i)) := by
  rw [← ofBits_bot]
  unfold res_main_v83
  clean_types
  pointwise []
  simp only [S_at]

/-- The reference's attention. -/
def refAtt : FVec Ideal S4x8192x512 .f32 := shapeCast S4x8192x512 (transpose S4x8192x8x64 [0, 3, 1, 2] (Host.dotGeneral dot_S4x8192x8x64_S4x8x8192x8192_S4x8x64x8192_1_3_3_2_02_01 none (shapeCast S4x8192x8x64 (res_main_v30 V : FVec Ideal S4x8192x512 .f32) shapeCasts_S4x8192x512_S4x8192x8x64 : FVec Ideal S4x8192x8x64 .f32) (mulf (res_main_v83 V) (broadcastInDim S4x8x8192x8192 ![0, 1, 2, 3] bcast_S4x8x8192x1_S4x8x8192x8192_0_1_2_3 (Host.divf (broadcastInDim S4x8x8192x1 ![] bcast_S_S4x8x8192x1 (constant S_ .f32 0x3F800000#32)) (broadcastInDim S4x8x8192x1 ![0, 1, 2] bcast_S4x8x8192_S4x8x8192x1_0_1_2 (Host.reduceAdd (res_main_v83 V) (constant S_ .f32 0x00000000#32) reducesTo_S4x8x8192x8192_S4x8x8192_d3 h_S_)))))) transposes_S4x8x64x8192_S4x8192x8x64_0_3_1_2 : FVec Ideal S4x8192x8x64 .f32) shapeCasts_S4x8192x8x64_S4x8192x512

theorem att_at (b : Fin 4) (i : Fin 8192) (e : Fin 512) : refAtt V (ix3 b i e) = (rLayer V).att b i e := by
  unfold refAtt Layer.att soft
  clean_types
  pointwise []
  simp only [P_at, v_at]

/-- The reference's gated convolution. -/
def refConv : FVec Ideal S4x8192x512 .f32 := mulf (extractStridedSlice S4x8192x512 ![0, 0, 1536] (res_main_v27 V) slices_S4x8192x5120_S4x8192x512_0_0_1536) (addf (addf (addf (addf (broadcastInDim S4x8192x512 ![] bcast_S_S4x8192x512 (constant S_ .f32 0x00000000#32)) (mulf (broadcastInDim S4x8192x512 ![0, 1, 2] bcast_S1x1x512_S4x8192x512_0_1_2 (broadcastInDim S1x1x512 ![2] bcast_S512_S1x1x512_2 (shapeCast _ (extractStridedSlice S1x512 ![0, 0] (shapeCast _ (V (Proc.devRef .tc main_arg6) : FVec Ideal S1x3x512 .f32) shapeCasts_S1x3x512_S3x512) slices_S3x512_S1x512_0_0) shapeCasts_S1x512_S512))) (extractStridedSlice S4x8192x512 ![0, 0, 0] (res_main_v95 V) slices_S4x8194x512_S4x8192x512_0_0_0))) (mulf (broadcastInDim S4x8192x512 ![0, 1, 2] bcast_S1x1x512_S4x8192x512_0_1_2 (broadcastInDim S1x1x512 ![2] bcast_S512_S1x1x512_2 (shapeCast _ (extractStridedSlice S1x512 ![1, 0] (shapeCast _ (V (Proc.devRef .tc main_arg6) : FVec Ideal S1x3x512 .f32) shapeCasts_S1x3x512_S3x512) slices_S3x512_S1x512_1_0) shapeCasts_S1x512_S512))) (extractStridedSlice S4x8192x512 ![0, 1, 0] (res_main_v95 V) slices_S4x8194x512_S4x8192x512_0_1_0))) (mulf (broadcastInDim S4x8192x512 ![0, 1, 2] bcast_S1x1x512_S4x8192x512_0_1_2 (broadcastInDim S1x1x512 ![2] bcast_S512_S1x1x512_2 (shapeCast _ (extractStridedSlice S1x512 ![2, 0] (shapeCast _ (V (Proc.devRef .tc main_arg6) : FVec Ideal S1x3x512 .f32) shapeCasts_S1x3x512_S3x512) slices_S3x512_S1x512_2_0) shapeCasts_S1x512_S512))) (extractStridedSlice S4x8192x512 ![0, 2, 0] (res_main_v95 V) slices_S4x8194x512_S4x8192x512_0_2_0))) (broadcastInDim S4x8192x512 ![0, 1, 2] bcast_S1x1x512_S4x8192x512_0_1_2 (broadcastInDim S1x1x512 ![2] bcast_S512_S1x1x512_2 (shapeCast _ (V (Proc.devRef .tc main_arg7) : FVec Ideal S1x512 .f32) shapeCasts_S1x512_S512))))

theorem pad_at (b : Fin 4) (i : Fin 8194) (e : Fin 512) : (res_main_v95 V : FVec Ideal S4x8194x512 .f32) (ix3 b i e) = if h : i.val < 2 then 0 else (rLayer V).u b ⟨i.val - 2, by omega⟩ e := by
  unfold res_main_v95
  clean_types
  pointwise []
  simp only [u_at]

theorem conv_at (b : Fin 4) (i : Fin 8192) (e : Fin 512) : refConv V (ix3 b i e) = (rLayer V).conv b i e := by
  unfold refConv Layer.conv
  clean_types
  pointwise []
  rw [pad_at, pad_at, pad_at, z_at]
  unfold Layer.ub
  refine congrArg₂ (· * ·) rfl (congrArg₂ (· + ·) (congrArg₂ (· + ·) (congrArg₂ (· + ·) (congrArg₂ (· * ·) rfl ?_) (congrArg₂ (· * ·) rfl ?_)) (congrArg₂ (· * ·) rfl ?_)) rfl)
  · by_cases hi : i.val < 2
    · rw [if_pos hi, dif_pos hi]
    · rw [if_neg hi, dif_neg hi]
  · by_cases hi : i.val < 1
    · rw [if_pos hi, dif_pos (show 1 + i.val < 2 by omega)]
    · rw [if_neg hi, dif_neg (show ¬ 1 + i.val < 2 by omega)]
      exact congrArg (fun k => (rLayer V).u b k e) (Fin.ext (show 1 + i.val - 2 = i.val - 1 by omega))
  · rw [dif_neg (show ¬ 2 + i.val < 2 by omega)]
    exact congrArg (fun k => (rLayer V).u b k e) (Fin.ext (show 2 + i.val - 2 = i.val by omega))

/-- The reference's rows after the residual. -/
def refX1 : FVec Ideal S4x8192x1024 .f32 := addf (V (Proc.devRef .tc main_arg0) : FVec Ideal S4x8192x1024 .f32) (mulf (broadcastInDim S4x8192x1024 ![0, 1, 2] bcast_S4x1x1024_S4x8192x1024_0_1_2 (extractStridedSlice S4x1x1024 ![0, 2, 0] (V (Proc.devRef .tc main_arg1) : FVec Ideal S4x6x1024 .f32) slices_S4x6x1024_S4x1x1024_0_2_0)) (Host.dotGeneral dot_S4x8192x1024_S1024x1024_S4x8192x1024_2_0_01_1_n_n none (addf (mulf (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (extractStridedSlice S4x8192x1024 ![0, 0, 3072] (res_main_v27 V) slices_S4x8192x5120_S4x8192x1024_0_0_3072))))) (Host.dotGeneral dot_S4x8192x512_S512x1024_S4x8192x1024_2_0_01_1_n_n none (refAtt V) (shapeCast S512x1024 (V (Proc.devRef .tc main_arg8) : FVec Ideal S1x512x1024 .f32) shapeCasts_S1x512x1024_S512x1024 : FVec Ideal S512x1024 .f32))) (mulf (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (extractStridedSlice S4x8192x1024 ![0, 0, 4096] (res_main_v27 V) slices_S4x8192x5120_S4x8192x1024_0_0_4096))))) (Host.dotGeneral dot_S4x8192x512_S512x1024_S4x8192x1024_2_0_01_1_n_n none (refConv V) (shapeCast S512x1024 (V (Proc.devRef .tc main_arg9) : FVec Ideal S1x512x1024 .f32) shapeCasts_S1x512x1024_S512x1024 : FVec Ideal S512x1024 .f32)))) (shapeCast S1024x1024 (V (Proc.devRef .tc main_arg10) : FVec Ideal S1x1024x1024 .f32) shapeCasts_S1x1024x1024_S1024x1024 : FVec Ideal S1024x1024 .f32)))

theorem x1_at (b : Fin 4) (i : Fin 8192) (n : Fin 1024) : refX1 V (ix3 b i n) = (rLayer V).x1 b i n := by
  unfold refX1 Layer.x1 Layer.mixed
  clean_types
  pointwise []
  simp only [att_at, conv_at, z_at]
  rfl
end Cert.Value.Ref

end
-- ==== Proof.Value.Args.lean ====
module

public import proofs.«01_k».proof.Proof.Ideal.Data
public import proofs.«01_k».proof.Proof.Value.Layer
public import Idealize.ShloMosaic.Lib.Claim
public import Idealize.ShloMosaic.Lib.Tactic.CleanTypes
public import Idealize.ShloMosaic.Lib.Pointwise
public import Idealize.ShloMosaic.Lib.Pipeline.ValueKit.Basic
public import Idealize.ShloMosaic.Lib.Pipeline.ValueKit.Geometry
public import Idealize.ShloMosaic.Lib.Pipeline.ValueKit.Point

/-! What each tile loads, entry by entry, in terms of the call's arguments. -/

@[expose] public section

set_option maxRecDepth 16384

noncomputable section

namespace Cert.Value

open Idealize.ShloMosaic Idealize.ShloMosaic.TcCoe Idealize.ShloMosaic.Tactic
open Cert.KernelIdeal Cert.KernelIdeal.Gen Cert.KernelIdeal.Hand

variable (m : (ℓ : Loc nD τ sig) → Buf (Elt Ideal) ℓ)

/-- The arguments in memory. -/
def a0 (c : Dev nD) : FVec Ideal S4x8192x1024 .f32 := m ((c : Thread nD τ).loc main_arg0)
def a1 (c : Dev nD) : FVec Ideal S4x6x1024 .f32 := m ((c : Thread nD τ).loc main_arg1)
def a2 (c : Dev nD) : FVec Ideal S1x1024 .f32 := m ((c : Thread nD τ).loc main_arg2)
def a4 (c : Dev nD) : FVec Ideal S1x1024x5120 .f32 := m ((c : Thread nD τ).loc main_arg4)
def a5 (c : Dev nD) : FVec Ideal S1x8x257 .f32 := m ((c : Thread nD τ).loc main_arg5)
def a6 (c : Dev nD) : FVec Ideal S1x3x512 .f32 := m ((c : Thread nD τ).loc main_arg6)
def a7 (c : Dev nD) : FVec Ideal S1x512 .f32 := m ((c : Thread nD τ).loc main_arg7)
def a8 (c : Dev nD) : FVec Ideal S1x512x1024 .f32 := m ((c : Thread nD τ).loc main_arg8)
def a9 (c : Dev nD) : FVec Ideal S1x512x1024 .f32 := m ((c : Thread nD τ).loc main_arg9)
def a10 (c : Dev nD) : FVec Ideal S1x1024x1024 .f32 := m ((c : Thread nD τ).loc main_arg10)

/-- The layer's arguments as the kernel's memory holds them. -/
def kLayer (c : Dev nD) : Layer where
  x b i j := a0 m c (ix3 b i j)
  md b k j := a1 m c (ix3 b k j)
  g1 j := a2 m c (ix2 0 j)
  win j o := a4 m c (ix3 0 j o)
  rb h w := a5 m c (ix3 0 h w)
  cw k e := a6 m c (ix3 0 k e)
  cb e := a7 m c (ix2 0 e)
  wpa e n := a8 m c (ix3 0 e n)
  wpb e n := a9 m c (ix3 0 e n)
  wo k n := a10 m c (ix3 0 k n)

theorem V_v9 (c : Dev nD) (j : Fin 1024) : (V m c main_v9 : FVec Ideal S1x1024 .f32) (ix2 0 j) = a2 m c (ix2 0 j) := by
  unfold Cert.KernelIdeal.Gen.V
  simp only [hostOps0, hostOps0_1, hostOps0_2, hostOps0_3, List.flatten_cons, List.flatten_nil, List.append_nil, List.cons_append, List.nil_append, StableHlo.after_cons, StableHlo.after_nil]
  after_results_simp
  clean_types
  pointwise []
  rfl

theorem V_v1 (c : Dev nD) (j : Fin 1024) (o : Fin 5120) : (V m c main_v1 : FVec Ideal S1024x5120 .bf16) (ix2 j o) = a4 m c (ix3 0 j o) := by
  unfold Cert.KernelIdeal.Gen.V
  simp only [hostOps0, hostOps0_1, hostOps0_2, hostOps0_3, List.flatten_cons, List.flatten_nil, List.append_nil, List.cons_append, List.nil_append, StableHlo.after_cons, StableHlo.after_nil]
  after_results_simp
  clean_types
  pointwise []
  rfl

theorem V_v3 (c : Dev nD) (j : Fin 512) (o : Fin 1024) : (V m c main_v3 : FVec Ideal S512x1024 .bf16) (ix2 j o) = a8 m c (ix3 0 j o) := by
  unfold Cert.KernelIdeal.Gen.V
  simp only [hostOps0, hostOps0_1, hostOps0_2, hostOps0_3, List.flatten_cons, List.flatten_nil, List.append_nil, List.cons_append, List.nil_append, StableHlo.after_cons, StableHlo.after_nil]
  after_results_simp
  clean_types
  pointwise []
  rfl

theorem V_v5 (c : Dev nD) (j : Fin 512) (o : Fin 1024) : (V m c main_v5 : FVec Ideal S512x1024 .bf16) (ix2 j o) = a9 m c (ix3 0 j o) := by
  unfold Cert.KernelIdeal.Gen.V
  simp only [hostOps0, hostOps0_1, hostOps0_2, hostOps0_3, List.flatten_cons, List.flatten_nil, List.append_nil, List.cons_append, List.nil_append, StableHlo.after_cons, StableHlo.after_nil]
  after_results_simp
  clean_types
  pointwise []
  rfl

theorem V_v7 (c : Dev nD) (j : Fin 1024) (o : Fin 1024) : (V m c main_v7 : FVec Ideal S1024x1024 .bf16) (ix2 j o) = a10 m c (ix3 0 j o) := by
  unfold Cert.KernelIdeal.Gen.V
  simp only [hostOps0, hostOps0_1, hostOps0_2, hostOps0_3, List.flatten_cons, List.flatten_nil, List.append_nil, List.cons_append, List.nil_append, StableHlo.after_cons, StableHlo.after_nil]
  after_results_simp
  clean_types
  pointwise []
  rfl

theorem V_v14 (c : Dev nD) (j : Fin 3) (o : Fin 512) : (V m c main_v14 : FVec Ideal S8x512 .f32) (ix2 ⟨j.val, by omega⟩ o) = a6 m c (ix3 0 j o) := by
  unfold Cert.KernelIdeal.Gen.V
  simp only [hostOps0, hostOps0_1, hostOps0_2, hostOps0_3, List.flatten_cons, List.flatten_nil, List.append_nil, List.cons_append, List.nil_append, StableHlo.after_cons, StableHlo.after_nil]
  after_results_simp
  clean_types
  pointwise []
  rfl

theorem V_v16 (c : Dev nD) (o : Fin 512) : (V m c main_v16 : FVec Ideal S1x512 .f32) (ix2 0 o) = a7 m c (ix2 0 o) := by
  unfold Cert.KernelIdeal.Gen.V
  simp only [hostOps0, hostOps0_1, hostOps0_2, hostOps0_3, List.flatten_cons, List.flatten_nil, List.append_nil, List.cons_append, List.nil_append, StableHlo.after_cons, StableHlo.after_nil]
  after_results_simp
  clean_types
  pointwise []
  rfl

theorem idx0 : ∀ t : Fin cfg0.N, t.val < 64 → win0_0.index t = ![t.val / 16, t.val % 16, 0] := by decide +kernel
theorem idx1 : ∀ t : Fin cfg0.N, t.val < 64 → win0_1.index t = ![t.val / 16, 0, 0] := by decide +kernel
theorem idx2 : ∀ t : Fin cfg0.N, win0_2.index t = ![0, 0] := by decide +kernel
theorem idx4 : ∀ t : Fin cfg0.N, win0_4.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel
theorem idx9 : ∀ t : Fin cfg0.N, win0_9.index t = ![0, 0] := by decide +kernel
theorem idx10 : ∀ t : Fin cfg0.N, win0_10.index t = ![0, 0] := by decide +kernel
theorem idx5 : ∀ t : Fin cfg0.N, win0_5.index t = ![0, 0, 0] := by decide +kernel

/-- A tile's batch, and the row of its batch that its row `r` is. -/
def tb (t : Fin cfg0.N) (h : t.val < 64) : Fin 4 := ⟨t.val / 16, by omega⟩
def tr (t : Fin cfg0.N) (r : Fin 512) : Fin 8192 := ⟨512 * (t.val % 16) + r.val, by omega⟩

theorem x_at (c : Dev nD) (t : Fin cfg0.N) (h : t.val < 64) (r : Fin 512) (j : Fin 1024) :
    (tileAt m c t).x (ix3 0 r j) = (kLayer m c).x (tb t h) (tr t r) j := by
  show _ = (m ((c : Thread nD τ).loc main_arg0) : FVec Ideal S4x8192x1024 .f32) (ix3 ⟨t.val / 16, by omega⟩ ⟨512 * (t.val % 16) + r.val, by omega⟩ j)
  unfold tileAt tileOf
  pointwise []
  blk_ext [iblk, V_main_arg0, idx0 t h]

theorem sh_at (c : Dev nD) (t : Fin cfg0.N) (h : t.val < 64) (j : Fin 1024) :
    (tileAt m c t).sh (ix3 0 0 j) = (kLayer m c).md (tb t h) 0 j := by
  show _ = (m ((c : Thread nD τ).loc main_arg1) : FVec Ideal S4x6x1024 .f32) (ix3 ⟨t.val / 16, by omega⟩ 0 j)
  unfold tileAt tileOf
  pointwise []
  blk_ext [iblk, V_main_arg1, idx1 t h]

theorem sc_at (c : Dev nD) (t : Fin cfg0.N) (h : t.val < 64) (j : Fin 1024) :
    (tileAt m c t).sc (ix3 0 0 j) = (kLayer m c).md (tb t h) 1 j := by
  show _ = (m ((c : Thread nD τ).loc main_arg1) : FVec Ideal S4x6x1024 .f32) (ix3 ⟨t.val / 16, by omega⟩ 1 j)
  unfold tileAt tileOf
  pointwise []
  blk_ext [iblk, V_main_arg1, idx1 t h]

theorem gt_at (c : Dev nD) (t : Fin cfg0.N) (h : t.val < 64) (j : Fin 1024) :
    (tileAt m c t).gt (ix3 0 0 j) = (kLayer m c).md (tb t h) 2 j := by
  show _ = (m ((c : Thread nD τ).loc main_arg1) : FVec Ideal S4x6x1024 .f32) (ix3 ⟨t.val / 16, by omega⟩ 2 j)
  unfold tileAt tileOf
  pointwise []
  blk_ext [iblk, V_main_arg1, idx1 t h]

theorem g1_at (c : Dev nD) (t : Fin cfg0.N) (j : Fin 1024) :
    (tileAt m c t).g1 (ix2 0 j) = (kLayer m c).g1 j := by
  refine Eq.trans ?_ (V_v9 m c j)
  unfold tileAt tileOf
  pointwise []
  blk_ext [iblk, idx2 t]

theorem wq_at (c : Dev nD) (t : Fin cfg0.N) (j : Fin 1024) (o : Fin 1536) :
    (tileAt m c t).wq (ix2 j o) = (kLayer m c).win j ⟨o.val, by omega⟩ := by
  refine Eq.trans ?_ (V_v1 m c j _)
  unfold tileAt tileOf
  pointwise []
  blk_ext [iblk, idx4 t]

theorem wc_at (c : Dev nD) (t : Fin cfg0.N) (j : Fin 1024) (o : Fin 1536) :
    (tileAt m c t).wc (ix2 j o) = (kLayer m c).win j ⟨1536 + o.val, by omega⟩ := by
  refine Eq.trans ?_ (V_v1 m c j _)
  unfold tileAt tileOf
  pointwise []
  blk_ext [iblk, idx4 t]

theorem wg_at (c : Dev nD) (t : Fin cfg0.N) (j : Fin 1024) (o : Fin 2048) :
    (tileAt m c t).wg (ix2 j o) = (kLayer m c).win j ⟨3072 + o.val, by omega⟩ := by
  refine Eq.trans ?_ (V_v1 m c j _)
  unfold tileAt tileOf
  pointwise []
  blk_ext [iblk, idx4 t]

theorem cw0_at (c : Dev nD) (t : Fin cfg0.N) (e : Fin 512) :
    (tileAt m c t).cw0 (ix2 0 e) = (kLayer m c).cw 0 e := by
  refine Eq.trans ?_ (V_v14 m c 0 e)
  unfold tileAt tileOf
  pointwise []
  blk_ext [iblk, idx6 t]

theorem cw1_at (c : Dev nD) (t : Fin cfg0.N) (e : Fin 512) :
    (tileAt m c t).cw1 (ix2 0 e) = (kLayer m c).cw 1 e := by
  refine Eq.trans ?_ (V_v14 m c 1 e)
  unfold tileAt tileOf
  pointwise []
  blk_ext [iblk, idx6 t]

theorem cw2_at (c : Dev nD) (t : Fin cfg0.N) (e : Fin 512) :
    (tileAt m c t).cw2 (ix2 0 e) = (kLayer m c).cw 2 e := by
  refine Eq.trans ?_ (V_v14 m c 2 e)
  unfold tileAt tileOf
  pointwise []
  blk_ext [iblk, idx6 t]

theorem cb_at (c : Dev nD) (t : Fin cfg0.N) (e : Fin 512) :
    (tileAt m c t).cb (ix2 0 e) = (kLayer m c).cb e := by
  refine Eq.trans ?_ (V_v16 m c e)
  unfold tileAt tileOf
  pointwise []
  blk_ext [iblk, idx7 t]

theorem wpa_at (c : Dev nD) (t : Fin cfg0.N) (e : Fin 512) (n : Fin 1024) :
    (tileAt m c t).wpa (ix2 e n) = (kLayer m c).wpa e n := by
  refine Eq.trans ?_ (V_v3 m c e n)
  unfold tileAt tileOf
  pointwise []
  blk_ext [iblk, idx8 t]

theorem wpb_at (c : Dev nD) (t : Fin cfg0.N) (e : Fin 512) (n : Fin 1024) :
    (tileAt m c t).wpb (ix2 e n) = (kLayer m c).wpb e n := by
  refine Eq.trans ?_ (V_v5 m c e n)
  unfold tileAt tileOf
  pointwise []
  blk_ext [iblk, idx9 t]

theorem wo_at (c : Dev nD) (t : Fin cfg0.N) (e : Fin 1024) (n : Fin 1024) :
    (tileAt m c t).wo (ix2 e n) = (kLayer m c).wo e n := by
  refine Eq.trans ?_ (V_v7 m c e n)
  unfold tileAt tileOf
  pointwise []
  blk_ext [iblk, idx10 t]

end Cert.Value

end
-- ==== Proof.Value.Rows.lean ====
module

public import proofs.«01_k».proof.Proof.Value.Args
public import proofs.«01_k».proof.Proof.Value.Tables

/-! A tile's projections, entry by entry: its part of the layer's. -/

@[expose] public section

set_option maxRecDepth 16384

noncomputable section

namespace Cert.Value

open Idealize.ShloMosaic Idealize.ShloMosaic.TcCoe Idealize.ShloMosaic.Tactic
open Cert.KernelIdeal Cert.KernelIdeal.Gen Cert.KernelIdeal.Hand
open scoped BigOperators

theorem hid_apply (T : Tile Ideal) (r : Fin 512) (c : Fin 1024) :
    T.hid (ix2 r c) = row (fun j => T.x (ix3 0 r j)) (fun j => T.g1 (ix2 0 j)) (fun j => T.sc (ix3 0 0 j)) (fun j => T.sh (ix3 0 0 j)) c := by
  unfold Tile.hid row
  unfold_payloads
  pointwise [Tile.vsh, Tile.vsc]

theorem q_apply (T : Tile Ideal) (r : Fin 512) (c : Fin 512) :
    T.q (ix2 r c) = (∑ j : Fin 1024, T.hid (ix2 r j) * T.wq (ix2 j ⟨c.val, by omega⟩)) * (((8 * Real.log 2)⁻¹ : ℝ) : EReal) := by
  unfold Tile.q Tile.hid k0_pay20 k0_pay19
  pointwise []
  rfl

theorem k_apply (T : Tile Ideal) (r : Fin 512) (c : Fin 512) :
    T.k (ix2 r c) = ∑ j : Fin 1024, T.hid (ix2 r j) * T.wq (ix2 j ⟨512 + c.val, by omega⟩) := by
  unfold Tile.k Tile.hid k0_pay21 k0_pay19
  pointwise []

theorem v_apply (T : Tile Ideal) (r : Fin 512) (c : Fin 512) :
    T.v (ix2 r c) = ∑ j : Fin 1024, T.hid (ix2 r j) * T.wq (ix2 j ⟨1024 + c.val, by omega⟩) := by
  unfold Tile.v Tile.hid k0_pay22 k0_pay19
  pointwise []

theorem u_apply (T : Tile Ideal) (r : Fin 512) (c : Fin 512) :
    T.u (ix2 r c) = (∑ j : Fin 1024, T.hid (ix2 r j) * T.wc (ix2 j ⟨512 + c.val, by omega⟩)) * (∑ j : Fin 1024, T.hid (ix2 r j) * T.wc (ix2 j ⟨1024 + c.val, by omega⟩)) := by
  unfold Tile.u k0_pay184
  unfold_payloads
  pointwise []

theorem gates_apply (T : Tile Ideal) (r : Fin 512) (c : Fin 2048) :
    T.gates (ix2 r c) = ∑ j : Fin 1024, T.hid (ix2 r j) * T.wg (ix2 j c) := by
  unfold Tile.gates
  pointwise []

variable (m : (ℓ : Loc nD τ sig) → Buf (Elt Ideal) ℓ) (c : Dev nD) (t : Fin cfg0.N) (h : t.val < 64) (r : Fin 512)

theorem hid_at (j : Fin 1024) : (tileAt m c t).hid (ix2 r j) = (kLayer m c).hid (tb t h) (tr t r) j := by
  rw [hid_apply]
  unfold Layer.hid
  congr 1 <;> funext j
  · exact x_at m c t h r j
  · exact g1_at m c t j
  · exact sc_at m c t h j
  · exact sh_at m c t h j

theorem k_at (e : Fin 512) : (tileAt m c t).k (ix2 r e) = (kLayer m c).z (tb t h) (tr t r) ⟨512 + e.val, by omega⟩ := by
  rw [k_apply]
  exact Finset.sum_congr rfl fun j _ => by rw [hid_at m c t h, wq_at]

theorem v_at (e : Fin 512) : (tileAt m c t).v (ix2 r e) = (kLayer m c).z (tb t h) (tr t r) ⟨1024 + e.val, by omega⟩ := by
  rw [v_apply]
  exact Finset.sum_congr rfl fun j _ => by rw [hid_at m c t h, wq_at]

theorem q_at (e : Fin 512) : (tileAt m c t).q (ix2 r e) = (kLayer m c).z (tb t h) (tr t r) ⟨e.val, by omega⟩ * (((8 * Real.log 2)⁻¹ : ℝ) : EReal) := by
  rw [q_apply]
  exact congrArg (· * _) (Finset.sum_congr rfl fun j _ => by rw [hid_at m c t h, wq_at])

theorem u_at (e : Fin 512) : (tileAt m c t).u (ix2 r e) = (kLayer m c).u (tb t h) (tr t r) e := by
  rw [u_apply]
  unfold Layer.u Layer.z
  refine congrArg₂ (· * ·) ?_ ?_
  · exact Finset.sum_congr rfl fun j _ => by rw [hid_at m c t h, wc_at]; exact congrArg (_ * (kLayer m c).win j ·) (Fin.ext (show 1536 + (512 + e.val) = 2048 + e.val by omega))
  · exact Finset.sum_congr rfl fun j _ => by rw [hid_at m c t h, wc_at]; exact congrArg (_ * (kLayer m c).win j ·) (Fin.ext (show 1536 + (1024 + e.val) = 2560 + e.val by omega))

theorem gates_at (n : Fin 2048) : (tileAt m c t).gates (ix2 r n) = (kLayer m c).z (tb t h) (tr t r) ⟨3072 + n.val, by omega⟩ := by
  rw [gates_apply]
  exact Finset.sum_congr rfl fun j _ => by rw [hid_at m c t h, wg_at]

end Cert.Value

end
-- ==== Proof.Value.Tails.lean ====
module

public import proofs.«01_k».proof.Proof.Value.Rows

/-! The keys, the values and the convolution's input of each batch's last rows, as the launch leaves them. -/

@[expose] public section

set_option maxRecDepth 16384

noncomputable section

namespace Cert.Value
open Idealize.ShloMosaic Idealize.ShloMosaic.TcCoe Idealize.ShloMosaic.Tactic
open Cert.KernelIdeal Cert.KernelIdeal.Gen Cert.KernelIdeal.Hand

variable (m : (ℓ : Loc nD τ sig) → Buf (Elt Ideal) ℓ) (c : Dev nD)

theorem flush15 : ∀ t : Fin cfg0.N, (cfg0.win 15).flush t = true → (tl t).val < 64 ∧ (tl t).val % 16 = 15 ∧ win0_15.index t = ![(tl t).val / 16, 0, 0] := by decide +kernel

theorem flush16 : ∀ t : Fin cfg0.N, (cfg0.win 16).flush t = true → (tl t).val < 64 ∧ (tl t).val % 16 = 15 ∧ win0_16.index t = ![(tl t).val / 16, 0, 0] := by decide +kernel
theorem flush17 : ∀ t : Fin cfg0.N, (cfg0.win 17).flush t = true → (tl t).val < 64 ∧ (tl t).val % 16 = 15 ∧ win0_17.index t = ![(tl t).val / 16, 0, 0] := by decide +kernel

/-- Rows of a quantity of the layer, from row `a` on. -/
def rowsFrom {s1 s2 : ℕ} (Q : Fin 4 → Fin 8192 → Fin s2 → EReal) (a : ℕ) (h : a + s1 ≤ 8192) : FVec Ideal (⟨_, ![4, s1, s2]⟩ : Shape) .f32 :=
  fun i => Q (i 0) ⟨a + (i 1).val, lt_of_lt_of_le (Nat.add_lt_add_left (i 1).isLt a) h⟩ (i 2)

def kTail : FVec Ideal S4x512x512 .f32 := rowsFrom (fun b i (e : Fin 512) => (kLayer m c).z b i ⟨512 + e.val, by omega⟩) 7680 (by omega)
def vTail : FVec Ideal S4x512x512 .f32 := rowsFrom (fun b i (e : Fin 512) => (kLayer m c).z b i ⟨1024 + e.val, by omega⟩) 7680 (by omega)
def uTail : FVec Ideal S4x8x512 .f32 := rowsFrom (kLayer m c).u 8184 (by omega)

theorem final15 : (dats m 0 c).arrAt 15 cfg0.N = kTail m c := by
  refine (dats m 0 c).arrAt_eq_of_covers 15 _ (by decide +kernel) fun t hf y => ?_
  obtain ⟨h, h15, hi⟩ := flush15 t hf
  blk_simp
  rw [after0_15]
  have e : (win0_15.blk t).view.emb y = ix3 (tb (tl t) h) (y 1) (y 2) := by
    blk_ext [hi]
    all_goals rfl
  rw [e]
  have ey : y = ix3 0 (y 1) (y 2) := by
    funext i
    match i with
    | ⟨0, _⟩ => exact Subsingleton.elim (α := Fin 1) _ _
    | ⟨1, _⟩ => rfl
    | ⟨2, _⟩ => rfl
  have er : (tileAt m c (tl t)).kOut y = (tileAt m c (tl t)).k (ix2 (y 1) (y 2)) := by
    rw [ey]
    unfold Tile.kOut k0_pay23
    pointwise []
  rw [er]
  refine (k_at m c (tl t) h (y 1) (y 2)).trans ?_
  unfold kTail rowsFrom
  refine congrArg (fun i => (kLayer m c).z (tb (tl t) h) i _) (Fin.ext ?_)
  show 512 * ((tl t).val % 16) + _ = _
  rw [h15]
  rfl

theorem final16 : (dats m 0 c).arrAt 16 cfg0.N = vTail m c := by
  refine (dats m 0 c).arrAt_eq_of_covers 16 _ (by decide +kernel) fun t hf y => ?_
  obtain ⟨h, h15, hi⟩ := flush16 t hf
  blk_simp
  rw [after0_16]
  have e : (win0_16.blk t).view.emb y = ix3 (tb (tl t) h) (y 1) (y 2) := by
    blk_ext [hi]
    all_goals rfl
  rw [e]
  have ey : y = ix3 0 (y 1) (y 2) := by
    funext i
    match i with
    | ⟨0, _⟩ => exact Subsingleton.elim (α := Fin 1) _ _
    | ⟨1, _⟩ => rfl
    | ⟨2, _⟩ => rfl
  have er : (tileAt m c (tl t)).vOut y = (tileAt m c (tl t)).v (ix2 (y 1) (y 2)) := by
    rw [ey]
    unfold Tile.vOut k0_pay24
    pointwise []
  rw [er]
  refine (v_at m c (tl t) h (y 1) (y 2)).trans ?_
  unfold vTail rowsFrom
  refine congrArg (fun i => (kLayer m c).z (tb (tl t) h) i _) (Fin.ext ?_)
  show 512 * ((tl t).val % 16) + _ = _
  rw [h15]
  rfl

theorem final17 : (dats m 0 c).arrAt 17 cfg0.N = uTail m c := by
  refine (dats m 0 c).arrAt_eq_of_covers 17 _ (by decide +kernel) fun t hf y => ?_
  obtain ⟨h, h15, hi⟩ := flush17 t hf
  blk_simp
  rw [after0_17]
  have e : (win0_17.blk t).view.emb y = ix3 (tb (tl t) h) (y 1) (y 2) := by
    blk_ext [hi]
    all_goals rfl
  rw [e]
  have ey : y = ix3 0 (y 1) (y 2) := by
    funext i
    match i with
    | ⟨0, _⟩ => exact Subsingleton.elim (α := Fin 1) _ _
    | ⟨1, _⟩ => rfl
    | ⟨2, _⟩ => rfl
  have er : (tileAt m c (tl t)).uOut y = (tileAt m c (tl t)).u (ix2 (⟨504 + (y 1).val, by have := (y 1).isLt; change (y 1).val < 8 at this; omega⟩) (y 2)) := by
    rw [ey]
    unfold Tile.uOut Tile.u8
    pointwise []
  rw [er]
  refine (u_at m c (tl t) h (⟨504 + (y 1).val, by have := (y 1).isLt; change (y 1).val < 8 at this; omega⟩) (y 2)).trans ?_
  unfold uTail rowsFrom
  refine congrArg (fun i => (kLayer m c).u (tb (tl t) h) i (y 2)) (Fin.ext ?_)
  show 512 * ((tl t).val % 16) + _ = _
  rw [h15]
  show 512 * 15 + (504 + (y 1).val) = 8184 + (y 1).val; omega

end Cert.Value

end
-- ==== Proof.Value.Bias.lean ====
module

public import proofs.«01_k».proof.Proof.Value.Args
public import proofs.«01_k».proof.Proof.Value.Tables

/-! The bias and mask table the host prepares, entry by entry. -/

@[expose] public section

set_option maxRecDepth 16384

noncomputable section

namespace Cert.Value
open Idealize.ShloMosaic Idealize.ShloMosaic.TcCoe Idealize.ShloMosaic.Tactic
open Cert.KernelIdeal Cert.KernelIdeal.Gen Cert.KernelIdeal.Hand

/-- The band's choice at a row of a pair of blocks and a lane of its window. -/
theorem band_select (q : ℕ) (hq : q < 128) (w : Fin 640) (G : EReal) : Scalar.select
      (IntOp.andi
        (IntOp.cmpi CmpIPredicate.sge
          (IntOp.subi (BitVec.ofNat 32 w.val)
            (IntOp.muli
              (Scalar.select
                (IntOp.andi
                  (IntOp.cmpi CmpIPredicate.ne
                    (if BitVec.ofNat 32 q = 0 then (0 : BitVec 32)
                    else if (BitVec.ofNat 32 q).msb = true then -1 else 1)
                    (if 64#32 = 0 then (0 : BitVec 32) else if (64#32).msb = true then -1 else 1))
                  (IntOp.cmpi CmpIPredicate.ne (IntOp.remsi ArithUnit.host (BitVec.ofNat 32 q) 64#32) 0#32))
                (IntOp.subi (IntOp.divsi ArithUnit.host (BitVec.ofNat 32 q) 64#32) 1#32)
                (IntOp.divsi ArithUnit.host (BitVec.ofNat 32 q) 64#32))
              64#32))
          0#32)
        (IntOp.cmpi CmpIPredicate.slt
          (IntOp.subi (BitVec.ofNat 32 w.val)
            (IntOp.muli
              (Scalar.select
                (IntOp.andi
                  (IntOp.cmpi CmpIPredicate.ne
                    (if BitVec.ofNat 32 q = 0 then (0 : BitVec 32)
                    else if (BitVec.ofNat 32 q).msb = true then -1 else 1)
                    (if 64#32 = 0 then (0 : BitVec 32) else if (64#32).msb = true then -1 else 1))
                  (IntOp.cmpi CmpIPredicate.ne (IntOp.remsi ArithUnit.host (BitVec.ofNat 32 q) 64#32) 0#32))
                (IntOp.subi (IntOp.divsi ArithUnit.host (BitVec.ofNat 32 q) 64#32) 1#32)
                (IntOp.divsi ArithUnit.host (BitVec.ofNat 32 q) 64#32))
              64#32))
          576#32)) G (Ideal.ofBits FTy.f32 4286578688#32)
      = if 64 * (q / 64) ≤ w.val ∧ w.val < 64 * (q / 64) + 576 then G else ⊥ := by
  rw [floor_div ⟨q, hq⟩, band ⟨q / 64, by omega⟩ w, ofBits_bot]
  by_cases hb : 64 * (q / 64) ≤ w.val ∧ w.val < 64 * (q / 64) + 576
  · rw [if_pos hb, if_pos hb]; rfl
  · rw [if_neg hb, if_neg hb]; rfl

/-- A lane of the reversed, scaled distance table. -/
theorem table_lane (x : FVec Ideal S8x257 .f32) (h : Fin 8) (n : Fin 768) :
    Host.gather gather_S8x257_S768x1_S8x768_0_1_n_n_1_1_81
        (mulf x (broadcastInDim S8x257 ![] bcast_S_S8x257
            (Host.divf (constant S_ FTy.f32 1065353216#32) (Host.log (constant S_ FTy.f32 1073741824#32)))))
        (broadcastInDim S768x1 ![0] bcast_S768_S768x1_0
          (select (constantI S768 1 0#1)
            (addi (fun i => lit0 (S768.rowMajor i)) (broadcastInDim S768 ![] bcast_S_S768 (constantI S_ 32 257#32)))
            fun i => lit0 (S768.rowMajor i))) (ix2 h n) = x (ix2 h ⟨min 256 (767 - n.val), by omega⟩) * (lg : EReal) := by
  rw [gather_lane]
  have mm : ∀ k : Fin 257, mulf x (broadcastInDim S8x257 ![] bcast_S_S8x257
      (Host.divf (constant S_ FTy.f32 1065353216#32) (Host.log (constant S_ FTy.f32 1073741824#32)))) (ix2 h k) = x (ix2 h k) * (lg : EReal) := fun k => by
    rw [← log2e_eq]
    pointwise []
  rw [mm]
  refine congrArg (fun k => x (ix2 h k) * (lg : EReal)) (Fin.ext ?_)
  have hl : lit0 (S768.rowMajor (ix1 n)) = BitVec.ofNat 32 (min 256 (767 - n.val)) :=
    (congrArg lit0 (show S768.rowMajor (ix1 n) = n from Fin.ext (Shape.rowMajor_val_one (ix1 n)))).trans (lit_lane n)
  show min ((lit0 (S768.rowMajor (ix1 n))).toInt.toNat) 256 = _
  rw [hl]
  have hk : min 256 (767 - n.val) ≤ 256 := Nat.min_le_left _ _
  show _ = min 256 (767 - n.val)
  generalize min 256 (767 - n.val) = k at hk ⊢
  rw [show (BitVec.ofNat 32 k).toInt = (k : Int) from (BitVec.toInt_ofNat k).trans (Int.bmod_eq_of_le (by omega) (by omega))]
  omega

/-- The bias and mask at a row of a pair of blocks and a lane of its window. -/
def biasAt (rb : Fin 8 → Fin 257 → EReal) (g : Fin 2) (p : Fin 512) (w : Fin 640) : EReal :=
  if 64 * (p.val % 128 / 64) ≤ w.val ∧ w.val < 64 * (p.val % 128 / 64) + 576 then
    rb ⟨g.val * 4 + p.val / 128, by omega⟩ ⟨min 256 (640 + p.val % 128 - w.val), by omega⟩ * (lg : EReal)
  else ⊥

variable (m : (ℓ : Loc nD τ sig) → Buf (Elt Ideal) ℓ)
theorem V_v62 (c : Dev nD) (g : Fin 2) (p : Fin 512) (w : Fin 640) :
    (V m c main_v62 : FVec Ideal S2x512x640 .f32) (ix3 g p w) = biasAt (kLayer m c).rb g p w := by
  unfold Cert.KernelIdeal.Gen.V
  simp only [hostOps0, hostOps0_1, hostOps0_2, hostOps0_3, List.flatten_cons, List.flatten_nil, List.append_nil, List.cons_append, List.nil_append, StableHlo.after_cons, StableHlo.after_nil]
  after_results_simp
  clean_types
  simp only [StableHlo.TRef.toBuf, StableHlo.TRef.ofBuf, cast_eq, id]
  pointwise []
  refine (band_select (p.val % 128) (by omega) w _).trans ?_
  unfold biasAt
  refine if_congr Iff.rfl ?_ rfl
  refine (table_lane _ _ _).trans ?_
  refine congrArg (· * _) ?_
  refine congrArg (fun k => a5 m c (ix3 0 _ k)) (Fin.ext ?_)
  show min 256 (767 - (p.val % 128 * 767 + (127 + w.val)) % 768) = min 256 (640 + p.val % 128 - w.val)
  have e : (p.val % 128 * 767 + (127 + w.val)) % 768 = 127 + w.val - p.val % 128 := by omega
  rw [e]
  have hw := w.isLt
  have hq : p.val % 128 < 128 := Nat.mod_lt _ (by omega)
  generalize p.val % 128 = q at hq ⊢
  generalize w.val = w at hw ⊢
  omega
end Cert.Value

end
-- ==== Proof.Value.Attend.lean ====
module

public import proofs.«01_k».proof.Proof.Value.Bias
public import proofs.«01_k».proof.Proof.Value.Softmax

/-! One block of the kernel's attention: each lane is its head's attention, to the base two, to the window. -/

@[expose] public section

set_option maxRecDepth 16384

noncomputable section

namespace Cert.Value
open Idealize.ShloMosaic Idealize.ShloMosaic.TcCoe Idealize.ShloMosaic.Tactic
open Cert.KernelIdeal Cert.KernelIdeal.Gen Cert.KernelIdeal.Hand
open scoped BigOperators

/-- A row's and a lane's head, as the kernel's shifts give them. -/
theorem row_head : ∀ R : Fin 512, IntOp.shrsi ArithUnit.vector (BitVec.ofNat 32 R.val) 7#32 = BitVec.ofNat 32 (R.val / 128) := by decide +kernel
theorem lane_head : ∀ x : Fin 256, IntOp.shrsi ArithUnit.vector (BitVec.ofNat 32 x.val) 6#32 = BitVec.ofNat 32 (x.val / 64) := by decide +kernel
theorem same_head : ∀ a b : Fin 4, IntOp.cmpi CmpIPredicate.eq (BitVec.ofNat 32 a.val) (BitVec.ofNat 32 b.val) = if b.val = a.val then 1#1 else 0#1 := by decide +kernel

/-- A sum over the lanes of one head. -/
theorem sum_head (f : Fin 256 → EReal) (hh : Fin 4) :
    (∑ x : Fin 256, if x.val / 64 = hh.val then f x else 0) = ∑ d : Fin 64, f ⟨64 * hh.val + d.val, by omega⟩ := by
  rw [← Finset.sum_filter]
  symm
  refine Finset.sum_nbij (fun d : Fin 64 => (⟨64 * hh.val + d.val, by omega⟩ : Fin 256)) (fun d _ => ?_) (fun a _ b _ hab => ?_) (fun x hx => ?_) fun _ _ => rfl
  · exact Finset.mem_filter.2 ⟨Finset.mem_univ _, show (64 * hh.val + d.val) / 64 = hh.val by omega⟩
  · have e : 64 * hh.val + a.val = 64 * hh.val + b.val := congrArg Fin.val hab
    exact Fin.ext (by omega)
  · have e : x.val / 64 = hh.val := (Finset.mem_filter.1 hx).2
    exact ⟨⟨x.val % 64, by omega⟩, Finset.mem_coe.2 (Finset.mem_univ _), Fin.ext (show 64 * hh.val + x.val % 64 = x.val by omega)⟩

theorem select_if {p : Prop} [Decidable p] (a b : EReal) : Scalar.select (if p then 1#1 else 0#1) a b = if p then a else b := by
  by_cases h : p
  · rw [if_pos h, if_pos h]; rfl
  · rw [if_neg h, if_neg h]; rfl

theorem scores_apply (q : FVec Ideal S128x256 .bf16) (kb : Vec Ideal S640x256 .bf16) (hh : Fin 4) (r : Fin 128) (w : Fin 640) :
    scores q kb (ix2 ⟨128 * hh.val + r.val, by omega⟩ w) = ∑ d : Fin 64, q (ix2 r ⟨64 * hh.val + d.val, by omega⟩) * kb (ix2 w ⟨64 * hh.val + d.val, by omega⟩) := by
  refine Eq.trans ?_ (sum_head (fun x => q (ix2 r x) * kb (ix2 w x)) hh)
  unfold scores
  pointwise []
  refine Finset.sum_congr rfl fun x _ => ?_
  rw [row_head ⟨128 * hh.val + r.val, by omega⟩, lane_head x, same_head ⟨(128 * hh.val + r.val) / 128, by omega⟩ ⟨x.val / 64, by omega⟩, select_if]
  refine if_congr (by show x.val / 64 = (128 * hh.val + r.val) / 128 ↔ _; omega) (congrArg (· * kb (ix2 w x)) ?_) rfl
  split_ifs
  all_goals exact congrArg (fun k => q (ix2 k x)) (Fin.ext (by simp only []; omega))

theorem masked_apply (s b : FVec Ideal S128x640 .f32) (lim : BitVec 32) (r : Fin 128) (w : Fin 640) :
    masked s b lim (ix2 r w) = if lim.toInt ≤ w.val then s (ix2 r w) + b (ix2 r w) else ⊥ := by
  unfold masked there
  pointwise []
  rw [← select_if]
  refine congrArg₂ (fun c z => Scalar.select c _ z) ?_ rfl
  have e : (BitVec.ofNat 32 w.val).toInt = (w.val : Int) := (BitVec.toInt_ofNat w.val).trans (Int.bmod_eq_of_le (by omega) (by omega))
  by_cases h : lim.toInt ≤ w.val
  · rw [if_pos h]
    show BitVec.ofBool (BitVec.sle lim (BitVec.ofNat 32 w.val)) = _
    rw [BitVec.sle, e, decide_eq_true h]; rfl
  · rw [if_neg h]
    show BitVec.ofBool (BitVec.sle lim (BitVec.ofNat 32 w.val)) = _
    rw [BitVec.sle, e, decide_eq_false h]; rfl

theorem powers_apply (x : FVec Ideal S128x640 .f32) (r : Fin 128) (w : Fin 640) :
    powers x (ix2 r w) = Ideal.exp2 (x (ix2 r w) - Finset.univ.fold max ⊥ (fun w => x (ix2 r w))) := by
  rw [← ofBits_bot]
  unfold powers
  pointwise []
  rfl

theorem invSum_apply (x : FVec Ideal S128x640 .f32) (r : Fin 128) :
    invSum x (ix2 r 0) = Ideal.div 1 (∑ w, x (ix2 r w)) := by
  unfold invSum
  pointwise []

theorem weigh_apply (p : Fin 4 → FVec Ideal S128x640 .f32) (vb : Vec Ideal S640x256 .bf16) (r : Fin 128) (hh : Fin 4) (e : Fin 256) (he : e.val / 64 = hh.val) :
    weigh (p 0) (p 1) (p 2) (p 3) vb (ix2 r e) = (∑ w : Fin 640, p hh (ix2 r w) * vb (ix2 w e)) * Ideal.div 1 (∑ w, p hh (ix2 r w)) := by
  rw [← invSum_apply]
  unfold weigh laneHead
  pointwise []
  rw [lane_head e, he, show (3#32) = BitVec.ofNat 32 (3 : Fin 4).val from rfl, show (2#32) = BitVec.ofNat 32 (2 : Fin 4).val from rfl,
    show (1#32) = BitVec.ofNat 32 (1 : Fin 4).val from rfl, same_head, same_head, same_head, select_if, select_if, select_if]
  match hh with
  | 0 => rfl
  | 1 => rfl
  | 2 =>
    refine congrArg (· * _) (Finset.sum_congr rfl fun w _ => congrArg (· * vb (ix2 w e)) ?_)
    rw [dif_neg (by omega), dif_neg (by omega), dif_pos (by omega)]
    exact congrArg (fun k => p 2 (ix2 k w)) (Fin.ext (by simp only []; omega))
  | 3 =>
    refine congrArg (· * _) (Finset.sum_congr rfl fun w _ => congrArg (· * vb (ix2 w e)) ?_)
    rw [dif_neg (by omega), dif_neg (by omega), dif_neg (by omega)]
    exact congrArg (fun k => p 3 (ix2 k w)) (Fin.ext (by simp only []; omega))

/-- A head's masked scores of one query. -/
def scoreAt (q : FVec Ideal S128x256 .bf16) (kb : Vec Ideal S640x256 .bf16) (bias : Vec Ideal S1x512x640 .f32) (lim : BitVec 32) (hh : Fin 4) (r : Fin 128) (w : Fin 640) : EReal :=
  if lim.toInt ≤ w.val then (∑ d : Fin 64, q (ix2 r ⟨64 * hh.val + d.val, by omega⟩) * kb (ix2 w ⟨64 * hh.val + d.val, by omega⟩))
    + bias (ix3 0 ⟨128 * hh.val + r.val, by omega⟩ w) else ⊥

/-- One head's scores cut out of the four heads'. -/
theorem cut_apply (x : FVec Ideal S512x640 .f32) (o : ℕ) (h : S512x640.Slices ![o, 0] S128x640) (hh : Fin 4) (ho : o = 128 * hh.val) (r : Fin 128) (w : Fin 640) :
    extractStridedSlice S128x640 ![o, 0] x h (ix2 r w) = x (ix2 ⟨128 * hh.val + r.val, by omega⟩ w) := by
  subst ho
  pointwise []

theorem slices_head : ∀ hh : Fin 4, S512x640.Slices ![128 * hh.val, 0] S128x640
  | 0 => slices_S512x640_o0_0_S128x640
  | 1 => slices_S512x640_o128_0_S128x640
  | 2 => slices_S512x640_o256_0_S128x640
  | 3 => slices_S512x640_o384_0_S128x640

/-- A block of attention output: each lane its head's attention to the window. -/
theorem attBlock_apply (q : FVec Ideal S128x256 .bf16) (kb vb : Vec Ideal S640x256 .bf16) (bias : Vec Ideal S1x512x640 .f32) (lim : BitVec 32) (r : Fin 128) (e : Fin 256) :
    attBlock q kb vb bias lim (ix2 r e) = soft2 (scoreAt q kb bias lim ⟨e.val / 64, by omega⟩ r) (fun w => vb (ix2 w e)) := by
  unfold attBlock
  rw [shapeCast_self]
  have hs : ∀ (o : ℕ) (h : S512x640.Slices ![o, 0] S128x640) (hh : Fin 4) (_ : o = 128 * hh.val) (w : Fin 640),
      masked (extractStridedSlice S128x640 ![o, 0] (scores q kb) h) (extractStridedSlice S128x640 ![o, 0] (shapeCast S512x640 bias shapeCasts_S1x512x640_S512x640 : FVec Ideal S512x640 .f32) h) lim (ix2 r w)
        = scoreAt q kb bias lim hh r w := fun o h hh ho w => by
    rw [masked_apply, cut_apply _ o h hh ho, cut_apply _ o h hh ho, scores_apply]
    unfold scoreAt
    refine if_congr Iff.rfl (congrArg (_ + ·) ?_) rfl
    pointwise []
  have hp : ∀ (o : ℕ) (h : S512x640.Slices ![o, 0] S128x640) (hh : Fin 4) (_ : o = 128 * hh.val) (w : Fin 640),
      powers (masked (extractStridedSlice S128x640 ![o, 0] (scores q kb) h) (extractStridedSlice S128x640 ![o, 0] (shapeCast S512x640 bias shapeCasts_S1x512x640_S512x640 : FVec Ideal S512x640 .f32) h) lim) (ix2 r w)
        = Ideal.exp2 (scoreAt q kb bias lim hh r w - Finset.univ.fold max ⊥ (scoreAt q kb bias lim hh r)) := fun o h hh ho w => by
    rw [powers_apply]
    simp only [hs o h hh ho]
  unfold attend
  let p : Fin 4 → FVec Ideal S128x640 .f32 := fun hh => powers (masked (extractStridedSlice S128x640 ![128 * hh.val, 0] (scores q kb) (slices_head hh)) (extractStridedSlice S128x640 ![128 * hh.val, 0] (shapeCast S512x640 bias shapeCasts_S1x512x640_S512x640 : FVec Ideal S512x640 .f32) (slices_head hh)) lim)
  refine (weigh_apply p vb r ⟨e.val / 64, by omega⟩ e rfl).trans ?_
  unfold soft2
  simp only [p, hp _ _ _ rfl]
end Cert.Value

end
-- ==== Proof.Value.Keys.lean ====
module

public import proofs.«01_k».proof.Proof.Value.Attend
public import proofs.«01_k».proof.Proof.Value.Rows

/-! The keys and values in the rings, the bias, the first key and the scale, as the layer has them. -/

@[expose] public section

set_option maxRecDepth 16384

noncomputable section

namespace Cert.Value
open Idealize.ShloMosaic Idealize.ShloMosaic.TcCoe Idealize.ShloMosaic.Tactic
open Cert.KernelIdeal Cert.KernelIdeal.Gen Cert.KernelIdeal.Hand
open scoped BigOperators

theorem ring_at (old new : Vec Ideal S512x512 .bf16) (R : Fin 1024) (e : Fin 512) :
    ring old new (ix2 R e) = if h : R.val < 512 then old (ix2 ⟨R.val, h⟩ e) else new (ix2 ⟨R.val - 512, by omega⟩ e) := by
  by_cases h : R.val < 512
  · rw [dif_pos h]
    have hl : (ix2 R e : S1024x512.Idx) ∈ loR.set := mem_lo.2 h
    rw [ring, View.canon_cons_of_not_mem (⟨hiR, new⟩ : View.Piece (Elt Ideal) S1024x512 .bf16) _ (not_mem_hi_of_lo hl)]
    have e : (ix2 R e : S1024x512.Idx) = loR.emb (ix2 ⟨R.val, h⟩ e) := by
      funext i
      match i with
      | ⟨0, _⟩ => exact Fin.ext (show R.val = 0 + 1 * R.val by omega)
      | ⟨1, _⟩ => exact Fin.ext (show e.val = 0 + 1 * e.val by omega)
    rw [e, View.canon_cons_emb]
  · rw [dif_neg h]
    have e : (ix2 R e : S1024x512.Idx) = hiR.emb (ix2 ⟨R.val - 512, by omega⟩ e) := by
      funext i
      match i with
      | ⟨0, _⟩ => exact Fin.ext (show R.val = 512 + 1 * (R.val - 512) by omega)
      | ⟨1, _⟩ => exact Fin.ext (show e.val = 0 + 1 * e.val by omega)
    rw [e, ring, View.canon_cons_emb]

variable (m : (ℓ : Loc nD τ sig) → Buf (Elt Ideal) ℓ) (c : Dev nD) (t : Fin cfg0.N) (h : t.val < 64)

theorem b0_at (p : Fin 512) (w : Fin 640) : (tileAt m c t).b0 (ix3 0 p w) = biasAt (kLayer m c).rb 0 p w := by
  refine Eq.trans ?_ (V_v62 m c 0 p w)
  unfold tileAt tileOf
  pointwise []
  blk_ext [iblk, idx5 t]

theorem b1_at (p : Fin 512) (w : Fin 640) : (tileAt m c t).b1 (ix3 0 p w) = biasAt (kLayer m c).rb 1 p w := by
  refine Eq.trans ?_ (V_v62 m c 1 p w)
  unfold tileAt tileOf
  pointwise []
  blk_ext [iblk, idx5 t]

theorem lim_at : ∀ (t : Fin cfg0.N) (a : Fin 4), (limOf (grid0.coords t) (BitVec.ofNat 32 (128 * a.val))).toInt = 512 - (512 * (t.val % 16 : ℕ) + 128 * a.val : Int) := by decide +kernel

theorem kNew_at (r e : Fin 512) : (tileAt m c t).kNew (ix2 r e) = (tileAt m c t).k (ix2 r e) := by
  unfold Tile.kNew k0_pay25
  pointwise []

theorem vNew_at (r e : Fin 512) : (tileAt m c t).vNew (ix2 r e) = (tileAt m c t).v (ix2 r e) := by
  unfold Tile.vNew k0_pay26
  pointwise []

/-- A row of the rings: the layer's, counted from the tile before. -/
theorem kRing_at (R : Fin 1024) (e : Fin 512) (hR : 512 ≤ 512 * (t.val % 16) + R.val) :
    ring (kPrev m c t) (tileAt m c t).kNew (ix2 R e) = (kLayer m c).z (tb t h) ⟨512 * (t.val % 16) + R.val - 512, by omega⟩ ⟨512 + e.val, by omega⟩ := by
  rw [ring_at]
  by_cases hr : R.val < 512
  · have hp : (pred t).val = t.val - 1 := rfl
    rw [dif_pos hr, kPrev, if_neg (by omega), kNew_at, k_at m c (pred t) (by omega)]
    exact congrArg₂ (fun b i => (kLayer m c).z b i _) (Fin.ext (show (t.val - 1) / 16 = t.val / 16 by omega))
      (Fin.ext (show 512 * ((t.val - 1) % 16) + R.val = 512 * (t.val % 16) + R.val - 512 by omega))
  · rw [dif_neg hr, kNew_at, k_at m c t h]
    exact congrArg (fun i => (kLayer m c).z _ i _) (Fin.ext (show 512 * (t.val % 16) + (R.val - 512) = 512 * (t.val % 16) + R.val - 512 by omega))

theorem vRing_at (R : Fin 1024) (e : Fin 512) (hR : 512 ≤ 512 * (t.val % 16) + R.val) :
    ring (vPrev m c t) (tileAt m c t).vNew (ix2 R e) = (kLayer m c).z (tb t h) ⟨512 * (t.val % 16) + R.val - 512, by omega⟩ ⟨1024 + e.val, by omega⟩ := by
  rw [ring_at]
  by_cases hr : R.val < 512
  · have hp : (pred t).val = t.val - 1 := rfl
    rw [dif_pos hr, vPrev, if_neg (by omega), vNew_at, v_at m c (pred t) (by omega)]
    exact congrArg₂ (fun b i => (kLayer m c).z b i _) (Fin.ext (show (t.val - 1) / 16 = t.val / 16 by omega))
      (Fin.ext (show 512 * ((t.val - 1) % 16) + R.val = 512 * (t.val % 16) + R.val - 512 by omega))
  · rw [dif_neg hr, vNew_at, v_at m c t h]
    exact congrArg (fun i => (kLayer m c).z _ i _) (Fin.ext (show 512 * (t.val % 16) + (R.val - 512) = 512 * (t.val % 16) + R.val - 512 by omega))

theorem scale_sum {n : ℕ} (f : Fin n → EReal) (s : ℝ) (hs : 0 ≤ s) : (s : EReal) * ∑ d, f d = ∑ d, (s : EReal) * f d := by
  classical
  induction (Finset.univ : Finset (Fin n)) using Finset.induction_on with
  | empty => rw [Finset.sum_empty, Finset.sum_empty, mul_zero]
  | insert a s ha ih => rw [Finset.sum_insert ha, Finset.sum_insert ha, EReal.left_distrib_of_nonneg_of_ne_top (EReal.coe_nonneg.2 hs) (EReal.coe_ne_top _), ih]

theorem ofBits_eighth : Ideal.ofBits .f32 0x3E000000#32 = ((1 / 8 : ℝ) : EReal) := by
  simp [Ideal.ofBits, Ideal.ieee, -EReal.coe_mul]; norm_num

/-- The queries' scale taken out of a score. -/
theorem score_scale {n : ℕ} (x y : Fin n → EReal) (b : EReal) :
    (∑ d, (x d * (((8 * Real.log 2)⁻¹ : ℝ) : EReal)) * y d) + b * (lg : EReal) = (lg : EReal) * ((∑ d, x d * y d) * Ideal.ofBits .f32 0x3E000000#32 + b) := by
  have hl := Real.log_pos one_lt_two
  have e : (((8 * Real.log 2)⁻¹ : ℝ) : EReal) = (lg : EReal) * ((1 / 8 : ℝ) : EReal) := by
    rw [← EReal.coe_mul, lg]
    congr 1
    field_simp
  rw [scale_add, ofBits_eighth, mul_comm b, mul_comm (∑ d, x d * y d), ← mul_assoc, ← e, scale_sum _ _ (inv_nonneg.2 (by positivity))]
  refine congrArg (· + _) (Finset.sum_congr rfl fun d _ => ?_)
  rw [mul_comm (x d), mul_assoc]
end Cert.Value

end
-- ==== Proof.Value.Att.lean ====
module

public import proofs.«01_k».proof.Proof.Value.Keys

/-! A tile's attention is the layer's. -/

@[expose] public section

set_option maxRecDepth 16384

noncomputable section

namespace Cert.Value
open Idealize.ShloMosaic Idealize.ShloMosaic.TcCoe Idealize.ShloMosaic.Tactic
open Cert.KernelIdeal Cert.KernelIdeal.Gen Cert.KernelIdeal.Hand
open scoped BigOperators

theorem biasAt_pos (rb : Fin 8 → Fin 257 → EReal) (g : Fin 2) (p : Fin 512) (w : Fin 640) (hb : 64 * (p.val % 128 / 64) ≤ w.val ∧ w.val < 64 * (p.val % 128 / 64) + 576) :
    biasAt rb g p w = rb ⟨g.val * 4 + p.val / 128, by omega⟩ ⟨min 256 (640 + p.val % 128 - w.val), by omega⟩ * (lg : EReal) := if_pos hb

variable (m : (ℓ : Loc nD τ sig) → Buf (Elt Ideal) ℓ) (c : Dev nD) (t : Fin cfg0.N) (h : t.val < 64)

/-- One block of a tile's attention is the layer's. -/
theorem block_at (a : Fin 4) (g : Fin 2) (q : FVec Ideal S128x256 .bf16) (kb vb : Vec Ideal S640x256 .bf16) (bias : Vec Ideal S1x512x640 .f32) (lim : BitVec 32)
    (hq : ∀ r x, q (ix2 r x) = (tileAt m c t).q (ix2 ⟨128 * a.val + r.val, by omega⟩ ⟨256 * g.val + x.val, by omega⟩))
    (hk : ∀ w x, kb (ix2 w x) = ring (kPrev m c t) (tileAt m c t).kNew (ix2 ⟨128 * a.val + w.val, by omega⟩ ⟨256 * g.val + x.val, by omega⟩))
    (hv : ∀ w x, vb (ix2 w x) = ring (vPrev m c t) (tileAt m c t).vNew (ix2 ⟨128 * a.val + w.val, by omega⟩ ⟨256 * g.val + x.val, by omega⟩))
    (hb : ∀ p w, bias (ix3 0 p w) = biasAt (kLayer m c).rb g p w)
    (hl : lim.toInt = 512 - (512 * (t.val % 16 : ℕ) + 128 * a.val : Int)) (r : Fin 128) (e : Fin 256) :
    attBlock q kb vb bias lim (ix2 r e) = (kLayer m c).att (tb t h) (tr t ⟨128 * a.val + r.val, by omega⟩) ⟨256 * g.val + e.val, by omega⟩ := by
  rw [attBlock_apply]
  unfold Layer.att
  refine soft2_eq_soft _ _ _ _ (fun w : Fin 640 => 512 ≤ 512 * (t.val % 16) + 128 * a.val + w.val ∧ 64 * (r.val / 64) ≤ w.val ∧ w.val < 64 * (r.val / 64) + 576)
    (fun w => ⟨512 * (t.val % 16) + (128 * a.val + w.val) - 512, by omega⟩) ?_ ?_ ?_ ?_ ?_
  · intro w w' hw hw' hww
    have := congrArg Fin.val hww
    simp only [] at this
    exact Fin.ext (by omega)
  · intro w ⟨h1, h2⟩
    have hlw : lim.toInt ≤ w.val := by rw [hl]; omega
    unfold scoreAt Layer.S
    rw [if_pos hlw, hb, biasAt_pos _ g _ w (show 64 * ((128 * (e.val / 64) + r.val) % 128 / 64) ≤ w.val ∧ w.val < 64 * ((128 * (e.val / 64) + r.val) % 128 / 64) + 576 by omega)]
    refine Eq.trans ?_ (congrArg ((lg : EReal) * ·) (if_pos (show (512 * (t.val % 16) + (128 * a.val + w.val) - 512) / 64 ≤ (512 * (t.val % 16) + (128 * a.val + r.val)) / 64 ∧ (512 * (t.val % 16) + (128 * a.val + r.val)) / 64 ≤ (512 * (t.val % 16) + (128 * a.val + w.val) - 512) / 64 + 8 by omega)).symm)
    refine Eq.trans ?_ (score_scale _ _ _)
    refine congrArg₂ (· + ·) (Finset.sum_congr rfl fun d _ => congrArg₂ (· * ·) ?_ ?_) (congrArg (· * (lg : EReal)) ?_)
    · rw [hq, q_at m c t h]
      exact congrArg (fun o => (kLayer m c).z _ _ o * _) (Fin.ext (show 256 * g.val + (64 * (e.val / 64) + d.val) = 64 * ((256 * g.val + e.val) / 64) + d.val by omega))
    · rw [hk, kRing_at m c t h _ _ (by simp only []; omega)]
      exact congrArg (fun o => (kLayer m c).z _ _ o) (Fin.ext (show 512 + (256 * g.val + (64 * (e.val / 64) + d.val)) = 512 + (64 * ((256 * g.val + e.val) / 64) + d.val) by omega))
    · exact congrArg₂ (kLayer m c).rb (Fin.ext (show g.val * 4 + (128 * (e.val / 64) + r.val) / 128 = (256 * g.val + e.val) / 64 by omega))
        (Fin.ext (show min 256 (640 + (128 * (e.val / 64) + r.val) % 128 - w.val) = min 256 (512 * (t.val % 16) + (128 * a.val + r.val) + 128 - (512 * (t.val % 16) + (128 * a.val + w.val) - 512)) by omega))
  · intro w ⟨h1, _⟩
    rw [hv, vRing_at m c t h _ _ (by simp only []; omega)]
  · intro w hw
    unfold scoreAt
    by_cases hlw : lim.toInt ≤ w.val
    · rw [if_pos hlw, hb, biasAt, if_neg, EReal.add_bot]
      rw [hl] at hlw
      intro hb'
      simp only [] at hb'
      exact hw (by omega)
    · rw [if_neg hlw]
  · intro j hj
    unfold Layer.S
    refine if_neg fun hc => ?_
    have hc' : j.val / 64 ≤ (512 * (t.val % 16) + (128 * a.val + r.val)) / 64 ∧ (512 * (t.val % 16) + (128 * a.val + r.val)) / 64 ≤ j.val / 64 + 8 := hc
    exact hj ⟨j.val + 512 - (512 * (t.val % 16) + 128 * a.val), by omega⟩ (by simp only []; omega) (Fin.ext (by simp only []; omega))

/-- A tile's attention is the layer's. -/
theorem att_at (r e : Fin 512) :
    (tileAt m c t).att (grid0.coords t) (kPrev m c t) (vPrev m c t) (ix2 r e) = (kLayer m c).att (tb t h) (tr t r) e := by
  unfold Tile.att
  refine View.canon_eq_of_allAt _ _ _ (att_cover _ _ _ _ _ _ _ _ _) ?_
  unfold attPieces attStores
  have key : ∀ (a : Fin 4) (g : Fin 2) (a' g' : ℕ) (_ : a' = 128 * a.val) (_ : g' = 256 * g.val) (lim : BitVec 32) (_ : lim = BitVec.ofNat 32 (128 * a.val))
      (hs : S512x512.Slices ![a', g'] S128x256) (hr : ∀ k, (![a', g'] : Fin 2 → ℕ) k + S640x256.size k ≤ S1024x512.size k) (bias : Vec Ideal S1x512x640 .f32)
      (_ : ∀ p w, bias (ix3 0 p w) = biasAt (kLayer m c).rb g p w),
      View.TileAt (S := S512x512) (Val := Elt Ideal) (e := .bf16) (ix2 r e) ![a', g'] S128x256.size
        (attBlock (extractStridedSlice S128x256 ![a', g'] (tileAt m c t).q hs)
          (fun y => ring (kPrev m c t) (tileAt m c t).kNew ((Rect.unit (s := S1024x512) ![a', g'] S640x256.size hr).toLoadRect.idx y))
          (fun y => ring (vPrev m c t) (tileAt m c t).vNew ((Rect.unit (s := S1024x512) ![a', g'] S640x256.size hr).toLoadRect.idx y)) bias (limOf (grid0.coords t) lim))
        ((kLayer m c).att (tb t h) (tr t r) e) := by
    intro a g a' g' ha hg lim hlim hs hr bias hb x hx
    subst ha hg hlim
    have h0 : r.val = 128 * a.val + (x 0).val := hx 0
    have h1 : e.val = 256 * g.val + (x 1).val := hx 1
    have hl := lim_at t a
    have ex : x = ix2 (x 0) (x 1) := by
      funext i
      match i with
      | ⟨0, _⟩ => rfl
      | ⟨1, _⟩ => rfl
    rw [ex]
    refine (block_at m c t h a g _ _ _ bias _ (fun r x => ?_) (fun w x => ?_) (fun w x => ?_) hb hl (x 0) (x 1)).trans ?_
    · pointwise []
    · refine congrArg (ring _ _) (funext fun i => ?_)
      match i with
      | ⟨0, _⟩ => exact Fin.ext (show 128 * a.val + 1 * w.val = 128 * a.val + w.val by omega)
      | ⟨1, _⟩ => exact Fin.ext (show 256 * g.val + 1 * x.val = 256 * g.val + x.val by omega)
    · refine congrArg (ring _ _) (funext fun i => ?_)
      match i with
      | ⟨0, _⟩ => exact Fin.ext (show 128 * a.val + 1 * w.val = 128 * a.val + w.val by omega)
      | ⟨1, _⟩ => exact Fin.ext (show 256 * g.val + 1 * x.val = 256 * g.val + x.val by omega)
    · exact congrArg₂ (fun r e => (kLayer m c).att (tb t h) (tr t r) e) (Fin.ext h0.symm) (Fin.ext h1.symm)
  refine View.allAt_cons_unit _ _ _ _ _ (key 3 1 _ _ rfl rfl _ rfl _ _ _ (b1_at m c t)) ?_
  refine View.allAt_cons_unit _ _ _ _ _ (key 3 0 _ _ rfl rfl _ rfl _ _ _ (b0_at m c t)) ?_
  refine View.allAt_cons_unit _ _ _ _ _ (key 2 1 _ _ rfl rfl _ rfl _ _ _ (b1_at m c t)) ?_
  refine View.allAt_cons_unit _ _ _ _ _ (key 2 0 _ _ rfl rfl _ rfl _ _ _ (b0_at m c t)) ?_
  refine View.allAt_cons_unit _ _ _ _ _ (key 1 1 _ _ rfl rfl _ rfl _ _ _ (b1_at m c t)) ?_
  refine View.allAt_cons_unit _ _ _ _ _ (key 1 0 _ _ rfl rfl _ rfl _ _ _ (b0_at m c t)) ?_
  refine View.allAt_cons_unit _ _ _ _ _ (key 0 1 _ _ rfl rfl _ rfl _ _ _ (b1_at m c t)) ?_
  refine View.allAt_cons_unit _ _ _ _ _ (key 0 0 _ _ rfl rfl _ rfl _ _ _ (b0_at m c t)) ?_
  exact View.allAt_nil _ _
end Cert.Value

end
-- ==== Proof.Value.Mix.lean ====
module

public import proofs.«01_k».proof.Proof.Value.Att

/-! A tile's output rows are the layer's, and so is the array the launch leaves. -/

@[expose] public section

set_option maxRecDepth 16384

noncomputable section

namespace Cert.Value
open Idealize.ShloMosaic Idealize.ShloMosaic.TcCoe Idealize.ShloMosaic.Tactic
open Cert.KernelIdeal Cert.KernelIdeal.Gen Cert.KernelIdeal.Hand
open scoped BigOperators

theorem sigm_apply (g : FVec Ideal S512x1024 .f32) (r : Fin 512) (n : Fin 1024) : Tile.sigm g (ix2 r n) = sg (g (ix2 r n)) := by
  unfold Tile.sigm sg
  rw [← zero_sub]
  pointwise []

theorem proj_apply (a : FVec Ideal S512x512 .bf16) (w : Vec Ideal S512x1024 .bf16) (r : Fin 512) (n : Fin 1024) :
    Tile.proj a w (ix2 r n) = ∑ e : Fin 512, a (ix2 r e) * w (ix2 e n) := by
  unfold Tile.proj
  pointwise []

theorem mixed_apply (T : Tile Ideal) (att : FVec Ideal S512x512 .bf16) (p : Vec Ideal S8x512 .f32) (r : Fin 512) (n : Fin 1024) :
    T.mixed att p (ix2 r n) = sg (T.gates (ix2 r ⟨n.val, by omega⟩)) * (∑ e : Fin 512, att (ix2 r e) * T.wpa (ix2 e n))
      + sg (T.gates (ix2 r ⟨1024 + n.val, by omega⟩)) * (∑ e : Fin 512, T.conv p (ix2 r e) * T.wpb (ix2 e n)) := by
  unfold Tile.mixed
  rw [← proj_apply, ← proj_apply]
  pointwise []
  rw [sigm_apply, sigm_apply]
  pointwise []

theorem x1_apply (T : Tile Ideal) (att : FVec Ideal S512x512 .bf16) (p : Vec Ideal S8x512 .f32) (r : Fin 512) (n : Fin 1024) :
    T.x1 att p (ix2 r n) = T.x (ix3 0 r n) + T.gt (ix3 0 0 n) * ∑ k : Fin 1024, T.mixed att p (ix2 r k) * T.wo (ix2 k n) := by
  unfold Tile.x1 k0_pay17 k0_pay14
  pointwise []

theorem first_rows : ∀ (n : Fin 3) (r : Fin 8), IntOp.cmpi CmpIPredicate.slt (BitVec.ofNat 32 r.val) (BitVec.ofNat 32 n.val) = if r.val < n.val then 1#1 else 0#1 := by decide +kernel

/-- The tile's rows moved down by `n`, the first of them from the rows before the tile. -/
theorem moved (p : Vec Ideal S8x512 .f32) (u : FVec Ideal S512x512 .f32) (n : Fin 3) (r e : Fin 512) :
    (if h : r.val < 8 then
        Scalar.select (IntOp.cmpi CmpIPredicate.slt (BitVec.ofNat 32 r.val) (BitVec.ofNat 32 n.val)) (p (ix2 ⟨(r.val + 8 - n.val) % 8, by omega⟩ e))
          (u (ix2 ⟨(r.val + 512 - n.val) % 512, by omega⟩ e))
      else u (ix2 ⟨(8 + (r.val - 8) + 512 - n.val) % 512, by omega⟩ e))
      = if h : r.val < n.val then p (ix2 ⟨8 + r.val - n.val, by omega⟩ e) else u (ix2 ⟨r.val - n.val, by omega⟩ e) := by
  by_cases h8 : r.val < 8
  · rw [dif_pos h8, first_rows n ⟨r.val, h8⟩, select_if]
    by_cases hn : r.val < n.val
    · rw [if_pos hn, dif_pos hn]
      exact congrArg (fun k => p (ix2 k e)) (Fin.ext (show (r.val + 8 - n.val) % 8 = 8 + r.val - n.val by omega))
    · rw [if_neg hn, dif_neg hn]
      exact congrArg (fun k => u (ix2 k e)) (Fin.ext (show (r.val + 512 - n.val) % 512 = r.val - n.val by omega))
  · rw [dif_neg h8, dif_neg (by omega)]
    exact congrArg (fun k => u (ix2 k e)) (Fin.ext (show (8 + (r.val - 8) + 512 - n.val) % 512 = r.val - n.val by omega))

/-- A row of the convolution's input some rows before. -/
def before (p : Vec Ideal S8x512 .f32) (u : FVec Ideal S512x512 .f32) (n : Fin 3) (r e : Fin 512) : EReal :=
  if h : r.val < n.val then p (ix2 ⟨8 + r.val - n.val, by omega⟩ e) else u (ix2 ⟨r.val - n.val, by omega⟩ e)

theorem conv_apply (T : Tile Ideal) (p : Vec Ideal S8x512 .f32) (r e : Fin 512) :
    T.conv p (ix2 r e) = (∑ j : Fin 1024, T.hid (ix2 r j) * T.wc (ix2 j ⟨e.val, by omega⟩))
      * (T.cw0 (ix2 0 e) * before p T.u 2 r e + T.cw1 (ix2 0 e) * before p T.u 1 r e + T.cw2 (ix2 0 e) * T.u (ix2 r e) + T.cb (ix2 0 e)) := by
  unfold before
  rw [← moved, ← moved]
  unfold Tile.conv k0_pay181
  pointwise []

variable (m : (ℓ : Loc nD τ sig) → Buf (Elt Ideal) ℓ) (c : Dev nD) (t : Fin cfg0.N) (h : t.val < 64)

theorem before_at (n : Fin 3) (r e : Fin 512) :
    before (uPrev m c t) (tileAt m c t).u n r e = (kLayer m c).ub n.val (tb t h) (tr t r) e := by
  unfold before Layer.ub
  have hv : (tr t r).val = 512 * (t.val % 16) + r.val := rfl
  by_cases hn : r.val < n.val
  · rw [dif_pos hn]
    by_cases h0 : t.val % 16 = 0
    · rw [if_pos (by omega), uPrev, if_pos h0]
      unfold k0_pay8
      pointwise []
    · have hp : (pred t).val = t.val - 1 := rfl
      rw [if_neg (by omega), uPrev, if_neg h0]
      have e8 : ∀ k : Fin 8, (tileAt m c (pred t)).u8 (ix2 k e) = (tileAt m c (pred t)).u (ix2 ⟨504 + k.val, by omega⟩ e) := fun k => by
        unfold Tile.u8
        pointwise []
      rw [e8, u_at m c (pred t) (by omega)]
      exact congrArg₂ (fun b i => (kLayer m c).u b i e) (Fin.ext (show (t.val - 1) / 16 = t.val / 16 by omega))
        (Fin.ext (show 512 * ((t.val - 1) % 16) + (504 + (8 + r.val - n.val)) = 512 * (t.val % 16) + r.val - n.val by omega))
  · rw [dif_neg hn, if_neg (by omega), u_at m c t h]
    exact congrArg (fun i => (kLayer m c).u _ i e) (Fin.ext (show 512 * (t.val % 16) + (r.val - n.val) = 512 * (t.val % 16) + r.val - n.val by omega))

theorem conv_at (r e : Fin 512) : (tileAt m c t).conv (uPrev m c t) (ix2 r e) = (kLayer m c).conv (tb t h) (tr t r) e := by
  rw [conv_apply, before_at m c t h, before_at m c t h, u_at m c t h, cw0_at, cw1_at, cw2_at, cb_at]
  unfold Layer.conv
  refine congrArg₂ (· * ·) ?_ rfl
  unfold Layer.z
  refine Finset.sum_congr rfl fun j _ => ?_
  rw [hid_at m c t h, wc_at]

theorem mixed_at (r : Fin 512) (n : Fin 1024) :
    (tileAt m c t).mixed ((tileAt m c t).att (grid0.coords t) (kPrev m c t) (vPrev m c t)) (uPrev m c t) (ix2 r n) = (kLayer m c).mixed (tb t h) (tr t r) n := by
  rw [mixed_apply, gates_at m c t h, gates_at m c t h]
  unfold Layer.mixed
  refine congrArg₂ (· + ·) (congrArg₂ (· * ·) ?_ (Finset.sum_congr rfl fun e _ => ?_)) (congrArg₂ (· * ·) ?_ (Finset.sum_congr rfl fun e _ => ?_))
  · exact congrArg (fun o => sg ((kLayer m c).z _ _ o)) (Fin.ext rfl)
  · rw [att_at m c t h, wpa_at]
  · exact congrArg (fun o => sg ((kLayer m c).z _ _ o)) (Fin.ext (show 3072 + (1024 + n.val) = 4096 + n.val by omega))
  · rw [conv_at m c t h, wpb_at]

theorem x1_at (r : Fin 512) (n : Fin 1024) : x1At m c t (ix3 0 r n) = (kLayer m c).x1 (tb t h) (tr t r) n := by
  have e : x1At m c t (ix3 0 r n) = (tileAt m c t).x1 ((tileAt m c t).att (grid0.coords t) (kPrev m c t) (vPrev m c t)) (uPrev m c t) (ix2 r n) := by
    unfold x1At Tile.x1Out
    pointwise []
  rw [e, x1_apply, x_at m c t h, gt_at m c t h]
  unfold Layer.x1
  refine congrArg (fun s => (kLayer m c).x (tb t h) (tr t r) n + (kLayer m c).md (tb t h) 2 n * s) (Finset.sum_congr rfl fun k _ => ?_)
  rw [mixed_at m c t h, wo_at]

theorem flush13 : ∀ t : Fin cfg0.N, (cfg0.win 13).flush t = true → (tl t).val < 64 ∧ win0_13.index t = ![(tl t).val / 16, (tl t).val % 16, 0] := by decide +kernel

def xRows : FVec Ideal S4x8192x1024 .f32 := fun i => (kLayer m c).x1 (i 0) (i 1) (i 2)

theorem final13 : (dats m 0 c).arrAt 13 cfg0.N = xRows m c := by
  refine (dats m 0 c).arrAt_eq_of_covers 13 _ (by decide +kernel) fun t hf y => ?_
  obtain ⟨h, hi⟩ := flush13 t hf
  blk_simp
  rw [after0_13]
  have e : (win0_13.blk t).view.emb y = ix3 (tb (tl t) h) (tr (tl t) (y 1)) (y 2) := by
    blk_ext [hi]
    all_goals first | rfl | exact (congrArg (· + (y 1).val) (Nat.mul_comm _ _))
  rw [e]
  have ey : y = ix3 0 (y 1) (y 2) := by
    funext i
    match i with
    | ⟨0, _⟩ => exact Subsingleton.elim (α := Fin 1) _ _
    | ⟨1, _⟩ => rfl
    | ⟨2, _⟩ => rfl
  refine (congrArg (x1At m c (tl t)) ey).trans ?_
  exact x1_at m c (tl t) h (y 1) (y 2)
end Cert.Value

end
-- ==== Proof.Value.Algebraic.lean ====
module

public import proofs.«01_k».proof.Defs
public import proofs.«01_k».proof.Proof.Ideal.Frame
public import proofs.«01_k».proof.Proof.Value.RefRows
public import proofs.«01_k».proof.Proof.Value.Tails
public import proofs.«01_k».proof.Proof.Value.Mix

/-! The kernel and the reference end with equal results: each result array is the layer's, and the two layers are
read from equal arguments. -/

@[expose] public section

set_option maxRecDepth 16384

noncomputable section

namespace Cert.Value
open Idealize.ShloMosaic Idealize.ShloMosaic.TcCoe Idealize.ShloMosaic.Tactic Idealize.SL.Sem

section Kernel
open Cert.KernelIdeal Cert.KernelIdeal.Gen Cert.KernelIdeal.Hand
variable (m : (ℓ : Loc nD τ sig) → Buf (Elt Ideal) ℓ) (ρ : Dev nD → PrngReg)

/-- The kernel's result arrays when the run has ended. -/
theorem results : θ_run (defs (F := Ideal)) (onTc (τ := τ) (main (F := Ideal))) ⟨m, fun _ => 0, ρ⟩ (fun r => ∀ c : Dev nD,
      r.2.mem ((c.tc : Thread nD τ).loc main_v63_0) = xRows m c
      ∧ r.2.mem ((c.tc : Thread nD τ).loc main_v63_2) = kTail m c
      ∧ r.2.mem ((c.tc : Thread nD τ).loc main_v63_3) = vTail m c
      ∧ r.2.mem ((c.tc : Thread nD τ).loc main_v63_4) = uTail m c) :=
  (θ_run defs _ _).mono (fun _ h c =>
    ⟨((Pipeline.Dat.toRForget_arrAt_iff (dat := dats m 0 c) (fgt := forgets0) rfl _ _).1 ((h c).1 13)).trans (final13 m c),
     ((Pipeline.Dat.toRForget_arrAt_iff (dat := dats m 0 c) (fgt := forgets0) rfl _ _).1 ((h c).1 15)).trans (final15 m c),
     ((Pipeline.Dat.toRForget_arrAt_iff (dat := dats m 0 c) (fgt := forgets0) rfl _ _).1 ((h c).1 16)).trans (final16 m c),
     ((Pipeline.Dat.toRForget_arrAt_iff (dat := dats m 0 c) (fgt := forgets0) rfl _ _).1 ((h c).1 17)).trans (final17 m c)⟩) (run_main m ρ)

end Kernel

section Reference
open Cert.ReferenceIdeal Cert.ReferenceIdeal.Gen Cert.ReferenceIdeal.Value
variable (V : Valuation τ sig (Elt Ideal))

theorem ref_k (L : Layer) (hL : Ref.rLayer V = L) :
    (extractStridedSlice S4x512x512 ![0, 7680, 0] (res_main_v29 V : FVec Ideal S4x8192x512 .f32) slices_S4x8192x512_S4x512x512_0_7680_0 : FVec Ideal S4x512x512 .f32)
      = rowsFrom (fun b i (e : Fin 512) => L.z b i ⟨512 + e.val, by omega⟩) 7680 (by omega) := by
  subst hL
  funext i
  refine Eq.trans ?_ (Ref.k_at V (i 0) ⟨7680 + (i 1).val, lt_of_lt_of_le (Nat.add_lt_add_left (i 1).isLt 7680) (by decide)⟩ (i 2))
  generalize (res_main_v29 V : FVec Ideal S4x8192x512 .f32) = X
  pointwise []

theorem ref_v (L : Layer) (hL : Ref.rLayer V = L) :
    (extractStridedSlice S4x512x512 ![0, 7680, 0] (res_main_v30 V : FVec Ideal S4x8192x512 .f32) slices_S4x8192x512_S4x512x512_0_7680_0 : FVec Ideal S4x512x512 .f32)
      = rowsFrom (fun b i (e : Fin 512) => L.z b i ⟨1024 + e.val, by omega⟩) 7680 (by omega) := by
  subst hL
  funext i
  refine Eq.trans ?_ (Ref.v_at V (i 0) ⟨7680 + (i 1).val, lt_of_lt_of_le (Nat.add_lt_add_left (i 1).isLt 7680) (by decide)⟩ (i 2))
  generalize (res_main_v30 V : FVec Ideal S4x8192x512 .f32) = X
  pointwise []

theorem ref_u (L : Layer) (hL : Ref.rLayer V = L) :
    (extractStridedSlice S4x8x512 ![0, 8184, 0] (res_main_v93 V : FVec Ideal S4x8192x512 .f32) slices_S4x8192x512_S4x8x512_0_8184_0 : FVec Ideal S4x8x512 .f32)
      = rowsFrom L.u 8184 (by omega) := by
  subst hL
  funext i
  refine Eq.trans ?_ (Ref.u_at V (i 0) ⟨8184 + (i 1).val, lt_of_lt_of_le (Nat.add_lt_add_left (i 1).isLt 8184) (by decide)⟩ (i 2))
  generalize (res_main_v93 V : FVec Ideal S4x8192x512 .f32) = X
  pointwise []

theorem ref_x (L : Layer) (hL : Ref.rLayer V = L) :
    Ref.refX1 V = (fun i => L.x1 (i 0) (i 1) (i 2) : FVec Ideal S4x8192x1024 .f32) := by
  subst hL
  funext i
  refine Eq.trans (congrArg (Ref.refX1 V) ?_) (Ref.x1_at V (i 0) (i 1) (i 2))
  funext k
  fin_cases k <;> rfl

end Reference

/-- Equal arguments give equal layers. -/
theorem layer_eq (m : (ℓ : Loc Cert.KernelIdeal.nD Cert.KernelIdeal.τ Cert.KernelIdeal.sig) → Buf (Elt Ideal) ℓ)
    (V : Valuation Cert.ReferenceIdeal.τ Cert.ReferenceIdeal.sig (Elt Ideal)) (c : Dev Cert.KernelIdeal.nD)
    (h0 : V (Proc.devRef .tc Cert.ReferenceIdeal.main_arg0) = a0 m c) (h1 : V (Proc.devRef .tc Cert.ReferenceIdeal.main_arg1) = a1 m c)
    (h2 : V (Proc.devRef .tc Cert.ReferenceIdeal.main_arg2) = a2 m c) (h4 : V (Proc.devRef .tc Cert.ReferenceIdeal.main_arg4) = a4 m c)
    (h5 : V (Proc.devRef .tc Cert.ReferenceIdeal.main_arg5) = a5 m c) (h6 : V (Proc.devRef .tc Cert.ReferenceIdeal.main_arg6) = a6 m c)
    (h7 : V (Proc.devRef .tc Cert.ReferenceIdeal.main_arg7) = a7 m c) (h8 : V (Proc.devRef .tc Cert.ReferenceIdeal.main_arg8) = a8 m c)
    (h9 : V (Proc.devRef .tc Cert.ReferenceIdeal.main_arg9) = a9 m c) (h10 : V (Proc.devRef .tc Cert.ReferenceIdeal.main_arg10) = a10 m c) :
    Ref.rLayer V = kLayer m c := by
  unfold Ref.rLayer kLayer
  rw [h0, h1, h2, h4, h5, h6, h7, h8, h9, h10]

/-- From equal arguments the kernel and the reference end with equal results. -/
theorem algebraic : Cert.algebraic_KernelIdeal_ReferenceIdeal := by
  intro m g m' g' _ ha
  have hL : ∀ c, Ref.rLayer (StableHlo.launchContents m' c) = kLayer m c := fun c =>
    let ⟨h0, h1, h2, _, h4, h5, h6, h7, h8, h9, h10, _⟩ := ha c
    layer_eq m _ c h0 h1 h2 h4 h5 h6 h7 h8 h9 h10
  refine ⟨fun c => xRows m c, fun c => kTail m c, fun c => vTail m c, fun c => uTail m c, ?_, ?_⟩
  · exact (θ_run _ _ _).mono (fun _ h c => ⟨(h.1 c).1, (h.1 c).2.1, (h.1 c).2.2.1, (h.1 c).2.2.2, h.2 c⟩)
      (θ_run_and (results m g) (Cert.KernelIdeal.Hand.unchanged m g))
  · exact (θ_run _ _ _).mono (fun _ h c =>
      ⟨(h c).1.trans (ref_x _ _ (hL c)), (h c).2.1.trans (ref_k _ _ (hL c)), (h c).2.2.1.trans (ref_v _ _ (hL c)),
        (h c).2.2.2.1.trans (ref_u _ _ (hL c)), (h c).2.2.2.2⟩)
      (Cert.ReferenceIdeal.Value.run m' g')

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bits.Frame
public import proofs.«01_k».proof.Proof.Ideal.Frame
public import proofs.«01_k».proof.Proof.RefFrame
public import proofs.«01_k».proof.Proof.Value.Algebraic
public import Idealize.ShloMosaic.Adequacy
public import Idealize.ShloMosaic.Init

/-! The claims about the prompt call: each program runs, leaves what it must unchanged and ends with every counter at
zero, the kernel with its named constants is the kernel as printed, and from equal arguments the kernel and the
reference end with equal results. -/

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  ⟨fun m g _ => Cert.Kernel.Hand.frame m g, fun m g _ => Cert.KernelIdeal.Hand.frame m g,
    fun m g _ => Cert.ReferenceIdeal.Hand.frame m g, Cert.KernelIdeal.Hand.preserves,
    Cert.Value.algebraic⟩⟩

end Cert.Proof

end
